-- ==== Defs.lean ====
def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_ADx (m : (ℓ : Loc Cert.ADx.nD Cert.ADx.τ Cert.ADx.sig) → Buf (Elt Bits) ℓ) : Prop :=
  True

def Pre_ADxIdeal (m : (ℓ : Loc Cert.ADxIdeal.nD Cert.ADxIdeal.τ Cert.ADxIdeal.sig) → Buf (Elt Ideal) ℓ) : Prop :=
  True

def Pre_ADxRefIdeal (m : (ℓ : Loc Cert.ADxRefIdeal.nD Cert.ADxRefIdeal.τ Cert.ADxRefIdeal.sig) → Buf (Elt Ideal) ℓ) : Prop :=
  True

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_MixLnIdeal_finite_products [hPre_finite_products : Cert.Pre_finite_products.Facts] (m : (ℓ : Loc Cert.MixLnIdeal.nD Cert.MixLnIdeal.τ Cert.MixLnIdeal.sig) → Buf (Elt Ideal) ℓ) : Prop :=
  ∀ c : Dev Cert.MixLnIdeal.nD,
    (Cert.Pre_finite_products.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5))) = (fun _ => 1#1)

def Pre_MixLnRefIdeal (m : (ℓ : Loc Cert.MixLnRefIdeal.nD Cert.MixLnRefIdeal.τ Cert.MixLnRefIdeal.sig) → Buf (Elt Ideal) ℓ) : Prop :=
  True

def Pre_MixLnRefIdeal_finite_products [hPre_finite_products : Cert.Pre_finite_products.Facts] (m : (ℓ : Loc Cert.MixLnRefIdeal.nD Cert.MixLnRefIdeal.τ Cert.MixLnRefIdeal.sig) → Buf (Elt Ideal) ℓ) : Prop :=
  ∀ c : Dev Cert.MixLnRefIdeal.nD,
    (Cert.Pre_finite_products.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5))) = (fun _ => 1#1)

def Pre_BDx (m : (ℓ : Loc Cert.BDx.nD Cert.BDx.τ Cert.BDx.sig) → Buf (Elt Bits) ℓ) : Prop :=
  True

def Pre_BDxIdeal (m : (ℓ : Loc Cert.BDxIdeal.nD Cert.BDxIdeal.τ Cert.BDxIdeal.sig) → Buf (Elt Ideal) ℓ) : Prop :=
  True

def Pre_BDxRefIdeal (m : (ℓ : Loc Cert.BDxRefIdeal.nD Cert.BDxRefIdeal.τ Cert.BDxRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_ADwIn (m : (ℓ : Loc Cert.ADwIn.nD Cert.ADwIn.τ Cert.ADwIn.sig) → Buf (Elt Bits) ℓ) : Prop :=
  True

def Pre_ADwInIdeal (m : (ℓ : Loc Cert.ADwInIdeal.nD Cert.ADwInIdeal.τ Cert.ADwInIdeal.sig) → Buf (Elt Ideal) ℓ) : Prop :=
  True

def Pre_ADwInRefIdeal (m : (ℓ : Loc Cert.ADwInRefIdeal.nD Cert.ADwInRefIdeal.τ Cert.ADwInRefIdeal.sig) → Buf (Elt Ideal) ℓ) : Prop :=
  True

def Pre_BDwIn (m : (ℓ : Loc Cert.BDwIn.nD Cert.BDwIn.τ Cert.BDwIn.sig) → Buf (Elt Bits) ℓ) : Prop :=
  True

def Pre_BDwInIdeal (m : (ℓ : Loc Cert.BDwInIdeal.nD Cert.BDwInIdeal.τ Cert.BDwInIdeal.sig) → Buf (Elt Ideal) ℓ) : Prop :=
  True

def Pre_BDwInRefIdeal (m : (ℓ : Loc Cert.BDwInRefIdeal.nD Cert.BDwInRefIdeal.τ Cert.BDwInRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_finite_ffn_products [hPre_finite_ffn_products : Cert.Pre_finite_ffn_products.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_finite_ffn_products.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_finite_ffn_products [hPre_finite_ffn_products : Cert.Pre_finite_ffn_products.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_finite_ffn_products.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4))) = (fun _ => 1#1)

def Pre_OptLn (m : (ℓ : Loc Cert.OptLn.nD Cert.OptLn.τ Cert.OptLn.sig) → Buf (Elt Bits) ℓ) : Prop :=
  True

def Pre_OptLnIdeal (m : (ℓ : Loc Cert.OptLnIdeal.nD Cert.OptLnIdeal.τ Cert.OptLnIdeal.sig) → Buf (Elt Ideal) ℓ) : Prop :=
  True

def Pre_OptLnRefIdeal (m : (ℓ : Loc Cert.OptLnRefIdeal.nD Cert.OptLnRefIdeal.τ Cert.OptLnRefIdeal.sig) → Buf (Elt Ideal) ℓ) : Prop :=
  True

def Pre_OptFfn (m : (ℓ : Loc Cert.OptFfn.nD Cert.OptFfn.τ Cert.OptFfn.sig) → Buf (Elt Bits) ℓ) : Prop :=
  True

def Pre_OptFfnIdeal (m : (ℓ : Loc Cert.OptFfnIdeal.nD Cert.OptFfnIdeal.τ Cert.OptFfnIdeal.sig) → Buf (Elt Ideal) ℓ) : Prop :=
  True

def Pre_OptFfnRefIdeal (m : (ℓ : Loc Cert.OptFfnRefIdeal.nD Cert.OptFfnRefIdeal.τ Cert.OptFfnRefIdeal.sig) → Buf (Elt Ideal) ℓ) : Prop :=
  True

def Pre_OptIn (m : (ℓ : Loc Cert.OptIn.nD Cert.OptIn.τ Cert.OptIn.sig) → Buf (Elt Bits) ℓ) : Prop :=
  True

def Pre_OptInIdeal (m : (ℓ : Loc Cert.OptInIdeal.nD Cert.OptInIdeal.τ Cert.OptInIdeal.sig) → Buf (Elt Ideal) ℓ) : Prop :=
  True

def Pre_OptInRefIdeal (m : (ℓ : Loc Cert.OptInRefIdeal.nD Cert.OptInRefIdeal.τ Cert.OptInRefIdeal.sig) → Buf (Elt Ideal) ℓ) : Prop :=
  True

def Pre_OptLb (m : (ℓ : Loc Cert.OptLb.nD Cert.OptLb.τ Cert.OptLb.sig) → Buf (Elt Bits) ℓ) : Prop :=
  True

def Pre_OptLbIdeal (m : (ℓ : Loc Cert.OptLbIdeal.nD Cert.OptLbIdeal.τ Cert.OptLbIdeal.sig) → Buf (Elt Ideal) ℓ) : Prop :=
  True

def Pre_OptLbRefIdeal (m : (ℓ : Loc Cert.OptLbRefIdeal.nD Cert.OptLbRefIdeal.τ Cert.OptLbRefIdeal.sig) → Buf (Elt Ideal) ℓ) : Prop :=
  True

def Pre_OptOut (m : (ℓ : Loc Cert.OptOut.nD Cert.OptOut.τ Cert.OptOut.sig) → Buf (Elt Bits) ℓ) : Prop :=
  True

def Pre_OptOutIdeal (m : (ℓ : Loc Cert.OptOutIdeal.nD Cert.OptOutIdeal.τ Cert.OptOutIdeal.sig) → Buf (Elt Ideal) ℓ) : Prop :=
  True

def Pre_OptOutRefIdeal (m : (ℓ : Loc Cert.OptOutRefIdeal.nD Cert.OptOutRefIdeal.τ Cert.OptOutRefIdeal.sig) → Buf (Elt Ideal) ℓ) : Prop :=
  True

def Pre_OptPw1 (m : (ℓ : Loc Cert.OptPw1.nD Cert.OptPw1.τ Cert.OptPw1.sig) → Buf (Elt Bits) ℓ) : Prop :=
  True

def Pre_OptPw1Ideal (m : (ℓ : Loc Cert.OptPw1Ideal.nD Cert.OptPw1Ideal.τ Cert.OptPw1Ideal.sig) → Buf (Elt Ideal) ℓ) : Prop :=
  True

def Pre_OptPw1RefIdeal (m : (ℓ : Loc Cert.OptPw1RefIdeal.nD Cert.OptPw1RefIdeal.τ Cert.OptPw1RefIdeal.sig) → Buf (Elt Ideal) ℓ) : Prop :=
  True

def Pre_OptBias (m : (ℓ : Loc Cert.OptBias.nD Cert.OptBias.τ Cert.OptBias.sig) → Buf (Elt Bits) ℓ) : Prop :=
  True

def Pre_OptBiasIdeal (m : (ℓ : Loc Cert.OptBiasIdeal.nD Cert.OptBiasIdeal.τ Cert.OptBiasIdeal.sig) → Buf (Elt Ideal) ℓ) : Prop :=
  True

def Pre_OptBiasRefIdeal (m : (ℓ : Loc Cert.OptBiasRefIdeal.nD Cert.OptBiasRefIdeal.τ Cert.OptBiasRefIdeal.sig) → Buf (Elt Ideal) ℓ) : Prop :=
  True

def Pre_OptDw (m : (ℓ : Loc Cert.OptDw.nD Cert.OptDw.τ Cert.OptDw.sig) → Buf (Elt Bits) ℓ) : Prop :=
  True

def Pre_OptDwIdeal (m : (ℓ : Loc Cert.OptDwIdeal.nD Cert.OptDwIdeal.τ Cert.OptDwIdeal.sig) → Buf (Elt Ideal) ℓ) : Prop :=
  True

def Pre_OptDwRefIdeal (m : (ℓ : Loc Cert.OptDwRefIdeal.nD Cert.OptDwRefIdeal.τ Cert.OptDwRefIdeal.sig) → Buf (Elt Ideal) ℓ) : Prop :=
  True

def Pre_OptVec (m : (ℓ : Loc Cert.OptVec.nD Cert.OptVec.τ Cert.OptVec.sig) → Buf (Elt Bits) ℓ) : Prop :=
  True

def Pre_OptVecIdeal (m : (ℓ : Loc Cert.OptVecIdeal.nD Cert.OptVecIdeal.τ Cert.OptVecIdeal.sig) → Buf (Elt Ideal) ℓ) : Prop :=
  True

def Pre_OptVecRefIdeal (m : (ℓ : Loc Cert.OptVecRefIdeal.nD Cert.OptVecRefIdeal.τ Cert.OptVecRefIdeal.sig) → Buf (Elt Ideal) ℓ) : Prop :=
  True

def Pre_SumSq (m : (ℓ : Loc Cert.SumSq.nD Cert.SumSq.τ Cert.SumSq.sig) → Buf (Elt Bits) ℓ) : Prop :=
  True

def Pre_SumSqIdeal (m : (ℓ : Loc Cert.SumSqIdeal.nD Cert.SumSqIdeal.τ Cert.SumSqIdeal.sig) → Buf (Elt Ideal) ℓ) : Prop :=
  True

def Pre_SumSqRefIdeal (m : (ℓ : Loc Cert.SumSqRefIdeal.nD Cert.SumSqRefIdeal.τ Cert.SumSqRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumPw1 (m : (ℓ : Loc Cert.SumPw1.nD Cert.SumPw1.τ Cert.SumPw1.sig) → Buf (Elt Bits) ℓ) : Prop :=
  True

def Pre_SumPw1Ideal (m : (ℓ : Loc Cert.SumPw1Ideal.nD Cert.SumPw1Ideal.τ Cert.SumPw1Ideal.sig) → Buf (Elt Ideal) ℓ) : Prop :=
  True

def Pre_SumPw1RefIdeal (m : (ℓ : Loc Cert.SumPw1RefIdeal.nD Cert.SumPw1RefIdeal.τ Cert.SumPw1RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_ADx [hADx : Cert.ADx.Facts] : Prop :=
  ∀ (m : (ℓ : Loc Cert.ADx.nD Cert.ADx.τ Cert.ADx.sig) → Buf (Elt Bits) ℓ) (g : Dev Cert.ADx.nD → PrngReg), Pre_ADx m →
    θ_run (Cert.ADx.defs (F := Bits)) (onTc (τ := Cert.ADx.τ) (Cert.ADx.main (F := Bits))) ⟨m, fun _ => 0, g⟩ (fun r => (∀ c : Dev Cert.ADx.nD,
      r.2.mem ((c.tc : Thread Cert.ADx.nD Cert.ADx.τ).loc Cert.ADx.main_arg0) = m ((c.tc : Thread Cert.ADx.nD Cert.ADx.τ).loc Cert.ADx.main_arg0)
      ∧ r.2.mem ((c.tc : Thread Cert.ADx.nD Cert.ADx.τ).loc Cert.ADx.main_arg1) = m ((c.tc : Thread Cert.ADx.nD Cert.ADx.τ).loc Cert.ADx.main_arg1)
      ∧ r.2.mem ((c.tc : Thread Cert.ADx.nD Cert.ADx.τ).loc Cert.ADx.main_arg2) = m ((c.tc : Thread Cert.ADx.nD Cert.ADx.τ).loc Cert.ADx.main_arg2))
      ∧ r.2.sem = fun _ => 0)

def quiescent_ADxIdeal [hADxIdeal : Cert.ADxIdeal.Facts] : Prop :=
  ∀ (m : (ℓ : Loc Cert.ADxIdeal.nD Cert.ADxIdeal.τ Cert.ADxIdeal.sig) → Buf (Elt Ideal) ℓ) (g : Dev Cert.ADxIdeal.nD → PrngReg), Pre_ADxIdeal m →
    θ_run (Cert.ADxIdeal.defs (F := Ideal)) (onTc (τ := Cert.ADxIdeal.τ) (Cert.ADxIdeal.main (F := Ideal))) ⟨m, fun _ => 0, g⟩ (fun r => (∀ c : Dev Cert.ADxIdeal.nD,
      r.2.mem ((c.tc : Thread Cert.ADxIdeal.nD Cert.ADxIdeal.τ).loc Cert.ADxIdeal.main_arg0) = m ((c.tc : Thread Cert.ADxIdeal.nD Cert.ADxIdeal.τ).loc Cert.ADxIdeal.main_arg0)
      ∧ r.2.mem ((c.tc : Thread Cert.ADxIdeal.nD Cert.ADxIdeal.τ).loc Cert.ADxIdeal.main_arg1) = m ((c.tc : Thread Cert.ADxIdeal.nD Cert.ADxIdeal.τ).loc Cert.ADxIdeal.main_arg1)
      ∧ r.2.mem ((c.tc : Thread Cert.ADxIdeal.nD Cert.ADxIdeal.τ).loc Cert.ADxIdeal.main_arg2) = m ((c.tc : Thread Cert.ADxIdeal.nD Cert.ADxIdeal.τ).loc Cert.ADxIdeal.main_arg2))
      ∧ r.2.sem = fun _ => 0)

def quiescent_ADxRefIdeal [hADxRefIdeal : Cert.ADxRefIdeal.Facts] : Prop :=
  ∀ (m : (ℓ : Loc Cert.ADxRefIdeal.nD Cert.ADxRefIdeal.τ Cert.ADxRefIdeal.sig) → Buf (Elt Ideal) ℓ) (g : Dev Cert.ADxRefIdeal.nD → PrngReg), Pre_ADxRefIdeal m →
    θ_run (Cert.ADxRefIdeal.defs (F := Ideal)) (onTc (τ := Cert.ADxRefIdeal.τ) (Cert.ADxRefIdeal.main (F := Ideal))) ⟨m, fun _ => 0, g⟩ (fun r => (∀ c : Dev Cert.ADxRefIdeal.nD,
      r.2.mem ((c.tc : Thread Cert.ADxRefIdeal.nD Cert.ADxRefIdeal.τ).loc Cert.ADxRefIdeal.main_arg0) = m ((c.tc : Thread Cert.ADxRefIdeal.nD Cert.ADxRefIdeal.τ).loc Cert.ADxRefIdeal.main_arg0)
      ∧ r.2.mem ((c.tc : Thread Cert.ADxRefIdeal.nD Cert.ADxRefIdeal.τ).loc Cert.ADxRefIdeal.main_arg1) = m ((c.tc : Thread Cert.ADxRefIdeal.nD Cert.ADxRefIdeal.τ).loc Cert.ADxRefIdeal.main_arg1)
      ∧ r.2.mem ((c.tc : Thread Cert.ADxRefIdeal.nD Cert.ADxRefIdeal.τ).loc Cert.ADxRefIdeal.main_arg2) = m ((c.tc : Thread Cert.ADxRefIdeal.nD Cert.ADxRefIdeal.τ).loc Cert.ADxRefIdeal.main_arg2))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4)
      ∧ r.2.mem ((c.tc : Thread Cert.MixLn.nD Cert.MixLn.τ).loc Cert.MixLn.main_arg5) = m ((c.tc : Thread Cert.MixLn.nD Cert.MixLn.τ).loc Cert.MixLn.main_arg5))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
      ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5))
      ∧ r.2.sem = fun _ => 0)

def quiescent_MixLnIdeal_pre_finite_products [hMixLnIdeal : Cert.MixLnIdeal.Facts] [hPre_finite_products : Cert.Pre_finite_products.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal_finite_products m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
      ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5))
      ∧ r.2.sem = fun _ => 0)

def quiescent_MixLnRefIdeal [hMixLnRefIdeal : Cert.MixLnRefIdeal.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4)
      ∧ r.2.mem ((c.tc : Thread Cert.MixLnRefIdeal.nD Cert.MixLnRefIdeal.τ).loc Cert.MixLnRefIdeal.main_arg5) = m ((c.tc : Thread Cert.MixLnRefIdeal.nD Cert.MixLnRefIdeal.τ).loc Cert.MixLnRefIdeal.main_arg5))
      ∧ r.2.sem = fun _ => 0)

def quiescent_MixLnRefIdeal_pre_finite_products [hMixLnRefIdeal : Cert.MixLnRefIdeal.Facts] [hPre_finite_products : Cert.Pre_finite_products.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal_finite_products m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4)
      ∧ r.2.mem ((c.tc : Thread Cert.MixLnRefIdeal.nD Cert.MixLnRefIdeal.τ).loc Cert.MixLnRefIdeal.main_arg5) = m ((c.tc : Thread Cert.MixLnRefIdeal.nD Cert.MixLnRefIdeal.τ).loc Cert.MixLnRefIdeal.main_arg5))
      ∧ r.2.sem = fun _ => 0)

def quiescent_BDx [hBDx : Cert.BDx.Facts] : Prop :=
  ∀ (m : (ℓ : Loc Cert.BDx.nD Cert.BDx.τ Cert.BDx.sig) → Buf (Elt Bits) ℓ) (g : Dev Cert.BDx.nD → PrngReg), Pre_BDx m →
    θ_run (Cert.BDx.defs (F := Bits)) (onTc (τ := Cert.BDx.τ) (Cert.BDx.main (F := Bits))) ⟨m, fun _ => 0, g⟩ (fun r => (∀ c : Dev Cert.BDx.nD,
      r.2.mem ((c.tc : Thread Cert.BDx.nD Cert.BDx.τ).loc Cert.BDx.main_arg0) = m ((c.tc : Thread Cert.BDx.nD Cert.BDx.τ).loc Cert.BDx.main_arg0)
      ∧ r.2.mem ((c.tc : Thread Cert.BDx.nD Cert.BDx.τ).loc Cert.BDx.main_arg1) = m ((c.tc : Thread Cert.BDx.nD Cert.BDx.τ).loc Cert.BDx.main_arg1)
      ∧ r.2.mem ((c.tc : Thread Cert.BDx.nD Cert.BDx.τ).loc Cert.BDx.main_arg2) = m ((c.tc : Thread Cert.BDx.nD Cert.BDx.τ).loc Cert.BDx.main_arg2))
      ∧ r.2.sem = fun _ => 0)

def quiescent_BDxIdeal [hBDxIdeal : Cert.BDxIdeal.Facts] : Prop :=
  ∀ (m : (ℓ : Loc Cert.BDxIdeal.nD Cert.BDxIdeal.τ Cert.BDxIdeal.sig) → Buf (Elt Ideal) ℓ) (g : Dev Cert.BDxIdeal.nD → PrngReg), Pre_BDxIdeal m →
    θ_run (Cert.BDxIdeal.defs (F := Ideal)) (onTc (τ := Cert.BDxIdeal.τ) (Cert.BDxIdeal.main (F := Ideal))) ⟨m, fun _ => 0, g⟩ (fun r => (∀ c : Dev Cert.BDxIdeal.nD,
      r.2.mem ((c.tc : Thread Cert.BDxIdeal.nD Cert.BDxIdeal.τ).loc Cert.BDxIdeal.main_arg0) = m ((c.tc : Thread Cert.BDxIdeal.nD Cert.BDxIdeal.τ).loc Cert.BDxIdeal.main_arg0)
      ∧ r.2.mem ((c.tc : Thread Cert.BDxIdeal.nD Cert.BDxIdeal.τ).loc Cert.BDxIdeal.main_arg1) = m ((c.tc : Thread Cert.BDxIdeal.nD Cert.BDxIdeal.τ).loc Cert.BDxIdeal.main_arg1)
      ∧ r.2.mem ((c.tc : Thread Cert.BDxIdeal.nD Cert.BDxIdeal.τ).loc Cert.BDxIdeal.main_arg2) = m ((c.tc : Thread Cert.BDxIdeal.nD Cert.BDxIdeal.τ).loc Cert.BDxIdeal.main_arg2))
      ∧ r.2.sem = fun _ => 0)

def quiescent_BDxRefIdeal [hBDxRefIdeal : Cert.BDxRefIdeal.Facts] : Prop :=
  ∀ (m : (ℓ : Loc Cert.BDxRefIdeal.nD Cert.BDxRefIdeal.τ Cert.BDxRefIdeal.sig) → Buf (Elt Ideal) ℓ) (g : Dev Cert.BDxRefIdeal.nD → PrngReg), Pre_BDxRefIdeal m →
    θ_run (Cert.BDxRefIdeal.defs (F := Ideal)) (onTc (τ := Cert.BDxRefIdeal.τ) (Cert.BDxRefIdeal.main (F := Ideal))) ⟨m, fun _ => 0, g⟩ (fun r => (∀ c : Dev Cert.BDxRefIdeal.nD,
      r.2.mem ((c.tc : Thread Cert.BDxRefIdeal.nD Cert.BDxRefIdeal.τ).loc Cert.BDxRefIdeal.main_arg0) = m ((c.tc : Thread Cert.BDxRefIdeal.nD Cert.BDxRefIdeal.τ).loc Cert.BDxRefIdeal.main_arg0)
      ∧ r.2.mem ((c.tc : Thread Cert.BDxRefIdeal.nD Cert.BDxRefIdeal.τ).loc Cert.BDxRefIdeal.main_arg1) = m ((c.tc : Thread Cert.BDxRefIdeal.nD Cert.BDxRefIdeal.τ).loc Cert.BDxRefIdeal.main_arg1)
      ∧ r.2.mem ((c.tc : Thread Cert.BDxRefIdeal.nD Cert.BDxRefIdeal.τ).loc Cert.BDxRefIdeal.main_arg2) = m ((c.tc : Thread Cert.BDxRefIdeal.nD Cert.BDxRefIdeal.τ).loc Cert.BDxRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_ADwIn [hADwIn : Cert.ADwIn.Facts] : Prop :=
  ∀ (m : (ℓ : Loc Cert.ADwIn.nD Cert.ADwIn.τ Cert.ADwIn.sig) → Buf (Elt Bits) ℓ) (g : Dev Cert.ADwIn.nD → PrngReg), Pre_ADwIn m →
    θ_run (Cert.ADwIn.defs (F := Bits)) (onTc (τ := Cert.ADwIn.τ) (Cert.ADwIn.main (F := Bits))) ⟨m, fun _ => 0, g⟩ (fun r => (∀ c : Dev Cert.ADwIn.nD,
      r.2.mem ((c.tc : Thread Cert.ADwIn.nD Cert.ADwIn.τ).loc Cert.ADwIn.main_arg0) = m ((c.tc : Thread Cert.ADwIn.nD Cert.ADwIn.τ).loc Cert.ADwIn.main_arg0)
      ∧ r.2.mem ((c.tc : Thread Cert.ADwIn.nD Cert.ADwIn.τ).loc Cert.ADwIn.main_arg1) = m ((c.tc : Thread Cert.ADwIn.nD Cert.ADwIn.τ).loc Cert.ADwIn.main_arg1))
      ∧ r.2.sem = fun _ => 0)

def quiescent_ADwInIdeal [hADwInIdeal : Cert.ADwInIdeal.Facts] : Prop :=
  ∀ (m : (ℓ : Loc Cert.ADwInIdeal.nD Cert.ADwInIdeal.τ Cert.ADwInIdeal.sig) → Buf (Elt Ideal) ℓ) (g : Dev Cert.ADwInIdeal.nD → PrngReg), Pre_ADwInIdeal m →
    θ_run (Cert.ADwInIdeal.defs (F := Ideal)) (onTc (τ := Cert.ADwInIdeal.τ) (Cert.ADwInIdeal.main (F := Ideal))) ⟨m, fun _ => 0, g⟩ (fun r => (∀ c : Dev Cert.ADwInIdeal.nD,
      r.2.mem ((c.tc : Thread Cert.ADwInIdeal.nD Cert.ADwInIdeal.τ).loc Cert.ADwInIdeal.main_arg0) = m ((c.tc : Thread Cert.ADwInIdeal.nD Cert.ADwInIdeal.τ).loc Cert.ADwInIdeal.main_arg0)
      ∧ r.2.mem ((c.tc : Thread Cert.ADwInIdeal.nD Cert.ADwInIdeal.τ).loc Cert.ADwInIdeal.main_arg1) = m ((c.tc : Thread Cert.ADwInIdeal.nD Cert.ADwInIdeal.τ).loc Cert.ADwInIdeal.main_arg1))
      ∧ r.2.sem = fun _ => 0)

def quiescent_ADwInRefIdeal [hADwInRefIdeal : Cert.ADwInRefIdeal.Facts] : Prop :=
  ∀ (m : (ℓ : Loc Cert.ADwInRefIdeal.nD Cert.ADwInRefIdeal.τ Cert.ADwInRefIdeal.sig) → Buf (Elt Ideal) ℓ) (g : Dev Cert.ADwInRefIdeal.nD → PrngReg), Pre_ADwInRefIdeal m →
    θ_run (Cert.ADwInRefIdeal.defs (F := Ideal)) (onTc (τ := Cert.ADwInRefIdeal.τ) (Cert.ADwInRefIdeal.main (F := Ideal))) ⟨m, fun _ => 0, g⟩ (fun r => (∀ c : Dev Cert.ADwInRefIdeal.nD,
      r.2.mem ((c.tc : Thread Cert.ADwInRefIdeal.nD Cert.ADwInRefIdeal.τ).loc Cert.ADwInRefIdeal.main_arg0) = m ((c.tc : Thread Cert.ADwInRefIdeal.nD Cert.ADwInRefIdeal.τ).loc Cert.ADwInRefIdeal.main_arg0)
      ∧ r.2.mem ((c.tc : Thread Cert.ADwInRefIdeal.nD Cert.ADwInRefIdeal.τ).loc Cert.ADwInRefIdeal.main_arg1) = m ((c.tc : Thread Cert.ADwInRefIdeal.nD Cert.ADwInRefIdeal.τ).loc Cert.ADwInRefIdeal.main_arg1))
      ∧ r.2.sem = fun _ => 0)

def quiescent_BDwIn [hBDwIn : Cert.BDwIn.Facts] : Prop :=
  ∀ (m : (ℓ : Loc Cert.BDwIn.nD Cert.BDwIn.τ Cert.BDwIn.sig) → Buf (Elt Bits) ℓ) (g : Dev Cert.BDwIn.nD → PrngReg), Pre_BDwIn m →
    θ_run (Cert.BDwIn.defs (F := Bits)) (onTc (τ := Cert.BDwIn.τ) (Cert.BDwIn.main (F := Bits))) ⟨m, fun _ => 0, g⟩ (fun r => (∀ c : Dev Cert.BDwIn.nD,
      r.2.mem ((c.tc : Thread Cert.BDwIn.nD Cert.BDwIn.τ).loc Cert.BDwIn.main_arg0) = m ((c.tc : Thread Cert.BDwIn.nD Cert.BDwIn.τ).loc Cert.BDwIn.main_arg0)
      ∧ r.2.mem ((c.tc : Thread Cert.BDwIn.nD Cert.BDwIn.τ).loc Cert.BDwIn.main_arg1) = m ((c.tc : Thread Cert.BDwIn.nD Cert.BDwIn.τ).loc Cert.BDwIn.main_arg1))
      ∧ r.2.sem = fun _ => 0)

def quiescent_BDwInIdeal [hBDwInIdeal : Cert.BDwInIdeal.Facts] : Prop :=
  ∀ (m : (ℓ : Loc Cert.BDwInIdeal.nD Cert.BDwInIdeal.τ Cert.BDwInIdeal.sig) → Buf (Elt Ideal) ℓ) (g : Dev Cert.BDwInIdeal.nD → PrngReg), Pre_BDwInIdeal m →
    θ_run (Cert.BDwInIdeal.defs (F := Ideal)) (onTc (τ := Cert.BDwInIdeal.τ) (Cert.BDwInIdeal.main (F := Ideal))) ⟨m, fun _ => 0, g⟩ (fun r => (∀ c : Dev Cert.BDwInIdeal.nD,
      r.2.mem ((c.tc : Thread Cert.BDwInIdeal.nD Cert.BDwInIdeal.τ).loc Cert.BDwInIdeal.main_arg0) = m ((c.tc : Thread Cert.BDwInIdeal.nD Cert.BDwInIdeal.τ).loc Cert.BDwInIdeal.main_arg0)
      ∧ r.2.mem ((c.tc : Thread Cert.BDwInIdeal.nD Cert.BDwInIdeal.τ).loc Cert.BDwInIdeal.main_arg1) = m ((c.tc : Thread Cert.BDwInIdeal.nD Cert.BDwInIdeal.τ).loc Cert.BDwInIdeal.main_arg1))
      ∧ r.2.sem = fun _ => 0)

def quiescent_BDwInRefIdeal [hBDwInRefIdeal : Cert.BDwInRefIdeal.Facts] : Prop :=
  ∀ (m : (ℓ : Loc Cert.BDwInRefIdeal.nD Cert.BDwInRefIdeal.τ Cert.BDwInRefIdeal.sig) → Buf (Elt Ideal) ℓ) (g : Dev Cert.BDwInRefIdeal.nD → PrngReg), Pre_BDwInRefIdeal m →
    θ_run (Cert.BDwInRefIdeal.defs (F := Ideal)) (onTc (τ := Cert.BDwInRefIdeal.τ) (Cert.BDwInRefIdeal.main (F := Ideal))) ⟨m, fun _ => 0, g⟩ (fun r => (∀ c : Dev Cert.BDwInRefIdeal.nD,
      r.2.mem ((c.tc : Thread Cert.BDwInRefIdeal.nD Cert.BDwInRefIdeal.τ).loc Cert.BDwInRefIdeal.main_arg0) = m ((c.tc : Thread Cert.BDwInRefIdeal.nD Cert.BDwInRefIdeal.τ).loc Cert.BDwInRefIdeal.main_arg0)
      ∧ r.2.mem ((c.tc : Thread Cert.BDwInRefIdeal.nD Cert.BDwInRefIdeal.τ).loc Cert.BDwInRefIdeal.main_arg1) = m ((c.tc : Thread Cert.BDwInRefIdeal.nD Cert.BDwInRefIdeal.τ).loc Cert.BDwInRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1)
      ∧ r.2.mem ((c.tc : Thread Cert.BIn.nD Cert.BIn.τ).loc Cert.BIn.main_arg2) = m ((c.tc : Thread Cert.BIn.nD Cert.BIn.τ).loc Cert.BIn.main_arg2))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxIdeal_pre_finite_ffn_products [hFfnDxIdeal : Cert.FfnDxIdeal.Facts] [hPre_finite_ffn_products : Cert.Pre_finite_ffn_products.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_finite_ffn_products m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_FfnDxRefIdeal_pre_finite_ffn_products [hFfnDxRefIdeal : Cert.FfnDxRefIdeal.Facts] [hPre_finite_ffn_products : Cert.Pre_finite_ffn_products.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_finite_ffn_products m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_OptLn [hOptLn : Cert.OptLn.Facts] : Prop :=
  ∀ (m : (ℓ : Loc Cert.OptLn.nD Cert.OptLn.τ Cert.OptLn.sig) → Buf (Elt Bits) ℓ) (g : Dev Cert.OptLn.nD → PrngReg), Pre_OptLn m →
    θ_run (Cert.OptLn.defs (F := Bits)) (onTc (τ := Cert.OptLn.τ) (Cert.OptLn.main (F := Bits))) ⟨m, fun _ => 0, g⟩ (fun r => (∀ c : Dev Cert.OptLn.nD,
      r.2.mem ((c.tc : Thread Cert.OptLn.nD Cert.OptLn.τ).loc Cert.OptLn.main_arg0) = m ((c.tc : Thread Cert.OptLn.nD Cert.OptLn.τ).loc Cert.OptLn.main_arg0)
      ∧ r.2.mem ((c.tc : Thread Cert.OptLn.nD Cert.OptLn.τ).loc Cert.OptLn.main_arg1) = m ((c.tc : Thread Cert.OptLn.nD Cert.OptLn.τ).loc Cert.OptLn.main_arg1)
      ∧ r.2.mem ((c.tc : Thread Cert.OptLn.nD Cert.OptLn.τ).loc Cert.OptLn.main_arg2) = m ((c.tc : Thread Cert.OptLn.nD Cert.OptLn.τ).loc Cert.OptLn.main_arg2)
      ∧ r.2.mem ((c.tc : Thread Cert.OptLn.nD Cert.OptLn.τ).loc Cert.OptLn.main_arg3) = m ((c.tc : Thread Cert.OptLn.nD Cert.OptLn.τ).loc Cert.OptLn.main_arg3))
      ∧ r.2.sem = fun _ => 0)

def quiescent_OptLnIdeal [hOptLnIdeal : Cert.OptLnIdeal.Facts] : Prop :=
  ∀ (m : (ℓ : Loc Cert.OptLnIdeal.nD Cert.OptLnIdeal.τ Cert.OptLnIdeal.sig) → Buf (Elt Ideal) ℓ) (g : Dev Cert.OptLnIdeal.nD → PrngReg), Pre_OptLnIdeal m →
    θ_run (Cert.OptLnIdeal.defs (F := Ideal)) (onTc (τ := Cert.OptLnIdeal.τ) (Cert.OptLnIdeal.main (F := Ideal))) ⟨m, fun _ => 0, g⟩ (fun r => (∀ c : Dev Cert.OptLnIdeal.nD,
      r.2.mem ((c.tc : Thread Cert.OptLnIdeal.nD Cert.OptLnIdeal.τ).loc Cert.OptLnIdeal.main_arg0) = m ((c.tc : Thread Cert.OptLnIdeal.nD Cert.OptLnIdeal.τ).loc Cert.OptLnIdeal.main_arg0)
      ∧ r.2.mem ((c.tc : Thread Cert.OptLnIdeal.nD Cert.OptLnIdeal.τ).loc Cert.OptLnIdeal.main_arg1) = m ((c.tc : Thread Cert.OptLnIdeal.nD Cert.OptLnIdeal.τ).loc Cert.OptLnIdeal.main_arg1)
      ∧ r.2.mem ((c.tc : Thread Cert.OptLnIdeal.nD Cert.OptLnIdeal.τ).loc Cert.OptLnIdeal.main_arg2) = m ((c.tc : Thread Cert.OptLnIdeal.nD Cert.OptLnIdeal.τ).loc Cert.OptLnIdeal.main_arg2)
      ∧ r.2.mem ((c.tc : Thread Cert.OptLnIdeal.nD Cert.OptLnIdeal.τ).loc Cert.OptLnIdeal.main_arg3) = m ((c.tc : Thread Cert.OptLnIdeal.nD Cert.OptLnIdeal.τ).loc Cert.OptLnIdeal.main_arg3))
      ∧ r.2.sem = fun _ => 0)

def quiescent_OptLnRefIdeal [hOptLnRefIdeal : Cert.OptLnRefIdeal.Facts] : Prop :=
  ∀ (m : (ℓ : Loc Cert.OptLnRefIdeal.nD Cert.OptLnRefIdeal.τ Cert.OptLnRefIdeal.sig) → Buf (Elt Ideal) ℓ) (g : Dev Cert.OptLnRefIdeal.nD → PrngReg), Pre_OptLnRefIdeal m →
    θ_run (Cert.OptLnRefIdeal.defs (F := Ideal)) (onTc (τ := Cert.OptLnRefIdeal.τ) (Cert.OptLnRefIdeal.main (F := Ideal))) ⟨m, fun _ => 0, g⟩ (fun r => (∀ c : Dev Cert.OptLnRefIdeal.nD,
      r.2.mem ((c.tc : Thread Cert.OptLnRefIdeal.nD Cert.OptLnRefIdeal.τ).loc Cert.OptLnRefIdeal.main_arg0) = m ((c.tc : Thread Cert.OptLnRefIdeal.nD Cert.OptLnRefIdeal.τ).loc Cert.OptLnRefIdeal.main_arg0)
      ∧ r.2.mem ((c.tc : Thread Cert.OptLnRefIdeal.nD Cert.OptLnRefIdeal.τ).loc Cert.OptLnRefIdeal.main_arg1) = m ((c.tc : Thread Cert.OptLnRefIdeal.nD Cert.OptLnRefIdeal.τ).loc Cert.OptLnRefIdeal.main_arg1)
      ∧ r.2.mem ((c.tc : Thread Cert.OptLnRefIdeal.nD Cert.OptLnRefIdeal.τ).loc Cert.OptLnRefIdeal.main_arg2) = m ((c.tc : Thread Cert.OptLnRefIdeal.nD Cert.OptLnRefIdeal.τ).loc Cert.OptLnRefIdeal.main_arg2)
      ∧ r.2.mem ((c.tc : Thread Cert.OptLnRefIdeal.nD Cert.OptLnRefIdeal.τ).loc Cert.OptLnRefIdeal.main_arg3) = m ((c.tc : Thread Cert.OptLnRefIdeal.nD Cert.OptLnRefIdeal.τ).loc Cert.OptLnRefIdeal.main_arg3))
      ∧ r.2.sem = fun _ => 0)

def quiescent_OptFfn [hOptFfn : Cert.OptFfn.Facts] : Prop :=
  ∀ (m : (ℓ : Loc Cert.OptFfn.nD Cert.OptFfn.τ Cert.OptFfn.sig) → Buf (Elt Bits) ℓ) (g : Dev Cert.OptFfn.nD → PrngReg), Pre_OptFfn m →
    θ_run (Cert.OptFfn.defs (F := Bits)) (onTc (τ := Cert.OptFfn.τ) (Cert.OptFfn.main (F := Bits))) ⟨m, fun _ => 0, g⟩ (fun r => (∀ c : Dev Cert.OptFfn.nD,
      r.2.mem ((c.tc : Thread Cert.OptFfn.nD Cert.OptFfn.τ).loc Cert.OptFfn.main_arg0) = m ((c.tc : Thread Cert.OptFfn.nD Cert.OptFfn.τ).loc Cert.OptFfn.main_arg0)
      ∧ r.2.mem ((c.tc : Thread Cert.OptFfn.nD Cert.OptFfn.τ).loc Cert.OptFfn.main_arg1) = m ((c.tc : Thread Cert.OptFfn.nD Cert.OptFfn.τ).loc Cert.OptFfn.main_arg1)
      ∧ r.2.mem ((c.tc : Thread Cert.OptFfn.nD Cert.OptFfn.τ).loc Cert.OptFfn.main_arg2) = m ((c.tc : Thread Cert.OptFfn.nD Cert.OptFfn.τ).loc Cert.OptFfn.main_arg2)
      ∧ r.2.mem ((c.tc : Thread Cert.OptFfn.nD Cert.OptFfn.τ).loc Cert.OptFfn.main_arg3) = m ((c.tc : Thread Cert.OptFfn.nD Cert.OptFfn.τ).loc Cert.OptFfn.main_arg3))
      ∧ r.2.sem = fun _ => 0)

def quiescent_OptFfnIdeal [hOptFfnIdeal : Cert.OptFfnIdeal.Facts] : Prop :=
  ∀ (m : (ℓ : Loc Cert.OptFfnIdeal.nD Cert.OptFfnIdeal.τ Cert.OptFfnIdeal.sig) → Buf (Elt Ideal) ℓ) (g : Dev Cert.OptFfnIdeal.nD → PrngReg), Pre_OptFfnIdeal m →
    θ_run (Cert.OptFfnIdeal.defs (F := Ideal)) (onTc (τ := Cert.OptFfnIdeal.τ) (Cert.OptFfnIdeal.main (F := Ideal))) ⟨m, fun _ => 0, g⟩ (fun r => (∀ c : Dev Cert.OptFfnIdeal.nD,
      r.2.mem ((c.tc : Thread Cert.OptFfnIdeal.nD Cert.OptFfnIdeal.τ).loc Cert.OptFfnIdeal.main_arg0) = m ((c.tc : Thread Cert.OptFfnIdeal.nD Cert.OptFfnIdeal.τ).loc Cert.OptFfnIdeal.main_arg0)
      ∧ r.2.mem ((c.tc : Thread Cert.OptFfnIdeal.nD Cert.OptFfnIdeal.τ).loc Cert.OptFfnIdeal.main_arg1) = m ((c.tc : Thread Cert.OptFfnIdeal.nD Cert.OptFfnIdeal.τ).loc Cert.OptFfnIdeal.main_arg1)
      ∧ r.2.mem ((c.tc : Thread Cert.OptFfnIdeal.nD Cert.OptFfnIdeal.τ).loc Cert.OptFfnIdeal.main_arg2) = m ((c.tc : Thread Cert.OptFfnIdeal.nD Cert.OptFfnIdeal.τ).loc Cert.OptFfnIdeal.main_arg2)
      ∧ r.2.mem ((c.tc : Thread Cert.OptFfnIdeal.nD Cert.OptFfnIdeal.τ).loc Cert.OptFfnIdeal.main_arg3) = m ((c.tc : Thread Cert.OptFfnIdeal.nD Cert.OptFfnIdeal.τ).loc Cert.OptFfnIdeal.main_arg3))
      ∧ r.2.sem = fun _ => 0)

def quiescent_OptFfnRefIdeal [hOptFfnRefIdeal : Cert.OptFfnRefIdeal.Facts] : Prop :=
  ∀ (m : (ℓ : Loc Cert.OptFfnRefIdeal.nD Cert.OptFfnRefIdeal.τ Cert.OptFfnRefIdeal.sig) → Buf (Elt Ideal) ℓ) (g : Dev Cert.OptFfnRefIdeal.nD → PrngReg), Pre_OptFfnRefIdeal m →
    θ_run (Cert.OptFfnRefIdeal.defs (F := Ideal)) (onTc (τ := Cert.OptFfnRefIdeal.τ) (Cert.OptFfnRefIdeal.main (F := Ideal))) ⟨m, fun _ => 0, g⟩ (fun r => (∀ c : Dev Cert.OptFfnRefIdeal.nD,
      r.2.mem ((c.tc : Thread Cert.OptFfnRefIdeal.nD Cert.OptFfnRefIdeal.τ).loc Cert.OptFfnRefIdeal.main_arg0) = m ((c.tc : Thread Cert.OptFfnRefIdeal.nD Cert.OptFfnRefIdeal.τ).loc Cert.OptFfnRefIdeal.main_arg0)
      ∧ r.2.mem ((c.tc : Thread Cert.OptFfnRefIdeal.nD Cert.OptFfnRefIdeal.τ).loc Cert.OptFfnRefIdeal.main_arg1) = m ((c.tc : Thread Cert.OptFfnRefIdeal.nD Cert.OptFfnRefIdeal.τ).loc Cert.OptFfnRefIdeal.main_arg1)
      ∧ r.2.mem ((c.tc : Thread Cert.OptFfnRefIdeal.nD Cert.OptFfnRefIdeal.τ).loc Cert.OptFfnRefIdeal.main_arg2) = m ((c.tc : Thread Cert.OptFfnRefIdeal.nD Cert.OptFfnRefIdeal.τ).loc Cert.OptFfnRefIdeal.main_arg2)
      ∧ r.2.mem ((c.tc : Thread Cert.OptFfnRefIdeal.nD Cert.OptFfnRefIdeal.τ).loc Cert.OptFfnRefIdeal.main_arg3) = m ((c.tc : Thread Cert.OptFfnRefIdeal.nD Cert.OptFfnRefIdeal.τ).loc Cert.OptFfnRefIdeal.main_arg3))
      ∧ r.2.sem = fun _ => 0)

def quiescent_OptIn [hOptIn : Cert.OptIn.Facts] : Prop :=
  ∀ (m : (ℓ : Loc Cert.OptIn.nD Cert.OptIn.τ Cert.OptIn.sig) → Buf (Elt Bits) ℓ) (g : Dev Cert.OptIn.nD → PrngReg), Pre_OptIn m →
    θ_run (Cert.OptIn.defs (F := Bits)) (onTc (τ := Cert.OptIn.τ) (Cert.OptIn.main (F := Bits))) ⟨m, fun _ => 0, g⟩ (fun r => (∀ c : Dev Cert.OptIn.nD,
      r.2.mem ((c.tc : Thread Cert.OptIn.nD Cert.OptIn.τ).loc Cert.OptIn.main_arg0) = m ((c.tc : Thread Cert.OptIn.nD Cert.OptIn.τ).loc Cert.OptIn.main_arg0)
      ∧ r.2.mem ((c.tc : Thread Cert.OptIn.nD Cert.OptIn.τ).loc Cert.OptIn.main_arg1) = m ((c.tc : Thread Cert.OptIn.nD Cert.OptIn.τ).loc Cert.OptIn.main_arg1)
      ∧ r.2.mem ((c.tc : Thread Cert.OptIn.nD Cert.OptIn.τ).loc Cert.OptIn.main_arg2) = m ((c.tc : Thread Cert.OptIn.nD Cert.OptIn.τ).loc Cert.OptIn.main_arg2)
      ∧ r.2.mem ((c.tc : Thread Cert.OptIn.nD Cert.OptIn.τ).loc Cert.OptIn.main_arg3) = m ((c.tc : Thread Cert.OptIn.nD Cert.OptIn.τ).loc Cert.OptIn.main_arg3))
      ∧ r.2.sem = fun _ => 0)

def quiescent_OptInIdeal [hOptInIdeal : Cert.OptInIdeal.Facts] : Prop :=
  ∀ (m : (ℓ : Loc Cert.OptInIdeal.nD Cert.OptInIdeal.τ Cert.OptInIdeal.sig) → Buf (Elt Ideal) ℓ) (g : Dev Cert.OptInIdeal.nD → PrngReg), Pre_OptInIdeal m →
    θ_run (Cert.OptInIdeal.defs (F := Ideal)) (onTc (τ := Cert.OptInIdeal.τ) (Cert.OptInIdeal.main (F := Ideal))) ⟨m, fun _ => 0, g⟩ (fun r => (∀ c : Dev Cert.OptInIdeal.nD,
      r.2.mem ((c.tc : Thread Cert.OptInIdeal.nD Cert.OptInIdeal.τ).loc Cert.OptInIdeal.main_arg0) = m ((c.tc : Thread Cert.OptInIdeal.nD Cert.OptInIdeal.τ).loc Cert.OptInIdeal.main_arg0)
      ∧ r.2.mem ((c.tc : Thread Cert.OptInIdeal.nD Cert.OptInIdeal.τ).loc Cert.OptInIdeal.main_arg1) = m ((c.tc : Thread Cert.OptInIdeal.nD Cert.OptInIdeal.τ).loc Cert.OptInIdeal.main_arg1)
      ∧ r.2.mem ((c.tc : Thread Cert.OptInIdeal.nD Cert.OptInIdeal.τ).loc Cert.OptInIdeal.main_arg2) = m ((c.tc : Thread Cert.OptInIdeal.nD Cert.OptInIdeal.τ).loc Cert.OptInIdeal.main_arg2)
      ∧ r.2.mem ((c.tc : Thread Cert.OptInIdeal.nD Cert.OptInIdeal.τ).loc Cert.OptInIdeal.main_arg3) = m ((c.tc : Thread Cert.OptInIdeal.nD Cert.OptInIdeal.τ).loc Cert.OptInIdeal.main_arg3))
      ∧ r.2.sem = fun _ => 0)

def quiescent_OptInRefIdeal [hOptInRefIdeal : Cert.OptInRefIdeal.Facts] : Prop :=
  ∀ (m : (ℓ : Loc Cert.OptInRefIdeal.nD Cert.OptInRefIdeal.τ Cert.OptInRefIdeal.sig) → Buf (Elt Ideal) ℓ) (g : Dev Cert.OptInRefIdeal.nD → PrngReg), Pre_OptInRefIdeal m →
    θ_run (Cert.OptInRefIdeal.defs (F := Ideal)) (onTc (τ := Cert.OptInRefIdeal.τ) (Cert.OptInRefIdeal.main (F := Ideal))) ⟨m, fun _ => 0, g⟩ (fun r => (∀ c : Dev Cert.OptInRefIdeal.nD,
      r.2.mem ((c.tc : Thread Cert.OptInRefIdeal.nD Cert.OptInRefIdeal.τ).loc Cert.OptInRefIdeal.main_arg0) = m ((c.tc : Thread Cert.OptInRefIdeal.nD Cert.OptInRefIdeal.τ).loc Cert.OptInRefIdeal.main_arg0)
      ∧ r.2.mem ((c.tc : Thread Cert.OptInRefIdeal.nD Cert.OptInRefIdeal.τ).loc Cert.OptInRefIdeal.main_arg1) = m ((c.tc : Thread Cert.OptInRefIdeal.nD Cert.OptInRefIdeal.τ).loc Cert.OptInRefIdeal.main_arg1)
      ∧ r.2.mem ((c.tc : Thread Cert.OptInRefIdeal.nD Cert.OptInRefIdeal.τ).loc Cert.OptInRefIdeal.main_arg2) = m ((c.tc : Thread Cert.OptInRefIdeal.nD Cert.OptInRefIdeal.τ).loc Cert.OptInRefIdeal.main_arg2)
      ∧ r.2.mem ((c.tc : Thread Cert.OptInRefIdeal.nD Cert.OptInRefIdeal.τ).loc Cert.OptInRefIdeal.main_arg3) = m ((c.tc : Thread Cert.OptInRefIdeal.nD Cert.OptInRefIdeal.τ).loc Cert.OptInRefIdeal.main_arg3))
      ∧ r.2.sem = fun _ => 0)

def quiescent_OptLb [hOptLb : Cert.OptLb.Facts] : Prop :=
  ∀ (m : (ℓ : Loc Cert.OptLb.nD Cert.OptLb.τ Cert.OptLb.sig) → Buf (Elt Bits) ℓ) (g : Dev Cert.OptLb.nD → PrngReg), Pre_OptLb m →
    θ_run (Cert.OptLb.defs (F := Bits)) (onTc (τ := Cert.OptLb.τ) (Cert.OptLb.main (F := Bits))) ⟨m, fun _ => 0, g⟩ (fun r => (∀ c : Dev Cert.OptLb.nD,
      r.2.mem ((c.tc : Thread Cert.OptLb.nD Cert.OptLb.τ).loc Cert.OptLb.main_arg0) = m ((c.tc : Thread Cert.OptLb.nD Cert.OptLb.τ).loc Cert.OptLb.main_arg0)
      ∧ r.2.mem ((c.tc : Thread Cert.OptLb.nD Cert.OptLb.τ).loc Cert.OptLb.main_arg1) = m ((c.tc : Thread Cert.OptLb.nD Cert.OptLb.τ).loc Cert.OptLb.main_arg1)
      ∧ r.2.mem ((c.tc : Thread Cert.OptLb.nD Cert.OptLb.τ).loc Cert.OptLb.main_arg2) = m ((c.tc : Thread Cert.OptLb.nD Cert.OptLb.τ).loc Cert.OptLb.main_arg2)
      ∧ r.2.mem ((c.tc : Thread Cert.OptLb.nD Cert.OptLb.τ).loc Cert.OptLb.main_arg3) = m ((c.tc : Thread Cert.OptLb.nD Cert.OptLb.τ).loc Cert.OptLb.main_arg3))
      ∧ r.2.sem = fun _ => 0)

def quiescent_OptLbIdeal [hOptLbIdeal : Cert.OptLbIdeal.Facts] : Prop :=
  ∀ (m : (ℓ : Loc Cert.OptLbIdeal.nD Cert.OptLbIdeal.τ Cert.OptLbIdeal.sig) → Buf (Elt Ideal) ℓ) (g : Dev Cert.OptLbIdeal.nD → PrngReg), Pre_OptLbIdeal m →
    θ_run (Cert.OptLbIdeal.defs (F := Ideal)) (onTc (τ := Cert.OptLbIdeal.τ) (Cert.OptLbIdeal.main (F := Ideal))) ⟨m, fun _ => 0, g⟩ (fun r => (∀ c : Dev Cert.OptLbIdeal.nD,
      r.2.mem ((c.tc : Thread Cert.OptLbIdeal.nD Cert.OptLbIdeal.τ).loc Cert.OptLbIdeal.main_arg0) = m ((c.tc : Thread Cert.OptLbIdeal.nD Cert.OptLbIdeal.τ).loc Cert.OptLbIdeal.main_arg0)
      ∧ r.2.mem ((c.tc : Thread Cert.OptLbIdeal.nD Cert.OptLbIdeal.τ).loc Cert.OptLbIdeal.main_arg1) = m ((c.tc : Thread Cert.OptLbIdeal.nD Cert.OptLbIdeal.τ).loc Cert.OptLbIdeal.main_arg1)
      ∧ r.2.mem ((c.tc : Thread Cert.OptLbIdeal.nD Cert.OptLbIdeal.τ).loc Cert.OptLbIdeal.main_arg2) = m ((c.tc : Thread Cert.OptLbIdeal.nD Cert.OptLbIdeal.τ).loc Cert.OptLbIdeal.main_arg2)
      ∧ r.2.mem ((c.tc : Thread Cert.OptLbIdeal.nD Cert.OptLbIdeal.τ).loc Cert.OptLbIdeal.main_arg3) = m ((c.tc : Thread Cert.OptLbIdeal.nD Cert.OptLbIdeal.τ).loc Cert.OptLbIdeal.main_arg3))
      ∧ r.2.sem = fun _ => 0)

def quiescent_OptLbRefIdeal [hOptLbRefIdeal : Cert.OptLbRefIdeal.Facts] : Prop :=
  ∀ (m : (ℓ : Loc Cert.OptLbRefIdeal.nD Cert.OptLbRefIdeal.τ Cert.OptLbRefIdeal.sig) → Buf (Elt Ideal) ℓ) (g : Dev Cert.OptLbRefIdeal.nD → PrngReg), Pre_OptLbRefIdeal m →
    θ_run (Cert.OptLbRefIdeal.defs (F := Ideal)) (onTc (τ := Cert.OptLbRefIdeal.τ) (Cert.OptLbRefIdeal.main (F := Ideal))) ⟨m, fun _ => 0, g⟩ (fun r => (∀ c : Dev Cert.OptLbRefIdeal.nD,
      r.2.mem ((c.tc : Thread Cert.OptLbRefIdeal.nD Cert.OptLbRefIdeal.τ).loc Cert.OptLbRefIdeal.main_arg0) = m ((c.tc : Thread Cert.OptLbRefIdeal.nD Cert.OptLbRefIdeal.τ).loc Cert.OptLbRefIdeal.main_arg0)
      ∧ r.2.mem ((c.tc : Thread Cert.OptLbRefIdeal.nD Cert.OptLbRefIdeal.τ).loc Cert.OptLbRefIdeal.main_arg1) = m ((c.tc : Thread Cert.OptLbRefIdeal.nD Cert.OptLbRefIdeal.τ).loc Cert.OptLbRefIdeal.main_arg1)
      ∧ r.2.mem ((c.tc : Thread Cert.OptLbRefIdeal.nD Cert.OptLbRefIdeal.τ).loc Cert.OptLbRefIdeal.main_arg2) = m ((c.tc : Thread Cert.OptLbRefIdeal.nD Cert.OptLbRefIdeal.τ).loc Cert.OptLbRefIdeal.main_arg2)
      ∧ r.2.mem ((c.tc : Thread Cert.OptLbRefIdeal.nD Cert.OptLbRefIdeal.τ).loc Cert.OptLbRefIdeal.main_arg3) = m ((c.tc : Thread Cert.OptLbRefIdeal.nD Cert.OptLbRefIdeal.τ).loc Cert.OptLbRefIdeal.main_arg3))
      ∧ r.2.sem = fun _ => 0)

def quiescent_OptOut [hOptOut : Cert.OptOut.Facts] : Prop :=
  ∀ (m : (ℓ : Loc Cert.OptOut.nD Cert.OptOut.τ Cert.OptOut.sig) → Buf (Elt Bits) ℓ) (g : Dev Cert.OptOut.nD → PrngReg), Pre_OptOut m →
    θ_run (Cert.OptOut.defs (F := Bits)) (onTc (τ := Cert.OptOut.τ) (Cert.OptOut.main (F := Bits))) ⟨m, fun _ => 0, g⟩ (fun r => (∀ c : Dev Cert.OptOut.nD,
      r.2.mem ((c.tc : Thread Cert.OptOut.nD Cert.OptOut.τ).loc Cert.OptOut.main_arg0) = m ((c.tc : Thread Cert.OptOut.nD Cert.OptOut.τ).loc Cert.OptOut.main_arg0)
      ∧ r.2.mem ((c.tc : Thread Cert.OptOut.nD Cert.OptOut.τ).loc Cert.OptOut.main_arg1) = m ((c.tc : Thread Cert.OptOut.nD Cert.OptOut.τ).loc Cert.OptOut.main_arg1)
      ∧ r.2.mem ((c.tc : Thread Cert.OptOut.nD Cert.OptOut.τ).loc Cert.OptOut.main_arg2) = m ((c.tc : Thread Cert.OptOut.nD Cert.OptOut.τ).loc Cert.OptOut.main_arg2)
      ∧ r.2.mem ((c.tc : Thread Cert.OptOut.nD Cert.OptOut.τ).loc Cert.OptOut.main_arg3) = m ((c.tc : Thread Cert.OptOut.nD Cert.OptOut.τ).loc Cert.OptOut.main_arg3))
      ∧ r.2.sem = fun _ => 0)

def quiescent_OptOutIdeal [hOptOutIdeal : Cert.OptOutIdeal.Facts] : Prop :=
  ∀ (m : (ℓ : Loc Cert.OptOutIdeal.nD Cert.OptOutIdeal.τ Cert.OptOutIdeal.sig) → Buf (Elt Ideal) ℓ) (g : Dev Cert.OptOutIdeal.nD → PrngReg), Pre_OptOutIdeal m →
    θ_run (Cert.OptOutIdeal.defs (F := Ideal)) (onTc (τ := Cert.OptOutIdeal.τ) (Cert.OptOutIdeal.main (F := Ideal))) ⟨m, fun _ => 0, g⟩ (fun r => (∀ c : Dev Cert.OptOutIdeal.nD,
      r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
      ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
      ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
      ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3))
      ∧ r.2.sem = fun _ => 0)

def quiescent_OptOutRefIdeal [hOptOutRefIdeal : Cert.OptOutRefIdeal.Facts] : Prop :=
  ∀ (m : (ℓ : Loc Cert.OptOutRefIdeal.nD Cert.OptOutRefIdeal.τ Cert.OptOutRefIdeal.sig) → Buf (Elt Ideal) ℓ) (g : Dev Cert.OptOutRefIdeal.nD → PrngReg), Pre_OptOutRefIdeal m →
    θ_run (Cert.OptOutRefIdeal.defs (F := Ideal)) (onTc (τ := Cert.OptOutRefIdeal.τ) (Cert.OptOutRefIdeal.main (F := Ideal))) ⟨m, fun _ => 0, g⟩ (fun r => (∀ c : Dev Cert.OptOutRefIdeal.nD,
      r.2.mem ((c.tc : Thread Cert.OptOutRefIdeal.nD Cert.OptOutRefIdeal.τ).loc Cert.OptOutRefIdeal.main_arg0) = m ((c.tc : Thread Cert.OptOutRefIdeal.nD Cert.OptOutRefIdeal.τ).loc Cert.OptOutRefIdeal.main_arg0)
      ∧ r.2.mem ((c.tc : Thread Cert.OptOutRefIdeal.nD Cert.OptOutRefIdeal.τ).loc Cert.OptOutRefIdeal.main_arg1) = m ((c.tc : Thread Cert.OptOutRefIdeal.nD Cert.OptOutRefIdeal.τ).loc Cert.OptOutRefIdeal.main_arg1)
      ∧ r.2.mem ((c.tc : Thread Cert.OptOutRefIdeal.nD Cert.OptOutRefIdeal.τ).loc Cert.OptOutRefIdeal.main_arg2) = m ((c.tc : Thread Cert.OptOutRefIdeal.nD Cert.OptOutRefIdeal.τ).loc Cert.OptOutRefIdeal.main_arg2)
      ∧ r.2.mem ((c.tc : Thread Cert.OptOutRefIdeal.nD Cert.OptOutRefIdeal.τ).loc Cert.OptOutRefIdeal.main_arg3) = m ((c.tc : Thread Cert.OptOutRefIdeal.nD Cert.OptOutRefIdeal.τ).loc Cert.OptOutRefIdeal.main_arg3))
      ∧ r.2.sem = fun _ => 0)

def quiescent_OptPw1 [hOptPw1 : Cert.OptPw1.Facts] : Prop :=
  ∀ (m : (ℓ : Loc Cert.OptPw1.nD Cert.OptPw1.τ Cert.OptPw1.sig) → Buf (Elt Bits) ℓ) (g : Dev Cert.OptPw1.nD → PrngReg), Pre_OptPw1 m →
    θ_run (Cert.OptPw1.defs (F := Bits)) (onTc (τ := Cert.OptPw1.τ) (Cert.OptPw1.main (F := Bits))) ⟨m, fun _ => 0, g⟩ (fun r => (∀ c : Dev Cert.OptPw1.nD,
      r.2.mem ((c.tc : Thread Cert.OptPw1.nD Cert.OptPw1.τ).loc Cert.OptPw1.main_arg0) = m ((c.tc : Thread Cert.OptPw1.nD Cert.OptPw1.τ).loc Cert.OptPw1.main_arg0)
      ∧ r.2.mem ((c.tc : Thread Cert.OptPw1.nD Cert.OptPw1.τ).loc Cert.OptPw1.main_arg1) = m ((c.tc : Thread Cert.OptPw1.nD Cert.OptPw1.τ).loc Cert.OptPw1.main_arg1)
      ∧ r.2.mem ((c.tc : Thread Cert.OptPw1.nD Cert.OptPw1.τ).loc Cert.OptPw1.main_arg2) = m ((c.tc : Thread Cert.OptPw1.nD Cert.OptPw1.τ).loc Cert.OptPw1.main_arg2)
      ∧ r.2.mem ((c.tc : Thread Cert.OptPw1.nD Cert.OptPw1.τ).loc Cert.OptPw1.main_arg3) = m ((c.tc : Thread Cert.OptPw1.nD Cert.OptPw1.τ).loc Cert.OptPw1.main_arg3))
      ∧ r.2.sem = fun _ => 0)

def quiescent_OptPw1Ideal [hOptPw1Ideal : Cert.OptPw1Ideal.Facts] : Prop :=
  ∀ (m : (ℓ : Loc Cert.OptPw1Ideal.nD Cert.OptPw1Ideal.τ Cert.OptPw1Ideal.sig) → Buf (Elt Ideal) ℓ) (g : Dev Cert.OptPw1Ideal.nD → PrngReg), Pre_OptPw1Ideal m →
    θ_run (Cert.OptPw1Ideal.defs (F := Ideal)) (onTc (τ := Cert.OptPw1Ideal.τ) (Cert.OptPw1Ideal.main (F := Ideal))) ⟨m, fun _ => 0, g⟩ (fun r => (∀ c : Dev Cert.OptPw1Ideal.nD,
      r.2.mem ((c.tc : Thread Cert.OptPw1Ideal.nD Cert.OptPw1Ideal.τ).loc Cert.OptPw1Ideal.main_arg0) = m ((c.tc : Thread Cert.OptPw1Ideal.nD Cert.OptPw1Ideal.τ).loc Cert.OptPw1Ideal.main_arg0)
      ∧ r.2.mem ((c.tc : Thread Cert.OptPw1Ideal.nD Cert.OptPw1Ideal.τ).loc Cert.OptPw1Ideal.main_arg1) = m ((c.tc : Thread Cert.OptPw1Ideal.nD Cert.OptPw1Ideal.τ).loc Cert.OptPw1Ideal.main_arg1)
      ∧ r.2.mem ((c.tc : Thread Cert.OptPw1Ideal.nD Cert.OptPw1Ideal.τ).loc Cert.OptPw1Ideal.main_arg2) = m ((c.tc : Thread Cert.OptPw1Ideal.nD Cert.OptPw1Ideal.τ).loc Cert.OptPw1Ideal.main_arg2)
      ∧ r.2.mem ((c.tc : Thread Cert.OptPw1Ideal.nD Cert.OptPw1Ideal.τ).loc Cert.OptPw1Ideal.main_arg3) = m ((c.tc : Thread Cert.OptPw1Ideal.nD Cert.OptPw1Ideal.τ).loc Cert.OptPw1Ideal.main_arg3))
      ∧ r.2.sem = fun _ => 0)

def quiescent_OptPw1RefIdeal [hOptPw1RefIdeal : Cert.OptPw1RefIdeal.Facts] : Prop :=
  ∀ (m : (ℓ : Loc Cert.OptPw1RefIdeal.nD Cert.OptPw1RefIdeal.τ Cert.OptPw1RefIdeal.sig) → Buf (Elt Ideal) ℓ) (g : Dev Cert.OptPw1RefIdeal.nD → PrngReg), Pre_OptPw1RefIdeal m →
    θ_run (Cert.OptPw1RefIdeal.defs (F := Ideal)) (onTc (τ := Cert.OptPw1RefIdeal.τ) (Cert.OptPw1RefIdeal.main (F := Ideal))) ⟨m, fun _ => 0, g⟩ (fun r => (∀ c : Dev Cert.OptPw1RefIdeal.nD,
      r.2.mem ((c.tc : Thread Cert.OptPw1RefIdeal.nD Cert.OptPw1RefIdeal.τ).loc Cert.OptPw1RefIdeal.main_arg0) = m ((c.tc : Thread Cert.OptPw1RefIdeal.nD Cert.OptPw1RefIdeal.τ).loc Cert.OptPw1RefIdeal.main_arg0)
      ∧ r.2.mem ((c.tc : Thread Cert.OptPw1RefIdeal.nD Cert.OptPw1RefIdeal.τ).loc Cert.OptPw1RefIdeal.main_arg1) = m ((c.tc : Thread Cert.OptPw1RefIdeal.nD Cert.OptPw1RefIdeal.τ).loc Cert.OptPw1RefIdeal.main_arg1)
      ∧ r.2.mem ((c.tc : Thread Cert.OptPw1RefIdeal.nD Cert.OptPw1RefIdeal.τ).loc Cert.OptPw1RefIdeal.main_arg2) = m ((c.tc : Thread Cert.OptPw1RefIdeal.nD Cert.OptPw1RefIdeal.τ).loc Cert.OptPw1RefIdeal.main_arg2)
      ∧ r.2.mem ((c.tc : Thread Cert.OptPw1RefIdeal.nD Cert.OptPw1RefIdeal.τ).loc Cert.OptPw1RefIdeal.main_arg3) = m ((c.tc : Thread Cert.OptPw1RefIdeal.nD Cert.OptPw1RefIdeal.τ).loc Cert.OptPw1RefIdeal.main_arg3))
      ∧ r.2.sem = fun _ => 0)

def quiescent_OptBias [hOptBias : Cert.OptBias.Facts] : Prop :=
  ∀ (m : (ℓ : Loc Cert.OptBias.nD Cert.OptBias.τ Cert.OptBias.sig) → Buf (Elt Bits) ℓ) (g : Dev Cert.OptBias.nD → PrngReg), Pre_OptBias m →
    θ_run (Cert.OptBias.defs (F := Bits)) (onTc (τ := Cert.OptBias.τ) (Cert.OptBias.main (F := Bits))) ⟨m, fun _ => 0, g⟩ (fun r => (∀ c : Dev Cert.OptBias.nD,
      r.2.mem ((c.tc : Thread Cert.OptBias.nD Cert.OptBias.τ).loc Cert.OptBias.main_arg0) = m ((c.tc : Thread Cert.OptBias.nD Cert.OptBias.τ).loc Cert.OptBias.main_arg0)
      ∧ r.2.mem ((c.tc : Thread Cert.OptBias.nD Cert.OptBias.τ).loc Cert.OptBias.main_arg1) = m ((c.tc : Thread Cert.OptBias.nD Cert.OptBias.τ).loc Cert.OptBias.main_arg1)
      ∧ r.2.mem ((c.tc : Thread Cert.OptBias.nD Cert.OptBias.τ).loc Cert.OptBias.main_arg2) = m ((c.tc : Thread Cert.OptBias.nD Cert.OptBias.τ).loc Cert.OptBias.main_arg2)
      ∧ r.2.mem ((c.tc : Thread Cert.OptBias.nD Cert.OptBias.τ).loc Cert.OptBias.main_arg3) = m ((c.tc : Thread Cert.OptBias.nD Cert.OptBias.τ).loc Cert.OptBias.main_arg3))
      ∧ r.2.sem = fun _ => 0)

def quiescent_OptBiasIdeal [hOptBiasIdeal : Cert.OptBiasIdeal.Facts] : Prop :=
  ∀ (m : (ℓ : Loc Cert.OptBiasIdeal.nD Cert.OptBiasIdeal.τ Cert.OptBiasIdeal.sig) → Buf (Elt Ideal) ℓ) (g : Dev Cert.OptBiasIdeal.nD → PrngReg), Pre_OptBiasIdeal m →
    θ_run (Cert.OptBiasIdeal.defs (F := Ideal)) (onTc (τ := Cert.OptBiasIdeal.τ) (Cert.OptBiasIdeal.main (F := Ideal))) ⟨m, fun _ => 0, g⟩ (fun r => (∀ c : Dev Cert.OptBiasIdeal.nD,
      r.2.mem ((c.tc : Thread Cert.OptBiasIdeal.nD Cert.OptBiasIdeal.τ).loc Cert.OptBiasIdeal.main_arg0) = m ((c.tc : Thread Cert.OptBiasIdeal.nD Cert.OptBiasIdeal.τ).loc Cert.OptBiasIdeal.main_arg0)
      ∧ r.2.mem ((c.tc : Thread Cert.OptBiasIdeal.nD Cert.OptBiasIdeal.τ).loc Cert.OptBiasIdeal.main_arg1) = m ((c.tc : Thread Cert.OptBiasIdeal.nD Cert.OptBiasIdeal.τ).loc Cert.OptBiasIdeal.main_arg1)
      ∧ r.2.mem ((c.tc : Thread Cert.OptBiasIdeal.nD Cert.OptBiasIdeal.τ).loc Cert.OptBiasIdeal.main_arg2) = m ((c.tc : Thread Cert.OptBiasIdeal.nD Cert.OptBiasIdeal.τ).loc Cert.OptBiasIdeal.main_arg2)
      ∧ r.2.mem ((c.tc : Thread Cert.OptBiasIdeal.nD Cert.OptBiasIdeal.τ).loc Cert.OptBiasIdeal.main_arg3) = m ((c.tc : Thread Cert.OptBiasIdeal.nD Cert.OptBiasIdeal.τ).loc Cert.OptBiasIdeal.main_arg3))
      ∧ r.2.sem = fun _ => 0)

def quiescent_OptBiasRefIdeal [hOptBiasRefIdeal : Cert.OptBiasRefIdeal.Facts] : Prop :=
  ∀ (m : (ℓ : Loc Cert.OptBiasRefIdeal.nD Cert.OptBiasRefIdeal.τ Cert.OptBiasRefIdeal.sig) → Buf (Elt Ideal) ℓ) (g : Dev Cert.OptBiasRefIdeal.nD → PrngReg), Pre_OptBiasRefIdeal m →
    θ_run (Cert.OptBiasRefIdeal.defs (F := Ideal)) (onTc (τ := Cert.OptBiasRefIdeal.τ) (Cert.OptBiasRefIdeal.main (F := Ideal))) ⟨m, fun _ => 0, g⟩ (fun r => (∀ c : Dev Cert.OptBiasRefIdeal.nD,
      r.2.mem ((c.tc : Thread Cert.OptBiasRefIdeal.nD Cert.OptBiasRefIdeal.τ).loc Cert.OptBiasRefIdeal.main_arg0) = m ((c.tc : Thread Cert.OptBiasRefIdeal.nD Cert.OptBiasRefIdeal.τ).loc Cert.OptBiasRefIdeal.main_arg0)
      ∧ r.2.mem ((c.tc : Thread Cert.OptBiasRefIdeal.nD Cert.OptBiasRefIdeal.τ).loc Cert.OptBiasRefIdeal.main_arg1) = m ((c.tc : Thread Cert.OptBiasRefIdeal.nD Cert.OptBiasRefIdeal.τ).loc Cert.OptBiasRefIdeal.main_arg1)
      ∧ r.2.mem ((c.tc : Thread Cert.OptBiasRefIdeal.nD Cert.OptBiasRefIdeal.τ).loc Cert.OptBiasRefIdeal.main_arg2) = m ((c.tc : Thread Cert.OptBiasRefIdeal.nD Cert.OptBiasRefIdeal.τ).loc Cert.OptBiasRefIdeal.main_arg2)
      ∧ r.2.mem ((c.tc : Thread Cert.OptBiasRefIdeal.nD Cert.OptBiasRefIdeal.τ).loc Cert.OptBiasRefIdeal.main_arg3) = m ((c.tc : Thread Cert.OptBiasRefIdeal.nD Cert.OptBiasRefIdeal.τ).loc Cert.OptBiasRefIdeal.main_arg3))
      ∧ r.2.sem = fun _ => 0)

def quiescent_OptDw [hOptDw : Cert.OptDw.Facts] : Prop :=
  ∀ (m : (ℓ : Loc Cert.OptDw.nD Cert.OptDw.τ Cert.OptDw.sig) → Buf (Elt Bits) ℓ) (g : Dev Cert.OptDw.nD → PrngReg), Pre_OptDw m →
    θ_run (Cert.OptDw.defs (F := Bits)) (onTc (τ := Cert.OptDw.τ) (Cert.OptDw.main (F := Bits))) ⟨m, fun _ => 0, g⟩ (fun r => (∀ c : Dev Cert.OptDw.nD,
      r.2.mem ((c.tc : Thread Cert.OptDw.nD Cert.OptDw.τ).loc Cert.OptDw.main_arg0) = m ((c.tc : Thread Cert.OptDw.nD Cert.OptDw.τ).loc Cert.OptDw.main_arg0)
      ∧ r.2.mem ((c.tc : Thread Cert.OptDw.nD Cert.OptDw.τ).loc Cert.OptDw.main_arg1) = m ((c.tc : Thread Cert.OptDw.nD Cert.OptDw.τ).loc Cert.OptDw.main_arg1)
      ∧ r.2.mem ((c.tc : Thread Cert.OptDw.nD Cert.OptDw.τ).loc Cert.OptDw.main_arg2) = m ((c.tc : Thread Cert.OptDw.nD Cert.OptDw.τ).loc Cert.OptDw.main_arg2)
      ∧ r.2.mem ((c.tc : Thread Cert.OptDw.nD Cert.OptDw.τ).loc Cert.OptDw.main_arg3) = m ((c.tc : Thread Cert.OptDw.nD Cert.OptDw.τ).loc Cert.OptDw.main_arg3))
      ∧ r.2.sem = fun _ => 0)

def quiescent_OptDwIdeal [hOptDwIdeal : Cert.OptDwIdeal.Facts] : Prop :=
  ∀ (m : (ℓ : Loc Cert.OptDwIdeal.nD Cert.OptDwIdeal.τ Cert.OptDwIdeal.sig) → Buf (Elt Ideal) ℓ) (g : Dev Cert.OptDwIdeal.nD → PrngReg), Pre_OptDwIdeal m →
    θ_run (Cert.OptDwIdeal.defs (F := Ideal)) (onTc (τ := Cert.OptDwIdeal.τ) (Cert.OptDwIdeal.main (F := Ideal))) ⟨m, fun _ => 0, g⟩ (fun r => (∀ c : Dev Cert.OptDwIdeal.nD,
      r.2.mem ((c.tc : Thread Cert.OptDwIdeal.nD Cert.OptDwIdeal.τ).loc Cert.OptDwIdeal.main_arg0) = m ((c.tc : Thread Cert.OptDwIdeal.nD Cert.OptDwIdeal.τ).loc Cert.OptDwIdeal.main_arg0)
      ∧ r.2.mem ((c.tc : Thread Cert.OptDwIdeal.nD Cert.OptDwIdeal.τ).loc Cert.OptDwIdeal.main_arg1) = m ((c.tc : Thread Cert.OptDwIdeal.nD Cert.OptDwIdeal.τ).loc Cert.OptDwIdeal.main_arg1)
      ∧ r.2.mem ((c.tc : Thread Cert.OptDwIdeal.nD Cert.OptDwIdeal.τ).loc Cert.OptDwIdeal.main_arg2) = m ((c.tc : Thread Cert.OptDwIdeal.nD Cert.OptDwIdeal.τ).loc Cert.OptDwIdeal.main_arg2)
      ∧ r.2.mem ((c.tc : Thread Cert.OptDwIdeal.nD Cert.OptDwIdeal.τ).loc Cert.OptDwIdeal.main_arg3) = m ((c.tc : Thread Cert.OptDwIdeal.nD Cert.OptDwIdeal.τ).loc Cert.OptDwIdeal.main_arg3))
      ∧ r.2.sem = fun _ => 0)

def quiescent_OptDwRefIdeal [hOptDwRefIdeal : Cert.OptDwRefIdeal.Facts] : Prop :=
  ∀ (m : (ℓ : Loc Cert.OptDwRefIdeal.nD Cert.OptDwRefIdeal.τ Cert.OptDwRefIdeal.sig) → Buf (Elt Ideal) ℓ) (g : Dev Cert.OptDwRefIdeal.nD → PrngReg), Pre_OptDwRefIdeal m →
    θ_run (Cert.OptDwRefIdeal.defs (F := Ideal)) (onTc (τ := Cert.OptDwRefIdeal.τ) (Cert.OptDwRefIdeal.main (F := Ideal))) ⟨m, fun _ => 0, g⟩ (fun r => (∀ c : Dev Cert.OptDwRefIdeal.nD,
      r.2.mem ((c.tc : Thread Cert.OptDwRefIdeal.nD Cert.OptDwRefIdeal.τ).loc Cert.OptDwRefIdeal.main_arg0) = m ((c.tc : Thread Cert.OptDwRefIdeal.nD Cert.OptDwRefIdeal.τ).loc Cert.OptDwRefIdeal.main_arg0)
      ∧ r.2.mem ((c.tc : Thread Cert.OptDwRefIdeal.nD Cert.OptDwRefIdeal.τ).loc Cert.OptDwRefIdeal.main_arg1) = m ((c.tc : Thread Cert.OptDwRefIdeal.nD Cert.OptDwRefIdeal.τ).loc Cert.OptDwRefIdeal.main_arg1)
      ∧ r.2.mem ((c.tc : Thread Cert.OptDwRefIdeal.nD Cert.OptDwRefIdeal.τ).loc Cert.OptDwRefIdeal.main_arg2) = m ((c.tc : Thread Cert.OptDwRefIdeal.nD Cert.OptDwRefIdeal.τ).loc Cert.OptDwRefIdeal.main_arg2)
      ∧ r.2.mem ((c.tc : Thread Cert.OptDwRefIdeal.nD Cert.OptDwRefIdeal.τ).loc Cert.OptDwRefIdeal.main_arg3) = m ((c.tc : Thread Cert.OptDwRefIdeal.nD Cert.OptDwRefIdeal.τ).loc Cert.OptDwRefIdeal.main_arg3))
      ∧ r.2.sem = fun _ => 0)

def quiescent_OptVec [hOptVec : Cert.OptVec.Facts] : Prop :=
  ∀ (m : (ℓ : Loc Cert.OptVec.nD Cert.OptVec.τ Cert.OptVec.sig) → Buf (Elt Bits) ℓ) (g : Dev Cert.OptVec.nD → PrngReg), Pre_OptVec m →
    θ_run (Cert.OptVec.defs (F := Bits)) (onTc (τ := Cert.OptVec.τ) (Cert.OptVec.main (F := Bits))) ⟨m, fun _ => 0, g⟩ (fun r => (∀ c : Dev Cert.OptVec.nD,
      r.2.mem ((c.tc : Thread Cert.OptVec.nD Cert.OptVec.τ).loc Cert.OptVec.main_arg0) = m ((c.tc : Thread Cert.OptVec.nD Cert.OptVec.τ).loc Cert.OptVec.main_arg0)
      ∧ r.2.mem ((c.tc : Thread Cert.OptVec.nD Cert.OptVec.τ).loc Cert.OptVec.main_arg1) = m ((c.tc : Thread Cert.OptVec.nD Cert.OptVec.τ).loc Cert.OptVec.main_arg1)
      ∧ r.2.mem ((c.tc : Thread Cert.OptVec.nD Cert.OptVec.τ).loc Cert.OptVec.main_arg2) = m ((c.tc : Thread Cert.OptVec.nD Cert.OptVec.τ).loc Cert.OptVec.main_arg2)
      ∧ r.2.mem ((c.tc : Thread Cert.OptVec.nD Cert.OptVec.τ).loc Cert.OptVec.main_arg3) = m ((c.tc : Thread Cert.OptVec.nD Cert.OptVec.τ).loc Cert.OptVec.main_arg3))
      ∧ r.2.sem = fun _ => 0)

def quiescent_OptVecIdeal [hOptVecIdeal : Cert.OptVecIdeal.Facts] : Prop :=
  ∀ (m : (ℓ : Loc Cert.OptVecIdeal.nD Cert.OptVecIdeal.τ Cert.OptVecIdeal.sig) → Buf (Elt Ideal) ℓ) (g : Dev Cert.OptVecIdeal.nD → PrngReg), Pre_OptVecIdeal m →
    θ_run (Cert.OptVecIdeal.defs (F := Ideal)) (onTc (τ := Cert.OptVecIdeal.τ) (Cert.OptVecIdeal.main (F := Ideal))) ⟨m, fun _ => 0, g⟩ (fun r => (∀ c : Dev Cert.OptVecIdeal.nD,
      r.2.mem ((c.tc : Thread Cert.OptVecIdeal.nD Cert.OptVecIdeal.τ).loc Cert.OptVecIdeal.main_arg0) = m ((c.tc : Thread Cert.OptVecIdeal.nD Cert.OptVecIdeal.τ).loc Cert.OptVecIdeal.main_arg0)
      ∧ r.2.mem ((c.tc : Thread Cert.OptVecIdeal.nD Cert.OptVecIdeal.τ).loc Cert.OptVecIdeal.main_arg1) = m ((c.tc : Thread Cert.OptVecIdeal.nD Cert.OptVecIdeal.τ).loc Cert.OptVecIdeal.main_arg1)
      ∧ r.2.mem ((c.tc : Thread Cert.OptVecIdeal.nD Cert.OptVecIdeal.τ).loc Cert.OptVecIdeal.main_arg2) = m ((c.tc : Thread Cert.OptVecIdeal.nD Cert.OptVecIdeal.τ).loc Cert.OptVecIdeal.main_arg2)
      ∧ r.2.mem ((c.tc : Thread Cert.OptVecIdeal.nD Cert.OptVecIdeal.τ).loc Cert.OptVecIdeal.main_arg3) = m ((c.tc : Thread Cert.OptVecIdeal.nD Cert.OptVecIdeal.τ).loc Cert.OptVecIdeal.main_arg3))
      ∧ r.2.sem = fun _ => 0)

def quiescent_OptVecRefIdeal [hOptVecRefIdeal : Cert.OptVecRefIdeal.Facts] : Prop :=
  ∀ (m : (ℓ : Loc Cert.OptVecRefIdeal.nD Cert.OptVecRefIdeal.τ Cert.OptVecRefIdeal.sig) → Buf (Elt Ideal) ℓ) (g : Dev Cert.OptVecRefIdeal.nD → PrngReg), Pre_OptVecRefIdeal m →
    θ_run (Cert.OptVecRefIdeal.defs (F := Ideal)) (onTc (τ := Cert.OptVecRefIdeal.τ) (Cert.OptVecRefIdeal.main (F := Ideal))) ⟨m, fun _ => 0, g⟩ (fun r => (∀ c : Dev Cert.OptVecRefIdeal.nD,
      r.2.mem ((c.tc : Thread Cert.OptVecRefIdeal.nD Cert.OptVecRefIdeal.τ).loc Cert.OptVecRefIdeal.main_arg0) = m ((c.tc : Thread Cert.OptVecRefIdeal.nD Cert.OptVecRefIdeal.τ).loc Cert.OptVecRefIdeal.main_arg0)
      ∧ r.2.mem ((c.tc : Thread Cert.OptVecRefIdeal.nD Cert.OptVecRefIdeal.τ).loc Cert.OptVecRefIdeal.main_arg1) = m ((c.tc : Thread Cert.OptVecRefIdeal.nD Cert.OptVecRefIdeal.τ).loc Cert.OptVecRefIdeal.main_arg1)
      ∧ r.2.mem ((c.tc : Thread Cert.OptVecRefIdeal.nD Cert.OptVecRefIdeal.τ).loc Cert.OptVecRefIdeal.main_arg2) = m ((c.tc : Thread Cert.OptVecRefIdeal.nD Cert.OptVecRefIdeal.τ).loc Cert.OptVecRefIdeal.main_arg2)
      ∧ r.2.mem ((c.tc : Thread Cert.OptVecRefIdeal.nD Cert.OptVecRefIdeal.τ).loc Cert.OptVecRefIdeal.main_arg3) = m ((c.tc : Thread Cert.OptVecRefIdeal.nD Cert.OptVecRefIdeal.τ).loc Cert.OptVecRefIdeal.main_arg3))
      ∧ r.2.sem = fun _ => 0)

def quiescent_SumSq [hSumSq : Cert.SumSq.Facts] : Prop :=
  ∀ (m : (ℓ : Loc Cert.SumSq.nD Cert.SumSq.τ Cert.SumSq.sig) → Buf (Elt Bits) ℓ) (g : Dev Cert.SumSq.nD → PrngReg), Pre_SumSq m →
    θ_run (Cert.SumSq.defs (F := Bits)) (onTc (τ := Cert.SumSq.τ) (Cert.SumSq.main (F := Bits))) ⟨m, fun _ => 0, g⟩ (fun r => (∀ c : Dev Cert.SumSq.nD,
      r.2.mem ((c.tc : Thread Cert.SumSq.nD Cert.SumSq.τ).loc Cert.SumSq.main_arg0) = m ((c.tc : Thread Cert.SumSq.nD Cert.SumSq.τ).loc Cert.SumSq.main_arg0))
      ∧ r.2.sem = fun _ => 0)

def quiescent_SumSqIdeal [hSumSqIdeal : Cert.SumSqIdeal.Facts] : Prop :=
  ∀ (m : (ℓ : Loc Cert.SumSqIdeal.nD Cert.SumSqIdeal.τ Cert.SumSqIdeal.sig) → Buf (Elt Ideal) ℓ) (g : Dev Cert.SumSqIdeal.nD → PrngReg), Pre_SumSqIdeal m →
    θ_run (Cert.SumSqIdeal.defs (F := Ideal)) (onTc (τ := Cert.SumSqIdeal.τ) (Cert.SumSqIdeal.main (F := Ideal))) ⟨m, fun _ => 0, g⟩ (fun r => (∀ c : Dev Cert.SumSqIdeal.nD,
      r.2.mem ((c.tc : Thread Cert.SumSqIdeal.nD Cert.SumSqIdeal.τ).loc Cert.SumSqIdeal.main_arg0) = m ((c.tc : Thread Cert.SumSqIdeal.nD Cert.SumSqIdeal.τ).loc Cert.SumSqIdeal.main_arg0))
      ∧ r.2.sem = fun _ => 0)

def quiescent_SumSqRefIdeal [hSumSqRefIdeal : Cert.SumSqRefIdeal.Facts] : Prop :=
  ∀ (m : (ℓ : Loc Cert.SumSqRefIdeal.nD Cert.SumSqRefIdeal.τ Cert.SumSqRefIdeal.sig) → Buf (Elt Ideal) ℓ) (g : Dev Cert.SumSqRefIdeal.nD → PrngReg), Pre_SumSqRefIdeal m →
    θ_run (Cert.SumSqRefIdeal.defs (F := Ideal)) (onTc (τ := Cert.SumSqRefIdeal.τ) (Cert.SumSqRefIdeal.main (F := Ideal))) ⟨m, fun _ => 0, g⟩ (fun r => (∀ c : Dev Cert.SumSqRefIdeal.nD,
      r.2.mem ((c.tc : Thread Cert.SumSqRefIdeal.nD Cert.SumSqRefIdeal.τ).loc Cert.SumSqRefIdeal.main_arg0) = m ((c.tc : Thread Cert.SumSqRefIdeal.nD Cert.SumSqRefIdeal.τ).loc Cert.SumSqRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumPw1 [hSumPw1 : Cert.SumPw1.Facts] : Prop :=
  ∀ (m : (ℓ : Loc Cert.SumPw1.nD Cert.SumPw1.τ Cert.SumPw1.sig) → Buf (Elt Bits) ℓ) (g : Dev Cert.SumPw1.nD → PrngReg), Pre_SumPw1 m →
    θ_run (Cert.SumPw1.defs (F := Bits)) (onTc (τ := Cert.SumPw1.τ) (Cert.SumPw1.main (F := Bits))) ⟨m, fun _ => 0, g⟩ (fun r => (∀ c : Dev Cert.SumPw1.nD,
      r.2.mem ((c.tc : Thread Cert.SumPw1.nD Cert.SumPw1.τ).loc Cert.SumPw1.main_arg0) = m ((c.tc : Thread Cert.SumPw1.nD Cert.SumPw1.τ).loc Cert.SumPw1.main_arg0))
      ∧ r.2.sem = fun _ => 0)

def quiescent_SumPw1Ideal [hSumPw1Ideal : Cert.SumPw1Ideal.Facts] : Prop :=
  ∀ (m : (ℓ : Loc Cert.SumPw1Ideal.nD Cert.SumPw1Ideal.τ Cert.SumPw1Ideal.sig) → Buf (Elt Ideal) ℓ) (g : Dev Cert.SumPw1Ideal.nD → PrngReg), Pre_SumPw1Ideal m →
    θ_run (Cert.SumPw1Ideal.defs (F := Ideal)) (onTc (τ := Cert.SumPw1Ideal.τ) (Cert.SumPw1Ideal.main (F := Ideal))) ⟨m, fun _ => 0, g⟩ (fun r => (∀ c : Dev Cert.SumPw1Ideal.nD,
      r.2.mem ((c.tc : Thread Cert.SumPw1Ideal.nD Cert.SumPw1Ideal.τ).loc Cert.SumPw1Ideal.main_arg0) = m ((c.tc : Thread Cert.SumPw1Ideal.nD Cert.SumPw1Ideal.τ).loc Cert.SumPw1Ideal.main_arg0))
      ∧ r.2.sem = fun _ => 0)

def quiescent_SumPw1RefIdeal [hSumPw1RefIdeal : Cert.SumPw1RefIdeal.Facts] : Prop :=
  ∀ (m : (ℓ : Loc Cert.SumPw1RefIdeal.nD Cert.SumPw1RefIdeal.τ Cert.SumPw1RefIdeal.sig) → Buf (Elt Ideal) ℓ) (g : Dev Cert.SumPw1RefIdeal.nD → PrngReg), Pre_SumPw1RefIdeal m →
    θ_run (Cert.SumPw1RefIdeal.defs (F := Ideal)) (onTc (τ := Cert.SumPw1RefIdeal.τ) (Cert.SumPw1RefIdeal.main (F := Ideal))) ⟨m, fun _ => 0, g⟩ (fun r => (∀ c : Dev Cert.SumPw1RefIdeal.nD,
      r.2.mem ((c.tc : Thread Cert.SumPw1RefIdeal.nD Cert.SumPw1RefIdeal.τ).loc Cert.SumPw1RefIdeal.main_arg0) = m ((c.tc : Thread Cert.SumPw1RefIdeal.nD Cert.SumPw1RefIdeal.τ).loc Cert.SumPw1RefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v8) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v8) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_ADx_ADxIdeal : Prop :=
  True

def algebraic_ADxIdeal_ADxRefIdeal [hADxIdeal : Cert.ADxIdeal.Facts] [hADxRefIdeal : Cert.ADxRefIdeal.Facts] : Prop :=
  ∀ (m : (ℓ : Loc Cert.ADxIdeal.nD Cert.ADxIdeal.τ Cert.ADxIdeal.sig) → Buf (Elt Ideal) ℓ) (g : Dev Cert.ADxIdeal.nD → PrngReg)
    (m' : (ℓ : Loc Cert.ADxRefIdeal.nD Cert.ADxRefIdeal.τ Cert.ADxRefIdeal.sig) → Buf (Elt Ideal) ℓ) (g' : Dev Cert.ADxRefIdeal.nD → PrngReg), Pre_ADxIdeal m →
    (∀ c : Dev Cert.ADxIdeal.nD,
      m' ((c.tc : Thread Cert.ADxRefIdeal.nD Cert.ADxRefIdeal.τ).loc Cert.ADxRefIdeal.main_arg0) = m ((c.tc : Thread Cert.ADxIdeal.nD Cert.ADxIdeal.τ).loc Cert.ADxIdeal.main_arg0)
      ∧ m' ((c.tc : Thread Cert.ADxRefIdeal.nD Cert.ADxRefIdeal.τ).loc Cert.ADxRefIdeal.main_arg1) = m ((c.tc : Thread Cert.ADxIdeal.nD Cert.ADxIdeal.τ).loc Cert.ADxIdeal.main_arg1)
      ∧ m' ((c.tc : Thread Cert.ADxRefIdeal.nD Cert.ADxRefIdeal.τ).loc Cert.ADxRefIdeal.main_arg2) = m ((c.tc : Thread Cert.ADxIdeal.nD Cert.ADxIdeal.τ).loc Cert.ADxIdeal.main_arg2)) →
    ∃ (v0 : (c : Dev Cert.ADxIdeal.nD) → Buf (Elt Ideal) ((c.tc : Thread Cert.ADxIdeal.nD Cert.ADxIdeal.τ).loc Cert.ADxIdeal.main_v5)),
      θ_run (Cert.ADxIdeal.defs (F := Ideal)) (onTc (τ := Cert.ADxIdeal.τ) (Cert.ADxIdeal.main (F := Ideal))) ⟨m, fun _ => 0, g⟩ (fun r => ∀ c : Dev Cert.ADxIdeal.nD,
          r.2.mem ((c.tc : Thread Cert.ADxIdeal.nD Cert.ADxIdeal.τ).loc Cert.ADxIdeal.main_v5) = v0 c
          ∧ r.2.mem ((c.tc : Thread Cert.ADxIdeal.nD Cert.ADxIdeal.τ).loc Cert.ADxIdeal.main_arg0) = m ((c.tc : Thread Cert.ADxIdeal.nD Cert.ADxIdeal.τ).loc Cert.ADxIdeal.main_arg0)
          ∧ r.2.mem ((c.tc : Thread Cert.ADxIdeal.nD Cert.ADxIdeal.τ).loc Cert.ADxIdeal.main_arg1) = m ((c.tc : Thread Cert.ADxIdeal.nD Cert.ADxIdeal.τ).loc Cert.ADxIdeal.main_arg1)
          ∧ r.2.mem ((c.tc : Thread Cert.ADxIdeal.nD Cert.ADxIdeal.τ).loc Cert.ADxIdeal.main_arg2) = m ((c.tc : Thread Cert.ADxIdeal.nD Cert.ADxIdeal.τ).loc Cert.ADxIdeal.main_arg2))
      ∧ θ_run (Cert.ADxRefIdeal.defs (F := Ideal)) (onTc (τ := Cert.ADxRefIdeal.τ) (Cert.ADxRefIdeal.main (F := Ideal))) ⟨m', fun _ => 0, g'⟩ (fun r => ∀ c : Dev Cert.ADxRefIdeal.nD,
          r.2.mem ((c.tc : Thread Cert.ADxRefIdeal.nD Cert.ADxRefIdeal.τ).loc Cert.ADxRefIdeal.main_v8) = v0 c
          ∧ r.2.mem ((c.tc : Thread Cert.ADxRefIdeal.nD Cert.ADxRefIdeal.τ).loc Cert.ADxRefIdeal.main_arg0) = m' ((c.tc : Thread Cert.ADxRefIdeal.nD Cert.ADxRefIdeal.τ).loc Cert.ADxRefIdeal.main_arg0)
          ∧ r.2.mem ((c.tc : Thread Cert.ADxRefIdeal.nD Cert.ADxRefIdeal.τ).loc Cert.ADxRefIdeal.main_arg1) = m' ((c.tc : Thread Cert.ADxRefIdeal.nD Cert.ADxRefIdeal.τ).loc Cert.ADxRefIdeal.main_arg1)
          ∧ r.2.mem ((c.tc : Thread Cert.ADxRefIdeal.nD Cert.ADxRefIdeal.τ).loc Cert.ADxRefIdeal.main_arg2) = m' ((c.tc : Thread Cert.ADxRefIdeal.nD Cert.ADxRefIdeal.τ).loc Cert.ADxRefIdeal.main_arg2))

def preserves_MixLn_MixLnIdeal : Prop :=
  True

def algebraic_MixLnIdeal_MixLnRefIdeal_pre_finite_products [hMixLnIdeal : Cert.MixLnIdeal.Facts] [hMixLnRefIdeal : Cert.MixLnRefIdeal.Facts] [hPre_finite_products : Cert.Pre_finite_products.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.MixLnRefIdeal.nD Cert.MixLnRefIdeal.τ Cert.MixLnRefIdeal.sig) → Buf (Elt Ideal) ℓ) (g' : Dev Cert.MixLnRefIdeal.nD → PrngReg), Pre_MixLnIdeal_finite_products m →
    (∀ c : Dev Cert.MixLnIdeal.nD,
      m' ((c.tc : Thread Cert.MixLnRefIdeal.nD Cert.MixLnRefIdeal.τ).loc Cert.MixLnRefIdeal.main_arg0) = m ((c.tc : Thread Cert.MixLnIdeal.nD Cert.MixLnIdeal.τ).loc Cert.MixLnIdeal.main_arg0)
      ∧ m' ((c.tc : Thread Cert.MixLnRefIdeal.nD Cert.MixLnRefIdeal.τ).loc Cert.MixLnRefIdeal.main_arg1) = m ((c.tc : Thread Cert.MixLnIdeal.nD Cert.MixLnIdeal.τ).loc Cert.MixLnIdeal.main_arg1)
      ∧ m' ((c.tc : Thread Cert.MixLnRefIdeal.nD Cert.MixLnRefIdeal.τ).loc Cert.MixLnRefIdeal.main_arg2) = m ((c.tc : Thread Cert.MixLnIdeal.nD Cert.MixLnIdeal.τ).loc Cert.MixLnIdeal.main_arg2)
      ∧ m' ((c.tc : Thread Cert.MixLnRefIdeal.nD Cert.MixLnRefIdeal.τ).loc Cert.MixLnRefIdeal.main_arg3) = m ((c.tc : Thread Cert.MixLnIdeal.nD Cert.MixLnIdeal.τ).loc Cert.MixLnIdeal.main_arg3)
      ∧ m' ((c.tc : Thread Cert.MixLnRefIdeal.nD Cert.MixLnRefIdeal.τ).loc Cert.MixLnRefIdeal.main_arg4) = m ((c.tc : Thread Cert.MixLnIdeal.nD Cert.MixLnIdeal.τ).loc Cert.MixLnIdeal.main_arg4)
      ∧ m' ((c.tc : Thread Cert.MixLnRefIdeal.nD Cert.MixLnRefIdeal.τ).loc Cert.MixLnRefIdeal.main_arg5) = m ((c.tc : Thread Cert.MixLnIdeal.nD Cert.MixLnIdeal.τ).loc Cert.MixLnIdeal.main_arg5)) →
    ∃ (v0 : (c : Dev Cert.MixLnIdeal.nD) → Buf (Elt Ideal) ((c.tc : Thread Cert.MixLnIdeal.nD Cert.MixLnIdeal.τ).loc Cert.MixLnIdeal.main_v5_0)) (v1 : (c : Dev Cert.MixLnIdeal.nD) → Buf (Elt Ideal) ((c.tc : Thread Cert.MixLnIdeal.nD Cert.MixLnIdeal.τ).loc Cert.MixLnIdeal.main_v5_1)) (v2 : (c : Dev Cert.MixLnIdeal.nD) → Buf (Elt Ideal) ((c.tc : Thread Cert.MixLnIdeal.nD Cert.MixLnIdeal.τ).loc Cert.MixLnIdeal.main_v5_2)) (v3 : (c : Dev Cert.MixLnIdeal.nD) → Buf (Elt Ideal) ((c.tc : Thread Cert.MixLnIdeal.nD Cert.MixLnIdeal.τ).loc Cert.MixLnIdeal.main_v5_3)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v5_0) = v0 c
          ∧ r.2.mem ((c.tc : Thread Cert.MixLnIdeal.nD Cert.MixLnIdeal.τ).loc Cert.MixLnIdeal.main_v5_1) = v1 c
          ∧ r.2.mem ((c.tc : Thread Cert.MixLnIdeal.nD Cert.MixLnIdeal.τ).loc Cert.MixLnIdeal.main_v5_2) = v2 c
          ∧ r.2.mem ((c.tc : Thread Cert.MixLnIdeal.nD Cert.MixLnIdeal.τ).loc Cert.MixLnIdeal.main_v5_3) = v3 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
          ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5))
      ∧ θ_run (Cert.MixLnRefIdeal.defs (F := Ideal)) (onTc (τ := Cert.MixLnRefIdeal.τ) (Cert.MixLnRefIdeal.main (F := Ideal))) ⟨m', fun _ => 0, g'⟩ (fun r => ∀ c : Dev Cert.MixLnRefIdeal.nD,
          r.2.mem ((c.tc : Thread Cert.MixLnRefIdeal.nD Cert.MixLnRefIdeal.τ).loc Cert.MixLnRefIdeal.main_v70) = v0 c
          ∧ r.2.mem ((c.tc : Thread Cert.MixLnRefIdeal.nD Cert.MixLnRefIdeal.τ).loc Cert.MixLnRefIdeal.main_v80) = v1 c
          ∧ r.2.mem ((c.tc : Thread Cert.MixLnRefIdeal.nD Cert.MixLnRefIdeal.τ).loc Cert.MixLnRefIdeal.main_v74) = v2 c
          ∧ r.2.mem ((c.tc : Thread Cert.MixLnRefIdeal.nD Cert.MixLnRefIdeal.τ).loc Cert.MixLnRefIdeal.main_v79) = v3 c
          ∧ r.2.mem ((c.tc : Thread Cert.MixLnRefIdeal.nD Cert.MixLnRefIdeal.τ).loc Cert.MixLnRefIdeal.main_arg0) = m' ((c.tc : Thread Cert.MixLnRefIdeal.nD Cert.MixLnRefIdeal.τ).loc Cert.MixLnRefIdeal.main_arg0)
          ∧ r.2.mem ((c.tc : Thread Cert.MixLnRefIdeal.nD Cert.MixLnRefIdeal.τ).loc Cert.MixLnRefIdeal.main_arg1) = m' ((c.tc : Thread Cert.MixLnRefIdeal.nD Cert.MixLnRefIdeal.τ).loc Cert.MixLnRefIdeal.main_arg1)
          ∧ r.2.mem ((c.tc : Thread Cert.MixLnRefIdeal.nD Cert.MixLnRefIdeal.τ).loc Cert.MixLnRefIdeal.main_arg2) = m' ((c.tc : Thread Cert.MixLnRefIdeal.nD Cert.MixLnRefIdeal.τ).loc Cert.MixLnRefIdeal.main_arg2)
          ∧ r.2.mem ((c.tc : Thread Cert.MixLnRefIdeal.nD Cert.MixLnRefIdeal.τ).loc Cert.MixLnRefIdeal.main_arg3) = m' ((c.tc : Thread Cert.MixLnRefIdeal.nD Cert.MixLnRefIdeal.τ).loc Cert.MixLnRefIdeal.main_arg3)
          ∧ r.2.mem ((c.tc : Thread Cert.MixLnRefIdeal.nD Cert.MixLnRefIdeal.τ).loc Cert.MixLnRefIdeal.main_arg4) = m' ((c.tc : Thread Cert.MixLnRefIdeal.nD Cert.MixLnRefIdeal.τ).loc Cert.MixLnRefIdeal.main_arg4)
          ∧ r.2.mem ((c.tc : Thread Cert.MixLnRefIdeal.nD Cert.MixLnRefIdeal.τ).loc Cert.MixLnRefIdeal.main_arg5) = m' ((c.tc : Thread Cert.MixLnRefIdeal.nD Cert.MixLnRefIdeal.τ).loc Cert.MixLnRefIdeal.main_arg5))

def preserves_BDx_BDxIdeal : Prop :=
  True

def algebraic_BDxIdeal_BDxRefIdeal [hBDxIdeal : Cert.BDxIdeal.Facts] [hBDxRefIdeal : Cert.BDxRefIdeal.Facts] : Prop :=
  ∀ (m : (ℓ : Loc Cert.BDxIdeal.nD Cert.BDxIdeal.τ Cert.BDxIdeal.sig) → Buf (Elt Ideal) ℓ) (g : Dev Cert.BDxIdeal.nD → PrngReg)
    (m' : (ℓ : Loc Cert.BDxRefIdeal.nD Cert.BDxRefIdeal.τ Cert.BDxRefIdeal.sig) → Buf (Elt Ideal) ℓ) (g' : Dev Cert.BDxRefIdeal.nD → PrngReg), Pre_BDxIdeal m →
    (∀ c : Dev Cert.BDxIdeal.nD,
      m' ((c.tc : Thread Cert.BDxRefIdeal.nD Cert.BDxRefIdeal.τ).loc Cert.BDxRefIdeal.main_arg0) = m ((c.tc : Thread Cert.BDxIdeal.nD Cert.BDxIdeal.τ).loc Cert.BDxIdeal.main_arg0)
      ∧ m' ((c.tc : Thread Cert.BDxRefIdeal.nD Cert.BDxRefIdeal.τ).loc Cert.BDxRefIdeal.main_arg1) = m ((c.tc : Thread Cert.BDxIdeal.nD Cert.BDxIdeal.τ).loc Cert.BDxIdeal.main_arg1)
      ∧ m' ((c.tc : Thread Cert.BDxRefIdeal.nD Cert.BDxRefIdeal.τ).loc Cert.BDxRefIdeal.main_arg2) = m ((c.tc : Thread Cert.BDxIdeal.nD Cert.BDxIdeal.τ).loc Cert.BDxIdeal.main_arg2)) →
    ∃ (v0 : (c : Dev Cert.BDxIdeal.nD) → Buf (Elt Ideal) ((c.tc : Thread Cert.BDxIdeal.nD Cert.BDxIdeal.τ).loc Cert.BDxIdeal.main_v5)),
      θ_run (Cert.BDxIdeal.defs (F := Ideal)) (onTc (τ := Cert.BDxIdeal.τ) (Cert.BDxIdeal.main (F := Ideal))) ⟨m, fun _ => 0, g⟩ (fun r => ∀ c : Dev Cert.BDxIdeal.nD,
          r.2.mem ((c.tc : Thread Cert.BDxIdeal.nD Cert.BDxIdeal.τ).loc Cert.BDxIdeal.main_v5) = v0 c
          ∧ r.2.mem ((c.tc : Thread Cert.BDxIdeal.nD Cert.BDxIdeal.τ).loc Cert.BDxIdeal.main_arg0) = m ((c.tc : Thread Cert.BDxIdeal.nD Cert.BDxIdeal.τ).loc Cert.BDxIdeal.main_arg0)
          ∧ r.2.mem ((c.tc : Thread Cert.BDxIdeal.nD Cert.BDxIdeal.τ).loc Cert.BDxIdeal.main_arg1) = m ((c.tc : Thread Cert.BDxIdeal.nD Cert.BDxIdeal.τ).loc Cert.BDxIdeal.main_arg1)
          ∧ r.2.mem ((c.tc : Thread Cert.BDxIdeal.nD Cert.BDxIdeal.τ).loc Cert.BDxIdeal.main_arg2) = m ((c.tc : Thread Cert.BDxIdeal.nD Cert.BDxIdeal.τ).loc Cert.BDxIdeal.main_arg2))
      ∧ θ_run (Cert.BDxRefIdeal.defs (F := Ideal)) (onTc (τ := Cert.BDxRefIdeal.τ) (Cert.BDxRefIdeal.main (F := Ideal))) ⟨m', fun _ => 0, g'⟩ (fun r => ∀ c : Dev Cert.BDxRefIdeal.nD,
          r.2.mem ((c.tc : Thread Cert.BDxRefIdeal.nD Cert.BDxRefIdeal.τ).loc Cert.BDxRefIdeal.main_v8) = v0 c
          ∧ r.2.mem ((c.tc : Thread Cert.BDxRefIdeal.nD Cert.BDxRefIdeal.τ).loc Cert.BDxRefIdeal.main_arg0) = m' ((c.tc : Thread Cert.BDxRefIdeal.nD Cert.BDxRefIdeal.τ).loc Cert.BDxRefIdeal.main_arg0)
          ∧ r.2.mem ((c.tc : Thread Cert.BDxRefIdeal.nD Cert.BDxRefIdeal.τ).loc Cert.BDxRefIdeal.main_arg1) = m' ((c.tc : Thread Cert.BDxRefIdeal.nD Cert.BDxRefIdeal.τ).loc Cert.BDxRefIdeal.main_arg1)
          ∧ r.2.mem ((c.tc : Thread Cert.BDxRefIdeal.nD Cert.BDxRefIdeal.τ).loc Cert.BDxRefIdeal.main_arg2) = m' ((c.tc : Thread Cert.BDxRefIdeal.nD Cert.BDxRefIdeal.τ).loc Cert.BDxRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_ADwIn_ADwInIdeal : Prop :=
  True

def algebraic_ADwInIdeal_ADwInRefIdeal [hADwInIdeal : Cert.ADwInIdeal.Facts] [hADwInRefIdeal : Cert.ADwInRefIdeal.Facts] : Prop :=
  ∀ (m : (ℓ : Loc Cert.ADwInIdeal.nD Cert.ADwInIdeal.τ Cert.ADwInIdeal.sig) → Buf (Elt Ideal) ℓ) (g : Dev Cert.ADwInIdeal.nD → PrngReg)
    (m' : (ℓ : Loc Cert.ADwInRefIdeal.nD Cert.ADwInRefIdeal.τ Cert.ADwInRefIdeal.sig) → Buf (Elt Ideal) ℓ) (g' : Dev Cert.ADwInRefIdeal.nD → PrngReg), Pre_ADwInIdeal m →
    (∀ c : Dev Cert.ADwInIdeal.nD,
      m' ((c.tc : Thread Cert.ADwInRefIdeal.nD Cert.ADwInRefIdeal.τ).loc Cert.ADwInRefIdeal.main_arg0) = m ((c.tc : Thread Cert.ADwInIdeal.nD Cert.ADwInIdeal.τ).loc Cert.ADwInIdeal.main_arg0)
      ∧ m' ((c.tc : Thread Cert.ADwInRefIdeal.nD Cert.ADwInRefIdeal.τ).loc Cert.ADwInRefIdeal.main_arg1) = m ((c.tc : Thread Cert.ADwInIdeal.nD Cert.ADwInIdeal.τ).loc Cert.ADwInIdeal.main_arg1)) →
    ∃ (v0 : (c : Dev Cert.ADwInIdeal.nD) → Buf (Elt Ideal) ((c.tc : Thread Cert.ADwInIdeal.nD Cert.ADwInIdeal.τ).loc Cert.ADwInIdeal.main_v3)),
      θ_run (Cert.ADwInIdeal.defs (F := Ideal)) (onTc (τ := Cert.ADwInIdeal.τ) (Cert.ADwInIdeal.main (F := Ideal))) ⟨m, fun _ => 0, g⟩ (fun r => ∀ c : Dev Cert.ADwInIdeal.nD,
          r.2.mem ((c.tc : Thread Cert.ADwInIdeal.nD Cert.ADwInIdeal.τ).loc Cert.ADwInIdeal.main_v3) = v0 c
          ∧ r.2.mem ((c.tc : Thread Cert.ADwInIdeal.nD Cert.ADwInIdeal.τ).loc Cert.ADwInIdeal.main_arg0) = m ((c.tc : Thread Cert.ADwInIdeal.nD Cert.ADwInIdeal.τ).loc Cert.ADwInIdeal.main_arg0)
          ∧ r.2.mem ((c.tc : Thread Cert.ADwInIdeal.nD Cert.ADwInIdeal.τ).loc Cert.ADwInIdeal.main_arg1) = m ((c.tc : Thread Cert.ADwInIdeal.nD Cert.ADwInIdeal.τ).loc Cert.ADwInIdeal.main_arg1))
      ∧ θ_run (Cert.ADwInRefIdeal.defs (F := Ideal)) (onTc (τ := Cert.ADwInRefIdeal.τ) (Cert.ADwInRefIdeal.main (F := Ideal))) ⟨m', fun _ => 0, g'⟩ (fun r => ∀ c : Dev Cert.ADwInRefIdeal.nD,
          r.2.mem ((c.tc : Thread Cert.ADwInRefIdeal.nD Cert.ADwInRefIdeal.τ).loc Cert.ADwInRefIdeal.main_v8) = v0 c
          ∧ r.2.mem ((c.tc : Thread Cert.ADwInRefIdeal.nD Cert.ADwInRefIdeal.τ).loc Cert.ADwInRefIdeal.main_arg0) = m' ((c.tc : Thread Cert.ADwInRefIdeal.nD Cert.ADwInRefIdeal.τ).loc Cert.ADwInRefIdeal.main_arg0)
          ∧ r.2.mem ((c.tc : Thread Cert.ADwInRefIdeal.nD Cert.ADwInRefIdeal.τ).loc Cert.ADwInRefIdeal.main_arg1) = m' ((c.tc : Thread Cert.ADwInRefIdeal.nD Cert.ADwInRefIdeal.τ).loc Cert.ADwInRefIdeal.main_arg1))

def preserves_BDwIn_BDwInIdeal : Prop :=
  True

def algebraic_BDwInIdeal_BDwInRefIdeal [hBDwInIdeal : Cert.BDwInIdeal.Facts] [hBDwInRefIdeal : Cert.BDwInRefIdeal.Facts] : Prop :=
  ∀ (m : (ℓ : Loc Cert.BDwInIdeal.nD Cert.BDwInIdeal.τ Cert.BDwInIdeal.sig) → Buf (Elt Ideal) ℓ) (g : Dev Cert.BDwInIdeal.nD → PrngReg)
    (m' : (ℓ : Loc Cert.BDwInRefIdeal.nD Cert.BDwInRefIdeal.τ Cert.BDwInRefIdeal.sig) → Buf (Elt Ideal) ℓ) (g' : Dev Cert.BDwInRefIdeal.nD → PrngReg), Pre_BDwInIdeal m →
    (∀ c : Dev Cert.BDwInIdeal.nD,
      m' ((c.tc : Thread Cert.BDwInRefIdeal.nD Cert.BDwInRefIdeal.τ).loc Cert.BDwInRefIdeal.main_arg0) = m ((c.tc : Thread Cert.BDwInIdeal.nD Cert.BDwInIdeal.τ).loc Cert.BDwInIdeal.main_arg0)
      ∧ m' ((c.tc : Thread Cert.BDwInRefIdeal.nD Cert.BDwInRefIdeal.τ).loc Cert.BDwInRefIdeal.main_arg1) = m ((c.tc : Thread Cert.BDwInIdeal.nD Cert.BDwInIdeal.τ).loc Cert.BDwInIdeal.main_arg1)) →
    ∃ (v0 : (c : Dev Cert.BDwInIdeal.nD) → Buf (Elt Ideal) ((c.tc : Thread Cert.BDwInIdeal.nD Cert.BDwInIdeal.τ).loc Cert.BDwInIdeal.main_v3)),
      θ_run (Cert.BDwInIdeal.defs (F := Ideal)) (onTc (τ := Cert.BDwInIdeal.τ) (Cert.BDwInIdeal.main (F := Ideal))) ⟨m, fun _ => 0, g⟩ (fun r => ∀ c : Dev Cert.BDwInIdeal.nD,
          r.2.mem ((c.tc : Thread Cert.BDwInIdeal.nD Cert.BDwInIdeal.τ).loc Cert.BDwInIdeal.main_v3) = v0 c
          ∧ r.2.mem ((c.tc : Thread Cert.BDwInIdeal.nD Cert.BDwInIdeal.τ).loc Cert.BDwInIdeal.main_arg0) = m ((c.tc : Thread Cert.BDwInIdeal.nD Cert.BDwInIdeal.τ).loc Cert.BDwInIdeal.main_arg0)
          ∧ r.2.mem ((c.tc : Thread Cert.BDwInIdeal.nD Cert.BDwInIdeal.τ).loc Cert.BDwInIdeal.main_arg1) = m ((c.tc : Thread Cert.BDwInIdeal.nD Cert.BDwInIdeal.τ).loc Cert.BDwInIdeal.main_arg1))
      ∧ θ_run (Cert.BDwInRefIdeal.defs (F := Ideal)) (onTc (τ := Cert.BDwInRefIdeal.τ) (Cert.BDwInRefIdeal.main (F := Ideal))) ⟨m', fun _ => 0, g'⟩ (fun r => ∀ c : Dev Cert.BDwInRefIdeal.nD,
          r.2.mem ((c.tc : Thread Cert.BDwInRefIdeal.nD Cert.BDwInRefIdeal.τ).loc Cert.BDwInRefIdeal.main_v7) = v0 c
          ∧ r.2.mem ((c.tc : Thread Cert.BDwInRefIdeal.nD Cert.BDwInRefIdeal.τ).loc Cert.BDwInRefIdeal.main_arg0) = m' ((c.tc : Thread Cert.BDwInRefIdeal.nD Cert.BDwInRefIdeal.τ).loc Cert.BDwInRefIdeal.main_arg0)
          ∧ r.2.mem ((c.tc : Thread Cert.BDwInRefIdeal.nD Cert.BDwInRefIdeal.τ).loc Cert.BDwInRefIdeal.main_arg1) = m' ((c.tc : Thread Cert.BDwInRefIdeal.nD Cert.BDwInRefIdeal.τ).loc Cert.BDwInRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v6) = v1 c
          ∧ r.2.mem ((c.tc : Thread Cert.FfnFwdRefIdeal.nD Cert.FfnFwdRefIdeal.τ).loc Cert.FfnFwdRefIdeal.main_v32) = v2 c
          ∧ r.2.mem ((c.tc : Thread Cert.FfnFwdRefIdeal.nD Cert.FfnFwdRefIdeal.τ).loc Cert.FfnFwdRefIdeal.main_v34) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v5)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v5) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v2) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)
      ∧ m' ((c.tc : Thread Cert.BInRefIdeal.nD Cert.BInRefIdeal.τ).loc Cert.BInRefIdeal.main_arg2) = m ((c.tc : Thread Cert.BInIdeal.nD Cert.BInIdeal.τ).loc Cert.BInIdeal.main_arg2)) →
    ∃ (v0 : (c : Dev Cert.BInIdeal.nD) → Buf (Elt Ideal) ((c.tc : Thread Cert.BInIdeal.nD Cert.BInIdeal.τ).loc Cert.BInIdeal.main_v5)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v5) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
          ∧ r.2.mem ((c.tc : Thread Cert.BInIdeal.nD Cert.BInIdeal.τ).loc Cert.BInIdeal.main_arg2) = m ((c.tc : Thread Cert.BInIdeal.nD Cert.BInIdeal.τ).loc Cert.BInIdeal.main_arg2))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v6) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1)
          ∧ r.2.mem ((c.tc : Thread Cert.BInRefIdeal.nD Cert.BInRefIdeal.τ).loc Cert.BInRefIdeal.main_arg2) = m' ((c.tc : Thread Cert.BInRefIdeal.nD Cert.BInRefIdeal.τ).loc Cert.BInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)) (v2 : (c : Dev Cert.MixOutIdeal.nD) → Buf (Elt Ideal) ((c.tc : Thread Cert.MixOutIdeal.nD Cert.MixOutIdeal.τ).loc Cert.MixOutIdeal.main_v2_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_v2_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v7) = v0 c
          ∧ r.2.mem ((c.tc : Thread Cert.MixOutRefIdeal.nD Cert.MixOutRefIdeal.τ).loc Cert.MixOutRefIdeal.main_v33) = v1 c
          ∧ r.2.mem ((c.tc : Thread Cert.MixOutRefIdeal.nD Cert.MixOutRefIdeal.τ).loc Cert.MixOutRefIdeal.main_v34) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_FfnDx_FfnDxIdeal : Prop :=
  True

def algebraic_FfnDxIdeal_FfnDxRefIdeal_pre_finite_ffn_products [hFfnDxIdeal : Cert.FfnDxIdeal.Facts] [hFfnDxRefIdeal : Cert.FfnDxRefIdeal.Facts] [hPre_finite_ffn_products : Cert.Pre_finite_ffn_products.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_finite_ffn_products m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v12_0)) (v1 : (c : Dev Cert.FfnDxIdeal.nD) → Buf (Elt Ideal) ((c.tc : Thread Cert.FfnDxIdeal.nD Cert.FfnDxIdeal.τ).loc Cert.FfnDxIdeal.main_v12_1)) (v2 : (c : Dev Cert.FfnDxIdeal.nD) → Buf (Elt Ideal) ((c.tc : Thread Cert.FfnDxIdeal.nD Cert.FfnDxIdeal.τ).loc Cert.FfnDxIdeal.main_v12_2)) (v3 : (c : Dev Cert.FfnDxIdeal.nD) → Buf (Elt Ideal) ((c.tc : Thread Cert.FfnDxIdeal.nD Cert.FfnDxIdeal.τ).loc Cert.FfnDxIdeal.main_v12_3)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v12_0) = v0 c
          ∧ r.2.mem ((c.tc : Thread Cert.FfnDxIdeal.nD Cert.FfnDxIdeal.τ).loc Cert.FfnDxIdeal.main_v12_1) = v1 c
          ∧ r.2.mem ((c.tc : Thread Cert.FfnDxIdeal.nD Cert.FfnDxIdeal.τ).loc Cert.FfnDxIdeal.main_v12_2) = v2 c
          ∧ r.2.mem ((c.tc : Thread Cert.FfnDxIdeal.nD Cert.FfnDxIdeal.τ).loc Cert.FfnDxIdeal.main_v12_3) = v3 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v89) = v0 c
          ∧ r.2.mem ((c.tc : Thread Cert.FfnDxRefIdeal.nD Cert.FfnDxRefIdeal.τ).loc Cert.FfnDxRefIdeal.main_v84) = v1 c
          ∧ r.2.mem ((c.tc : Thread Cert.FfnDxRefIdeal.nD Cert.FfnDxRefIdeal.τ).loc Cert.FfnDxRefIdeal.main_v90) = v2 c
          ∧ r.2.mem ((c.tc : Thread Cert.FfnDxRefIdeal.nD Cert.FfnDxRefIdeal.τ).loc Cert.FfnDxRefIdeal.main_v88) = v3 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_OptLn_OptLnIdeal : Prop :=
  True

def algebraic_OptLnIdeal_OptLnRefIdeal [hOptLnIdeal : Cert.OptLnIdeal.Facts] [hOptLnRefIdeal : Cert.OptLnRefIdeal.Facts] : Prop :=
  ∀ (m : (ℓ : Loc Cert.OptLnIdeal.nD Cert.OptLnIdeal.τ Cert.OptLnIdeal.sig) → Buf (Elt Ideal) ℓ) (g : Dev Cert.OptLnIdeal.nD → PrngReg)
    (m' : (ℓ : Loc Cert.OptLnRefIdeal.nD Cert.OptLnRefIdeal.τ Cert.OptLnRefIdeal.sig) → Buf (Elt Ideal) ℓ) (g' : Dev Cert.OptLnRefIdeal.nD → PrngReg), Pre_OptLnIdeal m →
    (∀ c : Dev Cert.OptLnIdeal.nD,
      m' ((c.tc : Thread Cert.OptLnRefIdeal.nD Cert.OptLnRefIdeal.τ).loc Cert.OptLnRefIdeal.main_arg0) = m ((c.tc : Thread Cert.OptLnIdeal.nD Cert.OptLnIdeal.τ).loc Cert.OptLnIdeal.main_arg0)
      ∧ m' ((c.tc : Thread Cert.OptLnRefIdeal.nD Cert.OptLnRefIdeal.τ).loc Cert.OptLnRefIdeal.main_arg1) = m ((c.tc : Thread Cert.OptLnIdeal.nD Cert.OptLnIdeal.τ).loc Cert.OptLnIdeal.main_arg1)
      ∧ m' ((c.tc : Thread Cert.OptLnRefIdeal.nD Cert.OptLnRefIdeal.τ).loc Cert.OptLnRefIdeal.main_arg2) = m ((c.tc : Thread Cert.OptLnIdeal.nD Cert.OptLnIdeal.τ).loc Cert.OptLnIdeal.main_arg2)
      ∧ m' ((c.tc : Thread Cert.OptLnRefIdeal.nD Cert.OptLnRefIdeal.τ).loc Cert.OptLnRefIdeal.main_arg3) = m ((c.tc : Thread Cert.OptLnIdeal.nD Cert.OptLnIdeal.τ).loc Cert.OptLnIdeal.main_arg3)) →
    ∃ (v0 : (c : Dev Cert.OptLnIdeal.nD) → Buf (Elt Ideal) ((c.tc : Thread Cert.OptLnIdeal.nD Cert.OptLnIdeal.τ).loc Cert.OptLnIdeal.main_v0_0)) (v1 : (c : Dev Cert.OptLnIdeal.nD) → Buf (Elt Ideal) ((c.tc : Thread Cert.OptLnIdeal.nD Cert.OptLnIdeal.τ).loc Cert.OptLnIdeal.main_v0_1)) (v2 : (c : Dev Cert.OptLnIdeal.nD) → Buf (Elt Ideal) ((c.tc : Thread Cert.OptLnIdeal.nD Cert.OptLnIdeal.τ).loc Cert.OptLnIdeal.main_v0_2)),
      θ_run (Cert.OptLnIdeal.defs (F := Ideal)) (onTc (τ := Cert.OptLnIdeal.τ) (Cert.OptLnIdeal.main (F := Ideal))) ⟨m, fun _ => 0, g⟩ (fun r => ∀ c : Dev Cert.OptLnIdeal.nD,
          r.2.mem ((c.tc : Thread Cert.OptLnIdeal.nD Cert.OptLnIdeal.τ).loc Cert.OptLnIdeal.main_v0_0) = v0 c
          ∧ r.2.mem ((c.tc : Thread Cert.OptLnIdeal.nD Cert.OptLnIdeal.τ).loc Cert.OptLnIdeal.main_v0_1) = v1 c
          ∧ r.2.mem ((c.tc : Thread Cert.OptLnIdeal.nD Cert.OptLnIdeal.τ).loc Cert.OptLnIdeal.main_v0_2) = v2 c
          ∧ r.2.mem ((c.tc : Thread Cert.OptLnIdeal.nD Cert.OptLnIdeal.τ).loc Cert.OptLnIdeal.main_arg0) = m ((c.tc : Thread Cert.OptLnIdeal.nD Cert.OptLnIdeal.τ).loc Cert.OptLnIdeal.main_arg0)
          ∧ r.2.mem ((c.tc : Thread Cert.OptLnIdeal.nD Cert.OptLnIdeal.τ).loc Cert.OptLnIdeal.main_arg1) = m ((c.tc : Thread Cert.OptLnIdeal.nD Cert.OptLnIdeal.τ).loc Cert.OptLnIdeal.main_arg1)
          ∧ r.2.mem ((c.tc : Thread Cert.OptLnIdeal.nD Cert.OptLnIdeal.τ).loc Cert.OptLnIdeal.main_arg2) = m ((c.tc : Thread Cert.OptLnIdeal.nD Cert.OptLnIdeal.τ).loc Cert.OptLnIdeal.main_arg2)
          ∧ r.2.mem ((c.tc : Thread Cert.OptLnIdeal.nD Cert.OptLnIdeal.τ).loc Cert.OptLnIdeal.main_arg3) = m ((c.tc : Thread Cert.OptLnIdeal.nD Cert.OptLnIdeal.τ).loc Cert.OptLnIdeal.main_arg3))
      ∧ θ_run (Cert.OptLnRefIdeal.defs (F := Ideal)) (onTc (τ := Cert.OptLnRefIdeal.τ) (Cert.OptLnRefIdeal.main (F := Ideal))) ⟨m', fun _ => 0, g'⟩ (fun r => ∀ c : Dev Cert.OptLnRefIdeal.nD,
          r.2.mem ((c.tc : Thread Cert.OptLnRefIdeal.nD Cert.OptLnRefIdeal.τ).loc Cert.OptLnRefIdeal.main_v23) = v0 c
          ∧ r.2.mem ((c.tc : Thread Cert.OptLnRefIdeal.nD Cert.OptLnRefIdeal.τ).loc Cert.OptLnRefIdeal.main_v4) = v1 c
          ∧ r.2.mem ((c.tc : Thread Cert.OptLnRefIdeal.nD Cert.OptLnRefIdeal.τ).loc Cert.OptLnRefIdeal.main_v10) = v2 c
          ∧ r.2.mem ((c.tc : Thread Cert.OptLnRefIdeal.nD Cert.OptLnRefIdeal.τ).loc Cert.OptLnRefIdeal.main_arg0) = m' ((c.tc : Thread Cert.OptLnRefIdeal.nD Cert.OptLnRefIdeal.τ).loc Cert.OptLnRefIdeal.main_arg0)
          ∧ r.2.mem ((c.tc : Thread Cert.OptLnRefIdeal.nD Cert.OptLnRefIdeal.τ).loc Cert.OptLnRefIdeal.main_arg1) = m' ((c.tc : Thread Cert.OptLnRefIdeal.nD Cert.OptLnRefIdeal.τ).loc Cert.OptLnRefIdeal.main_arg1)
          ∧ r.2.mem ((c.tc : Thread Cert.OptLnRefIdeal.nD Cert.OptLnRefIdeal.τ).loc Cert.OptLnRefIdeal.main_arg2) = m' ((c.tc : Thread Cert.OptLnRefIdeal.nD Cert.OptLnRefIdeal.τ).loc Cert.OptLnRefIdeal.main_arg2)
          ∧ r.2.mem ((c.tc : Thread Cert.OptLnRefIdeal.nD Cert.OptLnRefIdeal.τ).loc Cert.OptLnRefIdeal.main_arg3) = m' ((c.tc : Thread Cert.OptLnRefIdeal.nD Cert.OptLnRefIdeal.τ).loc Cert.OptLnRefIdeal.main_arg3))

def preserves_OptFfn_OptFfnIdeal : Prop :=
  True

def algebraic_OptFfnIdeal_OptFfnRefIdeal [hOptFfnIdeal : Cert.OptFfnIdeal.Facts] [hOptFfnRefIdeal : Cert.OptFfnRefIdeal.Facts] : Prop :=
  ∀ (m : (ℓ : Loc Cert.OptFfnIdeal.nD Cert.OptFfnIdeal.τ Cert.OptFfnIdeal.sig) → Buf (Elt Ideal) ℓ) (g : Dev Cert.OptFfnIdeal.nD → PrngReg)
    (m' : (ℓ : Loc Cert.OptFfnRefIdeal.nD Cert.OptFfnRefIdeal.τ Cert.OptFfnRefIdeal.sig) → Buf (Elt Ideal) ℓ) (g' : Dev Cert.OptFfnRefIdeal.nD → PrngReg), Pre_OptFfnIdeal m →
    (∀ c : Dev Cert.OptFfnIdeal.nD,
      m' ((c.tc : Thread Cert.OptFfnRefIdeal.nD Cert.OptFfnRefIdeal.τ).loc Cert.OptFfnRefIdeal.main_arg0) = m ((c.tc : Thread Cert.OptFfnIdeal.nD Cert.OptFfnIdeal.τ).loc Cert.OptFfnIdeal.main_arg0)
      ∧ m' ((c.tc : Thread Cert.OptFfnRefIdeal.nD Cert.OptFfnRefIdeal.τ).loc Cert.OptFfnRefIdeal.main_arg1) = m ((c.tc : Thread Cert.OptFfnIdeal.nD Cert.OptFfnIdeal.τ).loc Cert.OptFfnIdeal.main_arg1)
      ∧ m' ((c.tc : Thread Cert.OptFfnRefIdeal.nD Cert.OptFfnRefIdeal.τ).loc Cert.OptFfnRefIdeal.main_arg2) = m ((c.tc : Thread Cert.OptFfnIdeal.nD Cert.OptFfnIdeal.τ).loc Cert.OptFfnIdeal.main_arg2)
      ∧ m' ((c.tc : Thread Cert.OptFfnRefIdeal.nD Cert.OptFfnRefIdeal.τ).loc Cert.OptFfnRefIdeal.main_arg3) = m ((c.tc : Thread Cert.OptFfnIdeal.nD Cert.OptFfnIdeal.τ).loc Cert.OptFfnIdeal.main_arg3)) →
    ∃ (v0 : (c : Dev Cert.OptFfnIdeal.nD) → Buf (Elt Ideal) ((c.tc : Thread Cert.OptFfnIdeal.nD Cert.OptFfnIdeal.τ).loc Cert.OptFfnIdeal.main_v4_0)) (v1 : (c : Dev Cert.OptFfnIdeal.nD) → Buf (Elt Ideal) ((c.tc : Thread Cert.OptFfnIdeal.nD Cert.OptFfnIdeal.τ).loc Cert.OptFfnIdeal.main_v4_1)) (v2 : (c : Dev Cert.OptFfnIdeal.nD) → Buf (Elt Ideal) ((c.tc : Thread Cert.OptFfnIdeal.nD Cert.OptFfnIdeal.τ).loc Cert.OptFfnIdeal.main_v4_2)),
      θ_run (Cert.OptFfnIdeal.defs (F := Ideal)) (onTc (τ := Cert.OptFfnIdeal.τ) (Cert.OptFfnIdeal.main (F := Ideal))) ⟨m, fun _ => 0, g⟩ (fun r => ∀ c : Dev Cert.OptFfnIdeal.nD,
          r.2.mem ((c.tc : Thread Cert.OptFfnIdeal.nD Cert.OptFfnIdeal.τ).loc Cert.OptFfnIdeal.main_v4_0) = v0 c
          ∧ r.2.mem ((c.tc : Thread Cert.OptFfnIdeal.nD Cert.OptFfnIdeal.τ).loc Cert.OptFfnIdeal.main_v4_1) = v1 c
          ∧ r.2.mem ((c.tc : Thread Cert.OptFfnIdeal.nD Cert.OptFfnIdeal.τ).loc Cert.OptFfnIdeal.main_v4_2) = v2 c
          ∧ r.2.mem ((c.tc : Thread Cert.OptFfnIdeal.nD Cert.OptFfnIdeal.τ).loc Cert.OptFfnIdeal.main_arg0) = m ((c.tc : Thread Cert.OptFfnIdeal.nD Cert.OptFfnIdeal.τ).loc Cert.OptFfnIdeal.main_arg0)
          ∧ r.2.mem ((c.tc : Thread Cert.OptFfnIdeal.nD Cert.OptFfnIdeal.τ).loc Cert.OptFfnIdeal.main_arg1) = m ((c.tc : Thread Cert.OptFfnIdeal.nD Cert.OptFfnIdeal.τ).loc Cert.OptFfnIdeal.main_arg1)
          ∧ r.2.mem ((c.tc : Thread Cert.OptFfnIdeal.nD Cert.OptFfnIdeal.τ).loc Cert.OptFfnIdeal.main_arg2) = m ((c.tc : Thread Cert.OptFfnIdeal.nD Cert.OptFfnIdeal.τ).loc Cert.OptFfnIdeal.main_arg2)
          ∧ r.2.mem ((c.tc : Thread Cert.OptFfnIdeal.nD Cert.OptFfnIdeal.τ).loc Cert.OptFfnIdeal.main_arg3) = m ((c.tc : Thread Cert.OptFfnIdeal.nD Cert.OptFfnIdeal.τ).loc Cert.OptFfnIdeal.main_arg3))
      ∧ θ_run (Cert.OptFfnRefIdeal.defs (F := Ideal)) (onTc (τ := Cert.OptFfnRefIdeal.τ) (Cert.OptFfnRefIdeal.main (F := Ideal))) ⟨m', fun _ => 0, g'⟩ (fun r => ∀ c : Dev Cert.OptFfnRefIdeal.nD,
          r.2.mem ((c.tc : Thread Cert.OptFfnRefIdeal.nD Cert.OptFfnRefIdeal.τ).loc Cert.OptFfnRefIdeal.main_v24) = v0 c
          ∧ r.2.mem ((c.tc : Thread Cert.OptFfnRefIdeal.nD Cert.OptFfnRefIdeal.τ).loc Cert.OptFfnRefIdeal.main_v25) = v1 c
          ∧ r.2.mem ((c.tc : Thread Cert.OptFfnRefIdeal.nD Cert.OptFfnRefIdeal.τ).loc Cert.OptFfnRefIdeal.main_v26) = v2 c
          ∧ r.2.mem ((c.tc : Thread Cert.OptFfnRefIdeal.nD Cert.OptFfnRefIdeal.τ).loc Cert.OptFfnRefIdeal.main_arg0) = m' ((c.tc : Thread Cert.OptFfnRefIdeal.nD Cert.OptFfnRefIdeal.τ).loc Cert.OptFfnRefIdeal.main_arg0)
          ∧ r.2.mem ((c.tc : Thread Cert.OptFfnRefIdeal.nD Cert.OptFfnRefIdeal.τ).loc Cert.OptFfnRefIdeal.main_arg1) = m' ((c.tc : Thread Cert.OptFfnRefIdeal.nD Cert.OptFfnRefIdeal.τ).loc Cert.OptFfnRefIdeal.main_arg1)
          ∧ r.2.mem ((c.tc : Thread Cert.OptFfnRefIdeal.nD Cert.OptFfnRefIdeal.τ).loc Cert.OptFfnRefIdeal.main_arg2) = m' ((c.tc : Thread Cert.OptFfnRefIdeal.nD Cert.OptFfnRefIdeal.τ).loc Cert.OptFfnRefIdeal.main_arg2)
          ∧ r.2.mem ((c.tc : Thread Cert.OptFfnRefIdeal.nD Cert.OptFfnRefIdeal.τ).loc Cert.OptFfnRefIdeal.main_arg3) = m' ((c.tc : Thread Cert.OptFfnRefIdeal.nD Cert.OptFfnRefIdeal.τ).loc Cert.OptFfnRefIdeal.main_arg3))

def preserves_OptIn_OptInIdeal : Prop :=
  True

def algebraic_OptInIdeal_OptInRefIdeal [hOptInIdeal : Cert.OptInIdeal.Facts] [hOptInRefIdeal : Cert.OptInRefIdeal.Facts] : Prop :=
  ∀ (m : (ℓ : Loc Cert.OptInIdeal.nD Cert.OptInIdeal.τ Cert.OptInIdeal.sig) → Buf (Elt Ideal) ℓ) (g : Dev Cert.OptInIdeal.nD → PrngReg)
    (m' : (ℓ : Loc Cert.OptInRefIdeal.nD Cert.OptInRefIdeal.τ Cert.OptInRefIdeal.sig) → Buf (Elt Ideal) ℓ) (g' : Dev Cert.OptInRefIdeal.nD → PrngReg), Pre_OptInIdeal m →
    (∀ c : Dev Cert.OptInIdeal.nD,
      m' ((c.tc : Thread Cert.OptInRefIdeal.nD Cert.OptInRefIdeal.τ).loc Cert.OptInRefIdeal.main_arg0) = m ((c.tc : Thread Cert.OptInIdeal.nD Cert.OptInIdeal.τ).loc Cert.OptInIdeal.main_arg0)
      ∧ m' ((c.tc : Thread Cert.OptInRefIdeal.nD Cert.OptInRefIdeal.τ).loc Cert.OptInRefIdeal.main_arg1) = m ((c.tc : Thread Cert.OptInIdeal.nD Cert.OptInIdeal.τ).loc Cert.OptInIdeal.main_arg1)
      ∧ m' ((c.tc : Thread Cert.OptInRefIdeal.nD Cert.OptInRefIdeal.τ).loc Cert.OptInRefIdeal.main_arg2) = m ((c.tc : Thread Cert.OptInIdeal.nD Cert.OptInIdeal.τ).loc Cert.OptInIdeal.main_arg2)
      ∧ m' ((c.tc : Thread Cert.OptInRefIdeal.nD Cert.OptInRefIdeal.τ).loc Cert.OptInRefIdeal.main_arg3) = m ((c.tc : Thread Cert.OptInIdeal.nD Cert.OptInIdeal.τ).loc Cert.OptInIdeal.main_arg3)) →
    ∃ (v0 : (c : Dev Cert.OptInIdeal.nD) → Buf (Elt Ideal) ((c.tc : Thread Cert.OptInIdeal.nD Cert.OptInIdeal.τ).loc Cert.OptInIdeal.main_v4_0)) (v1 : (c : Dev Cert.OptInIdeal.nD) → Buf (Elt Ideal) ((c.tc : Thread Cert.OptInIdeal.nD Cert.OptInIdeal.τ).loc Cert.OptInIdeal.main_v4_1)) (v2 : (c : Dev Cert.OptInIdeal.nD) → Buf (Elt Ideal) ((c.tc : Thread Cert.OptInIdeal.nD Cert.OptInIdeal.τ).loc Cert.OptInIdeal.main_v4_2)),
      θ_run (Cert.OptInIdeal.defs (F := Ideal)) (onTc (τ := Cert.OptInIdeal.τ) (Cert.OptInIdeal.main (F := Ideal))) ⟨m, fun _ => 0, g⟩ (fun r => ∀ c : Dev Cert.OptInIdeal.nD,
          r.2.mem ((c.tc : Thread Cert.OptInIdeal.nD Cert.OptInIdeal.τ).loc Cert.OptInIdeal.main_v4_0) = v0 c
          ∧ r.2.mem ((c.tc : Thread Cert.OptInIdeal.nD Cert.OptInIdeal.τ).loc Cert.OptInIdeal.main_v4_1) = v1 c
          ∧ r.2.mem ((c.tc : Thread Cert.OptInIdeal.nD Cert.OptInIdeal.τ).loc Cert.OptInIdeal.main_v4_2) = v2 c
          ∧ r.2.mem ((c.tc : Thread Cert.OptInIdeal.nD Cert.OptInIdeal.τ).loc Cert.OptInIdeal.main_arg0) = m ((c.tc : Thread Cert.OptInIdeal.nD Cert.OptInIdeal.τ).loc Cert.OptInIdeal.main_arg0)
          ∧ r.2.mem ((c.tc : Thread Cert.OptInIdeal.nD Cert.OptInIdeal.τ).loc Cert.OptInIdeal.main_arg1) = m ((c.tc : Thread Cert.OptInIdeal.nD Cert.OptInIdeal.τ).loc Cert.OptInIdeal.main_arg1)
          ∧ r.2.mem ((c.tc : Thread Cert.OptInIdeal.nD Cert.OptInIdeal.τ).loc Cert.OptInIdeal.main_arg2) = m ((c.tc : Thread Cert.OptInIdeal.nD Cert.OptInIdeal.τ).loc Cert.OptInIdeal.main_arg2)
          ∧ r.2.mem ((c.tc : Thread Cert.OptInIdeal.nD Cert.OptInIdeal.τ).loc Cert.OptInIdeal.main_arg3) = m ((c.tc : Thread Cert.OptInIdeal.nD Cert.OptInIdeal.τ).loc Cert.OptInIdeal.main_arg3))
      ∧ θ_run (Cert.OptInRefIdeal.defs (F := Ideal)) (onTc (τ := Cert.OptInRefIdeal.τ) (Cert.OptInRefIdeal.main (F := Ideal))) ⟨m', fun _ => 0, g'⟩ (fun r => ∀ c : Dev Cert.OptInRefIdeal.nD,
          r.2.mem ((c.tc : Thread Cert.OptInRefIdeal.nD Cert.OptInRefIdeal.τ).loc Cert.OptInRefIdeal.main_v24) = v0 c
          ∧ r.2.mem ((c.tc : Thread Cert.OptInRefIdeal.nD Cert.OptInRefIdeal.τ).loc Cert.OptInRefIdeal.main_v25) = v1 c
          ∧ r.2.mem ((c.tc : Thread Cert.OptInRefIdeal.nD Cert.OptInRefIdeal.τ).loc Cert.OptInRefIdeal.main_v26) = v2 c
          ∧ r.2.mem ((c.tc : Thread Cert.OptInRefIdeal.nD Cert.OptInRefIdeal.τ).loc Cert.OptInRefIdeal.main_arg0) = m' ((c.tc : Thread Cert.OptInRefIdeal.nD Cert.OptInRefIdeal.τ).loc Cert.OptInRefIdeal.main_arg0)
          ∧ r.2.mem ((c.tc : Thread Cert.OptInRefIdeal.nD Cert.OptInRefIdeal.τ).loc Cert.OptInRefIdeal.main_arg1) = m' ((c.tc : Thread Cert.OptInRefIdeal.nD Cert.OptInRefIdeal.τ).loc Cert.OptInRefIdeal.main_arg1)
          ∧ r.2.mem ((c.tc : Thread Cert.OptInRefIdeal.nD Cert.OptInRefIdeal.τ).loc Cert.OptInRefIdeal.main_arg2) = m' ((c.tc : Thread Cert.OptInRefIdeal.nD Cert.OptInRefIdeal.τ).loc Cert.OptInRefIdeal.main_arg2)
          ∧ r.2.mem ((c.tc : Thread Cert.OptInRefIdeal.nD Cert.OptInRefIdeal.τ).loc Cert.OptInRefIdeal.main_arg3) = m' ((c.tc : Thread Cert.OptInRefIdeal.nD Cert.OptInRefIdeal.τ).loc Cert.OptInRefIdeal.main_arg3))

def preserves_OptLb_OptLbIdeal : Prop :=
  True

def algebraic_OptLbIdeal_OptLbRefIdeal [hOptLbIdeal : Cert.OptLbIdeal.Facts] [hOptLbRefIdeal : Cert.OptLbRefIdeal.Facts] : Prop :=
  ∀ (m : (ℓ : Loc Cert.OptLbIdeal.nD Cert.OptLbIdeal.τ Cert.OptLbIdeal.sig) → Buf (Elt Ideal) ℓ) (g : Dev Cert.OptLbIdeal.nD → PrngReg)
    (m' : (ℓ : Loc Cert.OptLbRefIdeal.nD Cert.OptLbRefIdeal.τ Cert.OptLbRefIdeal.sig) → Buf (Elt Ideal) ℓ) (g' : Dev Cert.OptLbRefIdeal.nD → PrngReg), Pre_OptLbIdeal m →
    (∀ c : Dev Cert.OptLbIdeal.nD,
      m' ((c.tc : Thread Cert.OptLbRefIdeal.nD Cert.OptLbRefIdeal.τ).loc Cert.OptLbRefIdeal.main_arg0) = m ((c.tc : Thread Cert.OptLbIdeal.nD Cert.OptLbIdeal.τ).loc Cert.OptLbIdeal.main_arg0)
      ∧ m' ((c.tc : Thread Cert.OptLbRefIdeal.nD Cert.OptLbRefIdeal.τ).loc Cert.OptLbRefIdeal.main_arg1) = m ((c.tc : Thread Cert.OptLbIdeal.nD Cert.OptLbIdeal.τ).loc Cert.OptLbIdeal.main_arg1)
      ∧ m' ((c.tc : Thread Cert.OptLbRefIdeal.nD Cert.OptLbRefIdeal.τ).loc Cert.OptLbRefIdeal.main_arg2) = m ((c.tc : Thread Cert.OptLbIdeal.nD Cert.OptLbIdeal.τ).loc Cert.OptLbIdeal.main_arg2)
      ∧ m' ((c.tc : Thread Cert.OptLbRefIdeal.nD Cert.OptLbRefIdeal.τ).loc Cert.OptLbRefIdeal.main_arg3) = m ((c.tc : Thread Cert.OptLbIdeal.nD Cert.OptLbIdeal.τ).loc Cert.OptLbIdeal.main_arg3)) →
    ∃ (v0 : (c : Dev Cert.OptLbIdeal.nD) → Buf (Elt Ideal) ((c.tc : Thread Cert.OptLbIdeal.nD Cert.OptLbIdeal.τ).loc Cert.OptLbIdeal.main_v0_0)) (v1 : (c : Dev Cert.OptLbIdeal.nD) → Buf (Elt Ideal) ((c.tc : Thread Cert.OptLbIdeal.nD Cert.OptLbIdeal.τ).loc Cert.OptLbIdeal.main_v0_1)) (v2 : (c : Dev Cert.OptLbIdeal.nD) → Buf (Elt Ideal) ((c.tc : Thread Cert.OptLbIdeal.nD Cert.OptLbIdeal.τ).loc Cert.OptLbIdeal.main_v0_2)),
      θ_run (Cert.OptLbIdeal.defs (F := Ideal)) (onTc (τ := Cert.OptLbIdeal.τ) (Cert.OptLbIdeal.main (F := Ideal))) ⟨m, fun _ => 0, g⟩ (fun r => ∀ c : Dev Cert.OptLbIdeal.nD,
          r.2.mem ((c.tc : Thread Cert.OptLbIdeal.nD Cert.OptLbIdeal.τ).loc Cert.OptLbIdeal.main_v0_0) = v0 c
          ∧ r.2.mem ((c.tc : Thread Cert.OptLbIdeal.nD Cert.OptLbIdeal.τ).loc Cert.OptLbIdeal.main_v0_1) = v1 c
          ∧ r.2.mem ((c.tc : Thread Cert.OptLbIdeal.nD Cert.OptLbIdeal.τ).loc Cert.OptLbIdeal.main_v0_2) = v2 c
          ∧ r.2.mem ((c.tc : Thread Cert.OptLbIdeal.nD Cert.OptLbIdeal.τ).loc Cert.OptLbIdeal.main_arg0) = m ((c.tc : Thread Cert.OptLbIdeal.nD Cert.OptLbIdeal.τ).loc Cert.OptLbIdeal.main_arg0)
          ∧ r.2.mem ((c.tc : Thread Cert.OptLbIdeal.nD Cert.OptLbIdeal.τ).loc Cert.OptLbIdeal.main_arg1) = m ((c.tc : Thread Cert.OptLbIdeal.nD Cert.OptLbIdeal.τ).loc Cert.OptLbIdeal.main_arg1)
          ∧ r.2.mem ((c.tc : Thread Cert.OptLbIdeal.nD Cert.OptLbIdeal.τ).loc Cert.OptLbIdeal.main_arg2) = m ((c.tc : Thread Cert.OptLbIdeal.nD Cert.OptLbIdeal.τ).loc Cert.OptLbIdeal.main_arg2)
          ∧ r.2.mem ((c.tc : Thread Cert.OptLbIdeal.nD Cert.OptLbIdeal.τ).loc Cert.OptLbIdeal.main_arg3) = m ((c.tc : Thread Cert.OptLbIdeal.nD Cert.OptLbIdeal.τ).loc Cert.OptLbIdeal.main_arg3))
      ∧ θ_run (Cert.OptLbRefIdeal.defs (F := Ideal)) (onTc (τ := Cert.OptLbRefIdeal.τ) (Cert.OptLbRefIdeal.main (F := Ideal))) ⟨m', fun _ => 0, g'⟩ (fun r => ∀ c : Dev Cert.OptLbRefIdeal.nD,
          r.2.mem ((c.tc : Thread Cert.OptLbRefIdeal.nD Cert.OptLbRefIdeal.τ).loc Cert.OptLbRefIdeal.main_v23) = v0 c
          ∧ r.2.mem ((c.tc : Thread Cert.OptLbRefIdeal.nD Cert.OptLbRefIdeal.τ).loc Cert.OptLbRefIdeal.main_v4) = v1 c
          ∧ r.2.mem ((c.tc : Thread Cert.OptLbRefIdeal.nD Cert.OptLbRefIdeal.τ).loc Cert.OptLbRefIdeal.main_v10) = v2 c
          ∧ r.2.mem ((c.tc : Thread Cert.OptLbRefIdeal.nD Cert.OptLbRefIdeal.τ).loc Cert.OptLbRefIdeal.main_arg0) = m' ((c.tc : Thread Cert.OptLbRefIdeal.nD Cert.OptLbRefIdeal.τ).loc Cert.OptLbRefIdeal.main_arg0)
          ∧ r.2.mem ((c.tc : Thread Cert.OptLbRefIdeal.nD Cert.OptLbRefIdeal.τ).loc Cert.OptLbRefIdeal.main_arg1) = m' ((c.tc : Thread Cert.OptLbRefIdeal.nD Cert.OptLbRefIdeal.τ).loc Cert.OptLbRefIdeal.main_arg1)
          ∧ r.2.mem ((c.tc : Thread Cert.OptLbRefIdeal.nD Cert.OptLbRefIdeal.τ).loc Cert.OptLbRefIdeal.main_arg2) = m' ((c.tc : Thread Cert.OptLbRefIdeal.nD Cert.OptLbRefIdeal.τ).loc Cert.OptLbRefIdeal.main_arg2)
          ∧ r.2.mem ((c.tc : Thread Cert.OptLbRefIdeal.nD Cert.OptLbRefIdeal.τ).loc Cert.OptLbRefIdeal.main_arg3) = m' ((c.tc : Thread Cert.OptLbRefIdeal.nD Cert.OptLbRefIdeal.τ).loc Cert.OptLbRefIdeal.main_arg3))

def preserves_OptOut_OptOutIdeal : Prop :=
  True

def algebraic_OptOutIdeal_OptOutRefIdeal [hOptOutIdeal : Cert.OptOutIdeal.Facts] [hOptOutRefIdeal : Cert.OptOutRefIdeal.Facts] : Prop :=
  ∀ (m : (ℓ : Loc Cert.OptOutIdeal.nD Cert.OptOutIdeal.τ Cert.OptOutIdeal.sig) → Buf (Elt Ideal) ℓ) (g : Dev Cert.OptOutIdeal.nD → PrngReg)
    (m' : (ℓ : Loc Cert.OptOutRefIdeal.nD Cert.OptOutRefIdeal.τ Cert.OptOutRefIdeal.sig) → Buf (Elt Ideal) ℓ) (g' : Dev Cert.OptOutRefIdeal.nD → PrngReg), Pre_OptOutIdeal m →
    (∀ c : Dev Cert.OptOutIdeal.nD,
      m' ((c.tc : Thread Cert.OptOutRefIdeal.nD Cert.OptOutRefIdeal.τ).loc Cert.OptOutRefIdeal.main_arg0) = m ((c.tc : Thread Cert.OptOutIdeal.nD Cert.OptOutIdeal.τ).loc Cert.OptOutIdeal.main_arg0)
      ∧ m' ((c.tc : Thread Cert.OptOutRefIdeal.nD Cert.OptOutRefIdeal.τ).loc Cert.OptOutRefIdeal.main_arg1) = m ((c.tc : Thread Cert.OptOutIdeal.nD Cert.OptOutIdeal.τ).loc Cert.OptOutIdeal.main_arg1)
      ∧ m' ((c.tc : Thread Cert.OptOutRefIdeal.nD Cert.OptOutRefIdeal.τ).loc Cert.OptOutRefIdeal.main_arg2) = m ((c.tc : Thread Cert.OptOutIdeal.nD Cert.OptOutIdeal.τ).loc Cert.OptOutIdeal.main_arg2)
      ∧ m' ((c.tc : Thread Cert.OptOutRefIdeal.nD Cert.OptOutRefIdeal.τ).loc Cert.OptOutRefIdeal.main_arg3) = m ((c.tc : Thread Cert.OptOutIdeal.nD Cert.OptOutIdeal.τ).loc Cert.OptOutIdeal.main_arg3)) →
    ∃ (v0 : (c : Dev Cert.OptOutIdeal.nD) → Buf (Elt Ideal) ((c.tc : Thread Cert.OptOutIdeal.nD Cert.OptOutIdeal.τ).loc Cert.OptOutIdeal.main_v4_0)) (v1 : (c : Dev Cert.OptOutIdeal.nD) → Buf (Elt Ideal) ((c.tc : Thread Cert.OptOutIdeal.nD Cert.OptOutIdeal.τ).loc Cert.OptOutIdeal.main_v4_1)) (v2 : (c : Dev Cert.OptOutIdeal.nD) → Buf (Elt Ideal) ((c.tc : Thread Cert.OptOutIdeal.nD Cert.OptOutIdeal.τ).loc Cert.OptOutIdeal.main_v4_2)),
      θ_run (Cert.OptOutIdeal.defs (F := Ideal)) (onTc (τ := Cert.OptOutIdeal.τ) (Cert.OptOutIdeal.main (F := Ideal))) ⟨m, fun _ => 0, g⟩ (fun r => ∀ c : Dev Cert.OptOutIdeal.nD,
          r.2.mem ((c.tc : Thread Cert.OptOutIdeal.nD Cert.OptOutIdeal.τ).loc Cert.OptOutIdeal.main_v4_0) = v0 c
          ∧ r.2.mem ((c.tc : Thread Cert.OptOutIdeal.nD Cert.OptOutIdeal.τ).loc Cert.OptOutIdeal.main_v4_1) = v1 c
          ∧ r.2.mem ((c.tc : Thread Cert.OptOutIdeal.nD Cert.OptOutIdeal.τ).loc Cert.OptOutIdeal.main_v4_2) = v2 c
          ∧ r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
          ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
          ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
          ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3))
      ∧ θ_run (Cert.OptOutRefIdeal.defs (F := Ideal)) (onTc (τ := Cert.OptOutRefIdeal.τ) (Cert.OptOutRefIdeal.main (F := Ideal))) ⟨m', fun _ => 0, g'⟩ (fun r => ∀ c : Dev Cert.OptOutRefIdeal.nD,
          r.2.mem ((c.tc : Thread Cert.OptOutRefIdeal.nD Cert.OptOutRefIdeal.τ).loc Cert.OptOutRefIdeal.main_v24) = v0 c
          ∧ r.2.mem ((c.tc : Thread Cert.OptOutRefIdeal.nD Cert.OptOutRefIdeal.τ).loc Cert.OptOutRefIdeal.main_v25) = v1 c
          ∧ r.2.mem ((c.tc : Thread Cert.OptOutRefIdeal.nD Cert.OptOutRefIdeal.τ).loc Cert.OptOutRefIdeal.main_v26) = v2 c
          ∧ r.2.mem ((c.tc : Thread Cert.OptOutRefIdeal.nD Cert.OptOutRefIdeal.τ).loc Cert.OptOutRefIdeal.main_arg0) = m' ((c.tc : Thread Cert.OptOutRefIdeal.nD Cert.OptOutRefIdeal.τ).loc Cert.OptOutRefIdeal.main_arg0)
          ∧ r.2.mem ((c.tc : Thread Cert.OptOutRefIdeal.nD Cert.OptOutRefIdeal.τ).loc Cert.OptOutRefIdeal.main_arg1) = m' ((c.tc : Thread Cert.OptOutRefIdeal.nD Cert.OptOutRefIdeal.τ).loc Cert.OptOutRefIdeal.main_arg1)
          ∧ r.2.mem ((c.tc : Thread Cert.OptOutRefIdeal.nD Cert.OptOutRefIdeal.τ).loc Cert.OptOutRefIdeal.main_arg2) = m' ((c.tc : Thread Cert.OptOutRefIdeal.nD Cert.OptOutRefIdeal.τ).loc Cert.OptOutRefIdeal.main_arg2)
          ∧ r.2.mem ((c.tc : Thread Cert.OptOutRefIdeal.nD Cert.OptOutRefIdeal.τ).loc Cert.OptOutRefIdeal.main_arg3) = m' ((c.tc : Thread Cert.OptOutRefIdeal.nD Cert.OptOutRefIdeal.τ).loc Cert.OptOutRefIdeal.main_arg3))

def preserves_OptPw1_OptPw1Ideal : Prop :=
  True

def algebraic_OptPw1Ideal_OptPw1RefIdeal [hOptPw1Ideal : Cert.OptPw1Ideal.Facts] [hOptPw1RefIdeal : Cert.OptPw1RefIdeal.Facts] : Prop :=
  ∀ (m : (ℓ : Loc Cert.OptPw1Ideal.nD Cert.OptPw1Ideal.τ Cert.OptPw1Ideal.sig) → Buf (Elt Ideal) ℓ) (g : Dev Cert.OptPw1Ideal.nD → PrngReg)
    (m' : (ℓ : Loc Cert.OptPw1RefIdeal.nD Cert.OptPw1RefIdeal.τ Cert.OptPw1RefIdeal.sig) → Buf (Elt Ideal) ℓ) (g' : Dev Cert.OptPw1RefIdeal.nD → PrngReg), Pre_OptPw1Ideal m →
    (∀ c : Dev Cert.OptPw1Ideal.nD,
      m' ((c.tc : Thread Cert.OptPw1RefIdeal.nD Cert.OptPw1RefIdeal.τ).loc Cert.OptPw1RefIdeal.main_arg0) = m ((c.tc : Thread Cert.OptPw1Ideal.nD Cert.OptPw1Ideal.τ).loc Cert.OptPw1Ideal.main_arg0)
      ∧ m' ((c.tc : Thread Cert.OptPw1RefIdeal.nD Cert.OptPw1RefIdeal.τ).loc Cert.OptPw1RefIdeal.main_arg1) = m ((c.tc : Thread Cert.OptPw1Ideal.nD Cert.OptPw1Ideal.τ).loc Cert.OptPw1Ideal.main_arg1)
      ∧ m' ((c.tc : Thread Cert.OptPw1RefIdeal.nD Cert.OptPw1RefIdeal.τ).loc Cert.OptPw1RefIdeal.main_arg2) = m ((c.tc : Thread Cert.OptPw1Ideal.nD Cert.OptPw1Ideal.τ).loc Cert.OptPw1Ideal.main_arg2)
      ∧ m' ((c.tc : Thread Cert.OptPw1RefIdeal.nD Cert.OptPw1RefIdeal.τ).loc Cert.OptPw1RefIdeal.main_arg3) = m ((c.tc : Thread Cert.OptPw1Ideal.nD Cert.OptPw1Ideal.τ).loc Cert.OptPw1Ideal.main_arg3)) →
    ∃ (v0 : (c : Dev Cert.OptPw1Ideal.nD) → Buf (Elt Ideal) ((c.tc : Thread Cert.OptPw1Ideal.nD Cert.OptPw1Ideal.τ).loc Cert.OptPw1Ideal.main_v4_0)) (v1 : (c : Dev Cert.OptPw1Ideal.nD) → Buf (Elt Ideal) ((c.tc : Thread Cert.OptPw1Ideal.nD Cert.OptPw1Ideal.τ).loc Cert.OptPw1Ideal.main_v4_1)) (v2 : (c : Dev Cert.OptPw1Ideal.nD) → Buf (Elt Ideal) ((c.tc : Thread Cert.OptPw1Ideal.nD Cert.OptPw1Ideal.τ).loc Cert.OptPw1Ideal.main_v4_2)),
      θ_run (Cert.OptPw1Ideal.defs (F := Ideal)) (onTc (τ := Cert.OptPw1Ideal.τ) (Cert.OptPw1Ideal.main (F := Ideal))) ⟨m, fun _ => 0, g⟩ (fun r => ∀ c : Dev Cert.OptPw1Ideal.nD,
          r.2.mem ((c.tc : Thread Cert.OptPw1Ideal.nD Cert.OptPw1Ideal.τ).loc Cert.OptPw1Ideal.main_v4_0) = v0 c
          ∧ r.2.mem ((c.tc : Thread Cert.OptPw1Ideal.nD Cert.OptPw1Ideal.τ).loc Cert.OptPw1Ideal.main_v4_1) = v1 c
          ∧ r.2.mem ((c.tc : Thread Cert.OptPw1Ideal.nD Cert.OptPw1Ideal.τ).loc Cert.OptPw1Ideal.main_v4_2) = v2 c
          ∧ r.2.mem ((c.tc : Thread Cert.OptPw1Ideal.nD Cert.OptPw1Ideal.τ).loc Cert.OptPw1Ideal.main_arg0) = m ((c.tc : Thread Cert.OptPw1Ideal.nD Cert.OptPw1Ideal.τ).loc Cert.OptPw1Ideal.main_arg0)
          ∧ r.2.mem ((c.tc : Thread Cert.OptPw1Ideal.nD Cert.OptPw1Ideal.τ).loc Cert.OptPw1Ideal.main_arg1) = m ((c.tc : Thread Cert.OptPw1Ideal.nD Cert.OptPw1Ideal.τ).loc Cert.OptPw1Ideal.main_arg1)
          ∧ r.2.mem ((c.tc : Thread Cert.OptPw1Ideal.nD Cert.OptPw1Ideal.τ).loc Cert.OptPw1Ideal.main_arg2) = m ((c.tc : Thread Cert.OptPw1Ideal.nD Cert.OptPw1Ideal.τ).loc Cert.OptPw1Ideal.main_arg2)
          ∧ r.2.mem ((c.tc : Thread Cert.OptPw1Ideal.nD Cert.OptPw1Ideal.τ).loc Cert.OptPw1Ideal.main_arg3) = m ((c.tc : Thread Cert.OptPw1Ideal.nD Cert.OptPw1Ideal.τ).loc Cert.OptPw1Ideal.main_arg3))
      ∧ θ_run (Cert.OptPw1RefIdeal.defs (F := Ideal)) (onTc (τ := Cert.OptPw1RefIdeal.τ) (Cert.OptPw1RefIdeal.main (F := Ideal))) ⟨m', fun _ => 0, g'⟩ (fun r => ∀ c : Dev Cert.OptPw1RefIdeal.nD,
          r.2.mem ((c.tc : Thread Cert.OptPw1RefIdeal.nD Cert.OptPw1RefIdeal.τ).loc Cert.OptPw1RefIdeal.main_v24) = v0 c
          ∧ r.2.mem ((c.tc : Thread Cert.OptPw1RefIdeal.nD Cert.OptPw1RefIdeal.τ).loc Cert.OptPw1RefIdeal.main_v25) = v1 c
          ∧ r.2.mem ((c.tc : Thread Cert.OptPw1RefIdeal.nD Cert.OptPw1RefIdeal.τ).loc Cert.OptPw1RefIdeal.main_v26) = v2 c
          ∧ r.2.mem ((c.tc : Thread Cert.OptPw1RefIdeal.nD Cert.OptPw1RefIdeal.τ).loc Cert.OptPw1RefIdeal.main_arg0) = m' ((c.tc : Thread Cert.OptPw1RefIdeal.nD Cert.OptPw1RefIdeal.τ).loc Cert.OptPw1RefIdeal.main_arg0)
          ∧ r.2.mem ((c.tc : Thread Cert.OptPw1RefIdeal.nD Cert.OptPw1RefIdeal.τ).loc Cert.OptPw1RefIdeal.main_arg1) = m' ((c.tc : Thread Cert.OptPw1RefIdeal.nD Cert.OptPw1RefIdeal.τ).loc Cert.OptPw1RefIdeal.main_arg1)
          ∧ r.2.mem ((c.tc : Thread Cert.OptPw1RefIdeal.nD Cert.OptPw1RefIdeal.τ).loc Cert.OptPw1RefIdeal.main_arg2) = m' ((c.tc : Thread Cert.OptPw1RefIdeal.nD Cert.OptPw1RefIdeal.τ).loc Cert.OptPw1RefIdeal.main_arg2)
          ∧ r.2.mem ((c.tc : Thread Cert.OptPw1RefIdeal.nD Cert.OptPw1RefIdeal.τ).loc Cert.OptPw1RefIdeal.main_arg3) = m' ((c.tc : Thread Cert.OptPw1RefIdeal.nD Cert.OptPw1RefIdeal.τ).loc Cert.OptPw1RefIdeal.main_arg3))

def preserves_OptBias_OptBiasIdeal : Prop :=
  True

def algebraic_OptBiasIdeal_OptBiasRefIdeal [hOptBiasIdeal : Cert.OptBiasIdeal.Facts] [hOptBiasRefIdeal : Cert.OptBiasRefIdeal.Facts] : Prop :=
  ∀ (m : (ℓ : Loc Cert.OptBiasIdeal.nD Cert.OptBiasIdeal.τ Cert.OptBiasIdeal.sig) → Buf (Elt Ideal) ℓ) (g : Dev Cert.OptBiasIdeal.nD → PrngReg)
    (m' : (ℓ : Loc Cert.OptBiasRefIdeal.nD Cert.OptBiasRefIdeal.τ Cert.OptBiasRefIdeal.sig) → Buf (Elt Ideal) ℓ) (g' : Dev Cert.OptBiasRefIdeal.nD → PrngReg), Pre_OptBiasIdeal m →
    (∀ c : Dev Cert.OptBiasIdeal.nD,
      m' ((c.tc : Thread Cert.OptBiasRefIdeal.nD Cert.OptBiasRefIdeal.τ).loc Cert.OptBiasRefIdeal.main_arg0) = m ((c.tc : Thread Cert.OptBiasIdeal.nD Cert.OptBiasIdeal.τ).loc Cert.OptBiasIdeal.main_arg0)
      ∧ m' ((c.tc : Thread Cert.OptBiasRefIdeal.nD Cert.OptBiasRefIdeal.τ).loc Cert.OptBiasRefIdeal.main_arg1) = m ((c.tc : Thread Cert.OptBiasIdeal.nD Cert.OptBiasIdeal.τ).loc Cert.OptBiasIdeal.main_arg1)
      ∧ m' ((c.tc : Thread Cert.OptBiasRefIdeal.nD Cert.OptBiasRefIdeal.τ).loc Cert.OptBiasRefIdeal.main_arg2) = m ((c.tc : Thread Cert.OptBiasIdeal.nD Cert.OptBiasIdeal.τ).loc Cert.OptBiasIdeal.main_arg2)
      ∧ m' ((c.tc : Thread Cert.OptBiasRefIdeal.nD Cert.OptBiasRefIdeal.τ).loc Cert.OptBiasRefIdeal.main_arg3) = m ((c.tc : Thread Cert.OptBiasIdeal.nD Cert.OptBiasIdeal.τ).loc Cert.OptBiasIdeal.main_arg3)) →
    ∃ (v0 : (c : Dev Cert.OptBiasIdeal.nD) → Buf (Elt Ideal) ((c.tc : Thread Cert.OptBiasIdeal.nD Cert.OptBiasIdeal.τ).loc Cert.OptBiasIdeal.main_v0_0)) (v1 : (c : Dev Cert.OptBiasIdeal.nD) → Buf (Elt Ideal) ((c.tc : Thread Cert.OptBiasIdeal.nD Cert.OptBiasIdeal.τ).loc Cert.OptBiasIdeal.main_v0_1)) (v2 : (c : Dev Cert.OptBiasIdeal.nD) → Buf (Elt Ideal) ((c.tc : Thread Cert.OptBiasIdeal.nD Cert.OptBiasIdeal.τ).loc Cert.OptBiasIdeal.main_v0_2)),
      θ_run (Cert.OptBiasIdeal.defs (F := Ideal)) (onTc (τ := Cert.OptBiasIdeal.τ) (Cert.OptBiasIdeal.main (F := Ideal))) ⟨m, fun _ => 0, g⟩ (fun r => ∀ c : Dev Cert.OptBiasIdeal.nD,
          r.2.mem ((c.tc : Thread Cert.OptBiasIdeal.nD Cert.OptBiasIdeal.τ).loc Cert.OptBiasIdeal.main_v0_0) = v0 c
          ∧ r.2.mem ((c.tc : Thread Cert.OptBiasIdeal.nD Cert.OptBiasIdeal.τ).loc Cert.OptBiasIdeal.main_v0_1) = v1 c
          ∧ r.2.mem ((c.tc : Thread Cert.OptBiasIdeal.nD Cert.OptBiasIdeal.τ).loc Cert.OptBiasIdeal.main_v0_2) = v2 c
          ∧ r.2.mem ((c.tc : Thread Cert.OptBiasIdeal.nD Cert.OptBiasIdeal.τ).loc Cert.OptBiasIdeal.main_arg0) = m ((c.tc : Thread Cert.OptBiasIdeal.nD Cert.OptBiasIdeal.τ).loc Cert.OptBiasIdeal.main_arg0)
          ∧ r.2.mem ((c.tc : Thread Cert.OptBiasIdeal.nD Cert.OptBiasIdeal.τ).loc Cert.OptBiasIdeal.main_arg1) = m ((c.tc : Thread Cert.OptBiasIdeal.nD Cert.OptBiasIdeal.τ).loc Cert.OptBiasIdeal.main_arg1)
          ∧ r.2.mem ((c.tc : Thread Cert.OptBiasIdeal.nD Cert.OptBiasIdeal.τ).loc Cert.OptBiasIdeal.main_arg2) = m ((c.tc : Thread Cert.OptBiasIdeal.nD Cert.OptBiasIdeal.τ).loc Cert.OptBiasIdeal.main_arg2)
          ∧ r.2.mem ((c.tc : Thread Cert.OptBiasIdeal.nD Cert.OptBiasIdeal.τ).loc Cert.OptBiasIdeal.main_arg3) = m ((c.tc : Thread Cert.OptBiasIdeal.nD Cert.OptBiasIdeal.τ).loc Cert.OptBiasIdeal.main_arg3))
      ∧ θ_run (Cert.OptBiasRefIdeal.defs (F := Ideal)) (onTc (τ := Cert.OptBiasRefIdeal.τ) (Cert.OptBiasRefIdeal.main (F := Ideal))) ⟨m', fun _ => 0, g'⟩ (fun r => ∀ c : Dev Cert.OptBiasRefIdeal.nD,
          r.2.mem ((c.tc : Thread Cert.OptBiasRefIdeal.nD Cert.OptBiasRefIdeal.τ).loc Cert.OptBiasRefIdeal.main_v23) = v0 c
          ∧ r.2.mem ((c.tc : Thread Cert.OptBiasRefIdeal.nD Cert.OptBiasRefIdeal.τ).loc Cert.OptBiasRefIdeal.main_v4) = v1 c
          ∧ r.2.mem ((c.tc : Thread Cert.OptBiasRefIdeal.nD Cert.OptBiasRefIdeal.τ).loc Cert.OptBiasRefIdeal.main_v10) = v2 c
          ∧ r.2.mem ((c.tc : Thread Cert.OptBiasRefIdeal.nD Cert.OptBiasRefIdeal.τ).loc Cert.OptBiasRefIdeal.main_arg0) = m' ((c.tc : Thread Cert.OptBiasRefIdeal.nD Cert.OptBiasRefIdeal.τ).loc Cert.OptBiasRefIdeal.main_arg0)
          ∧ r.2.mem ((c.tc : Thread Cert.OptBiasRefIdeal.nD Cert.OptBiasRefIdeal.τ).loc Cert.OptBiasRefIdeal.main_arg1) = m' ((c.tc : Thread Cert.OptBiasRefIdeal.nD Cert.OptBiasRefIdeal.τ).loc Cert.OptBiasRefIdeal.main_arg1)
          ∧ r.2.mem ((c.tc : Thread Cert.OptBiasRefIdeal.nD Cert.OptBiasRefIdeal.τ).loc Cert.OptBiasRefIdeal.main_arg2) = m' ((c.tc : Thread Cert.OptBiasRefIdeal.nD Cert.OptBiasRefIdeal.τ).loc Cert.OptBiasRefIdeal.main_arg2)
          ∧ r.2.mem ((c.tc : Thread Cert.OptBiasRefIdeal.nD Cert.OptBiasRefIdeal.τ).loc Cert.OptBiasRefIdeal.main_arg3) = m' ((c.tc : Thread Cert.OptBiasRefIdeal.nD Cert.OptBiasRefIdeal.τ).loc Cert.OptBiasRefIdeal.main_arg3))

def preserves_OptDw_OptDwIdeal : Prop :=
  True

def algebraic_OptDwIdeal_OptDwRefIdeal [hOptDwIdeal : Cert.OptDwIdeal.Facts] [hOptDwRefIdeal : Cert.OptDwRefIdeal.Facts] : Prop :=
  ∀ (m : (ℓ : Loc Cert.OptDwIdeal.nD Cert.OptDwIdeal.τ Cert.OptDwIdeal.sig) → Buf (Elt Ideal) ℓ) (g : Dev Cert.OptDwIdeal.nD → PrngReg)
    (m' : (ℓ : Loc Cert.OptDwRefIdeal.nD Cert.OptDwRefIdeal.τ Cert.OptDwRefIdeal.sig) → Buf (Elt Ideal) ℓ) (g' : Dev Cert.OptDwRefIdeal.nD → PrngReg), Pre_OptDwIdeal m →
    (∀ c : Dev Cert.OptDwIdeal.nD,
      m' ((c.tc : Thread Cert.OptDwRefIdeal.nD Cert.OptDwRefIdeal.τ).loc Cert.OptDwRefIdeal.main_arg0) = m ((c.tc : Thread Cert.OptDwIdeal.nD Cert.OptDwIdeal.τ).loc Cert.OptDwIdeal.main_arg0)
      ∧ m' ((c.tc : Thread Cert.OptDwRefIdeal.nD Cert.OptDwRefIdeal.τ).loc Cert.OptDwRefIdeal.main_arg1) = m ((c.tc : Thread Cert.OptDwIdeal.nD Cert.OptDwIdeal.τ).loc Cert.OptDwIdeal.main_arg1)
      ∧ m' ((c.tc : Thread Cert.OptDwRefIdeal.nD Cert.OptDwRefIdeal.τ).loc Cert.OptDwRefIdeal.main_arg2) = m ((c.tc : Thread Cert.OptDwIdeal.nD Cert.OptDwIdeal.τ).loc Cert.OptDwIdeal.main_arg2)
      ∧ m' ((c.tc : Thread Cert.OptDwRefIdeal.nD Cert.OptDwRefIdeal.τ).loc Cert.OptDwRefIdeal.main_arg3) = m ((c.tc : Thread Cert.OptDwIdeal.nD Cert.OptDwIdeal.τ).loc Cert.OptDwIdeal.main_arg3)) →
    ∃ (v0 : (c : Dev Cert.OptDwIdeal.nD) → Buf (Elt Ideal) ((c.tc : Thread Cert.OptDwIdeal.nD Cert.OptDwIdeal.τ).loc Cert.OptDwIdeal.main_v4_0)) (v1 : (c : Dev Cert.OptDwIdeal.nD) → Buf (Elt Ideal) ((c.tc : Thread Cert.OptDwIdeal.nD Cert.OptDwIdeal.τ).loc Cert.OptDwIdeal.main_v4_1)) (v2 : (c : Dev Cert.OptDwIdeal.nD) → Buf (Elt Ideal) ((c.tc : Thread Cert.OptDwIdeal.nD Cert.OptDwIdeal.τ).loc Cert.OptDwIdeal.main_v4_2)),
      θ_run (Cert.OptDwIdeal.defs (F := Ideal)) (onTc (τ := Cert.OptDwIdeal.τ) (Cert.OptDwIdeal.main (F := Ideal))) ⟨m, fun _ => 0, g⟩ (fun r => ∀ c : Dev Cert.OptDwIdeal.nD,
          r.2.mem ((c.tc : Thread Cert.OptDwIdeal.nD Cert.OptDwIdeal.τ).loc Cert.OptDwIdeal.main_v4_0) = v0 c
          ∧ r.2.mem ((c.tc : Thread Cert.OptDwIdeal.nD Cert.OptDwIdeal.τ).loc Cert.OptDwIdeal.main_v4_1) = v1 c
          ∧ r.2.mem ((c.tc : Thread Cert.OptDwIdeal.nD Cert.OptDwIdeal.τ).loc Cert.OptDwIdeal.main_v4_2) = v2 c
          ∧ r.2.mem ((c.tc : Thread Cert.OptDwIdeal.nD Cert.OptDwIdeal.τ).loc Cert.OptDwIdeal.main_arg0) = m ((c.tc : Thread Cert.OptDwIdeal.nD Cert.OptDwIdeal.τ).loc Cert.OptDwIdeal.main_arg0)
          ∧ r.2.mem ((c.tc : Thread Cert.OptDwIdeal.nD Cert.OptDwIdeal.τ).loc Cert.OptDwIdeal.main_arg1) = m ((c.tc : Thread Cert.OptDwIdeal.nD Cert.OptDwIdeal.τ).loc Cert.OptDwIdeal.main_arg1)
          ∧ r.2.mem ((c.tc : Thread Cert.OptDwIdeal.nD Cert.OptDwIdeal.τ).loc Cert.OptDwIdeal.main_arg2) = m ((c.tc : Thread Cert.OptDwIdeal.nD Cert.OptDwIdeal.τ).loc Cert.OptDwIdeal.main_arg2)
          ∧ r.2.mem ((c.tc : Thread Cert.OptDwIdeal.nD Cert.OptDwIdeal.τ).loc Cert.OptDwIdeal.main_arg3) = m ((c.tc : Thread Cert.OptDwIdeal.nD Cert.OptDwIdeal.τ).loc Cert.OptDwIdeal.main_arg3))
      ∧ θ_run (Cert.OptDwRefIdeal.defs (F := Ideal)) (onTc (τ := Cert.OptDwRefIdeal.τ) (Cert.OptDwRefIdeal.main (F := Ideal))) ⟨m', fun _ => 0, g'⟩ (fun r => ∀ c : Dev Cert.OptDwRefIdeal.nD,
          r.2.mem ((c.tc : Thread Cert.OptDwRefIdeal.nD Cert.OptDwRefIdeal.τ).loc Cert.OptDwRefIdeal.main_v24) = v0 c
          ∧ r.2.mem ((c.tc : Thread Cert.OptDwRefIdeal.nD Cert.OptDwRefIdeal.τ).loc Cert.OptDwRefIdeal.main_v25) = v1 c
          ∧ r.2.mem ((c.tc : Thread Cert.OptDwRefIdeal.nD Cert.OptDwRefIdeal.τ).loc Cert.OptDwRefIdeal.main_v26) = v2 c
          ∧ r.2.mem ((c.tc : Thread Cert.OptDwRefIdeal.nD Cert.OptDwRefIdeal.τ).loc Cert.OptDwRefIdeal.main_arg0) = m' ((c.tc : Thread Cert.OptDwRefIdeal.nD Cert.OptDwRefIdeal.τ).loc Cert.OptDwRefIdeal.main_arg0)
          ∧ r.2.mem ((c.tc : Thread Cert.OptDwRefIdeal.nD Cert.OptDwRefIdeal.τ).loc Cert.OptDwRefIdeal.main_arg1) = m' ((c.tc : Thread Cert.OptDwRefIdeal.nD Cert.OptDwRefIdeal.τ).loc Cert.OptDwRefIdeal.main_arg1)
          ∧ r.2.mem ((c.tc : Thread Cert.OptDwRefIdeal.nD Cert.OptDwRefIdeal.τ).loc Cert.OptDwRefIdeal.main_arg2) = m' ((c.tc : Thread Cert.OptDwRefIdeal.nD Cert.OptDwRefIdeal.τ).loc Cert.OptDwRefIdeal.main_arg2)
          ∧ r.2.mem ((c.tc : Thread Cert.OptDwRefIdeal.nD Cert.OptDwRefIdeal.τ).loc Cert.OptDwRefIdeal.main_arg3) = m' ((c.tc : Thread Cert.OptDwRefIdeal.nD Cert.OptDwRefIdeal.τ).loc Cert.OptDwRefIdeal.main_arg3))

def preserves_OptVec_OptVecIdeal : Prop :=
  True

def algebraic_OptVecIdeal_OptVecRefIdeal [hOptVecIdeal : Cert.OptVecIdeal.Facts] [hOptVecRefIdeal : Cert.OptVecRefIdeal.Facts] : Prop :=
  ∀ (m : (ℓ : Loc Cert.OptVecIdeal.nD Cert.OptVecIdeal.τ Cert.OptVecIdeal.sig) → Buf (Elt Ideal) ℓ) (g : Dev Cert.OptVecIdeal.nD → PrngReg)
    (m' : (ℓ : Loc Cert.OptVecRefIdeal.nD Cert.OptVecRefIdeal.τ Cert.OptVecRefIdeal.sig) → Buf (Elt Ideal) ℓ) (g' : Dev Cert.OptVecRefIdeal.nD → PrngReg), Pre_OptVecIdeal m →
    (∀ c : Dev Cert.OptVecIdeal.nD,
      m' ((c.tc : Thread Cert.OptVecRefIdeal.nD Cert.OptVecRefIdeal.τ).loc Cert.OptVecRefIdeal.main_arg0) = m ((c.tc : Thread Cert.OptVecIdeal.nD Cert.OptVecIdeal.τ).loc Cert.OptVecIdeal.main_arg0)
      ∧ m' ((c.tc : Thread Cert.OptVecRefIdeal.nD Cert.OptVecRefIdeal.τ).loc Cert.OptVecRefIdeal.main_arg1) = m ((c.tc : Thread Cert.OptVecIdeal.nD Cert.OptVecIdeal.τ).loc Cert.OptVecIdeal.main_arg1)
      ∧ m' ((c.tc : Thread Cert.OptVecRefIdeal.nD Cert.OptVecRefIdeal.τ).loc Cert.OptVecRefIdeal.main_arg2) = m ((c.tc : Thread Cert.OptVecIdeal.nD Cert.OptVecIdeal.τ).loc Cert.OptVecIdeal.main_arg2)
      ∧ m' ((c.tc : Thread Cert.OptVecRefIdeal.nD Cert.OptVecRefIdeal.τ).loc Cert.OptVecRefIdeal.main_arg3) = m ((c.tc : Thread Cert.OptVecIdeal.nD Cert.OptVecIdeal.τ).loc Cert.OptVecIdeal.main_arg3)) →
    ∃ (v0 : (c : Dev Cert.OptVecIdeal.nD) → Buf (Elt Ideal) ((c.tc : Thread Cert.OptVecIdeal.nD Cert.OptVecIdeal.τ).loc Cert.OptVecIdeal.main_v0_0)) (v1 : (c : Dev Cert.OptVecIdeal.nD) → Buf (Elt Ideal) ((c.tc : Thread Cert.OptVecIdeal.nD Cert.OptVecIdeal.τ).loc Cert.OptVecIdeal.main_v0_1)) (v2 : (c : Dev Cert.OptVecIdeal.nD) → Buf (Elt Ideal) ((c.tc : Thread Cert.OptVecIdeal.nD Cert.OptVecIdeal.τ).loc Cert.OptVecIdeal.main_v0_2)),
      θ_run (Cert.OptVecIdeal.defs (F := Ideal)) (onTc (τ := Cert.OptVecIdeal.τ) (Cert.OptVecIdeal.main (F := Ideal))) ⟨m, fun _ => 0, g⟩ (fun r => ∀ c : Dev Cert.OptVecIdeal.nD,
          r.2.mem ((c.tc : Thread Cert.OptVecIdeal.nD Cert.OptVecIdeal.τ).loc Cert.OptVecIdeal.main_v0_0) = v0 c
          ∧ r.2.mem ((c.tc : Thread Cert.OptVecIdeal.nD Cert.OptVecIdeal.τ).loc Cert.OptVecIdeal.main_v0_1) = v1 c
          ∧ r.2.mem ((c.tc : Thread Cert.OptVecIdeal.nD Cert.OptVecIdeal.τ).loc Cert.OptVecIdeal.main_v0_2) = v2 c
          ∧ r.2.mem ((c.tc : Thread Cert.OptVecIdeal.nD Cert.OptVecIdeal.τ).loc Cert.OptVecIdeal.main_arg0) = m ((c.tc : Thread Cert.OptVecIdeal.nD Cert.OptVecIdeal.τ).loc Cert.OptVecIdeal.main_arg0)
          ∧ r.2.mem ((c.tc : Thread Cert.OptVecIdeal.nD Cert.OptVecIdeal.τ).loc Cert.OptVecIdeal.main_arg1) = m ((c.tc : Thread Cert.OptVecIdeal.nD Cert.OptVecIdeal.τ).loc Cert.OptVecIdeal.main_arg1)
          ∧ r.2.mem ((c.tc : Thread Cert.OptVecIdeal.nD Cert.OptVecIdeal.τ).loc Cert.OptVecIdeal.main_arg2) = m ((c.tc : Thread Cert.OptVecIdeal.nD Cert.OptVecIdeal.τ).loc Cert.OptVecIdeal.main_arg2)
          ∧ r.2.mem ((c.tc : Thread Cert.OptVecIdeal.nD Cert.OptVecIdeal.τ).loc Cert.OptVecIdeal.main_arg3) = m ((c.tc : Thread Cert.OptVecIdeal.nD Cert.OptVecIdeal.τ).loc Cert.OptVecIdeal.main_arg3))
      ∧ θ_run (Cert.OptVecRefIdeal.defs (F := Ideal)) (onTc (τ := Cert.OptVecRefIdeal.τ) (Cert.OptVecRefIdeal.main (F := Ideal))) ⟨m', fun _ => 0, g'⟩ (fun r => ∀ c : Dev Cert.OptVecRefIdeal.nD,
          r.2.mem ((c.tc : Thread Cert.OptVecRefIdeal.nD Cert.OptVecRefIdeal.τ).loc Cert.OptVecRefIdeal.main_v23) = v0 c
          ∧ r.2.mem ((c.tc : Thread Cert.OptVecRefIdeal.nD Cert.OptVecRefIdeal.τ).loc Cert.OptVecRefIdeal.main_v4) = v1 c
          ∧ r.2.mem ((c.tc : Thread Cert.OptVecRefIdeal.nD Cert.OptVecRefIdeal.τ).loc Cert.OptVecRefIdeal.main_v10) = v2 c
          ∧ r.2.mem ((c.tc : Thread Cert.OptVecRefIdeal.nD Cert.OptVecRefIdeal.τ).loc Cert.OptVecRefIdeal.main_arg0) = m' ((c.tc : Thread Cert.OptVecRefIdeal.nD Cert.OptVecRefIdeal.τ).loc Cert.OptVecRefIdeal.main_arg0)
          ∧ r.2.mem ((c.tc : Thread Cert.OptVecRefIdeal.nD Cert.OptVecRefIdeal.τ).loc Cert.OptVecRefIdeal.main_arg1) = m' ((c.tc : Thread Cert.OptVecRefIdeal.nD Cert.OptVecRefIdeal.τ).loc Cert.OptVecRefIdeal.main_arg1)
          ∧ r.2.mem ((c.tc : Thread Cert.OptVecRefIdeal.nD Cert.OptVecRefIdeal.τ).loc Cert.OptVecRefIdeal.main_arg2) = m' ((c.tc : Thread Cert.OptVecRefIdeal.nD Cert.OptVecRefIdeal.τ).loc Cert.OptVecRefIdeal.main_arg2)
          ∧ r.2.mem ((c.tc : Thread Cert.OptVecRefIdeal.nD Cert.OptVecRefIdeal.τ).loc Cert.OptVecRefIdeal.main_arg3) = m' ((c.tc : Thread Cert.OptVecRefIdeal.nD Cert.OptVecRefIdeal.τ).loc Cert.OptVecRefIdeal.main_arg3))

def preserves_SumSq_SumSqIdeal : Prop :=
  True

def algebraic_SumSqIdeal_SumSqRefIdeal [hSumSqIdeal : Cert.SumSqIdeal.Facts] [hSumSqRefIdeal : Cert.SumSqRefIdeal.Facts] : Prop :=
  ∀ (m : (ℓ : Loc Cert.SumSqIdeal.nD Cert.SumSqIdeal.τ Cert.SumSqIdeal.sig) → Buf (Elt Ideal) ℓ) (g : Dev Cert.SumSqIdeal.nD → PrngReg)
    (m' : (ℓ : Loc Cert.SumSqRefIdeal.nD Cert.SumSqRefIdeal.τ Cert.SumSqRefIdeal.sig) → Buf (Elt Ideal) ℓ) (g' : Dev Cert.SumSqRefIdeal.nD → PrngReg), Pre_SumSqIdeal m →
    (∀ c : Dev Cert.SumSqIdeal.nD,
      m' ((c.tc : Thread Cert.SumSqRefIdeal.nD Cert.SumSqRefIdeal.τ).loc Cert.SumSqRefIdeal.main_arg0) = m ((c.tc : Thread Cert.SumSqIdeal.nD Cert.SumSqIdeal.τ).loc Cert.SumSqIdeal.main_arg0)) →
    ∃ (v0 : (c : Dev Cert.SumSqIdeal.nD) → Buf (Elt Ideal) ((c.tc : Thread Cert.SumSqIdeal.nD Cert.SumSqIdeal.τ).loc Cert.SumSqIdeal.main_v0)),
      θ_run (Cert.SumSqIdeal.defs (F := Ideal)) (onTc (τ := Cert.SumSqIdeal.τ) (Cert.SumSqIdeal.main (F := Ideal))) ⟨m, fun _ => 0, g⟩ (fun r => ∀ c : Dev Cert.SumSqIdeal.nD,
          r.2.mem ((c.tc : Thread Cert.SumSqIdeal.nD Cert.SumSqIdeal.τ).loc Cert.SumSqIdeal.main_v0) = v0 c
          ∧ r.2.mem ((c.tc : Thread Cert.SumSqIdeal.nD Cert.SumSqIdeal.τ).loc Cert.SumSqIdeal.main_arg0) = m ((c.tc : Thread Cert.SumSqIdeal.nD Cert.SumSqIdeal.τ).loc Cert.SumSqIdeal.main_arg0))
      ∧ θ_run (Cert.SumSqRefIdeal.defs (F := Ideal)) (onTc (τ := Cert.SumSqRefIdeal.τ) (Cert.SumSqRefIdeal.main (F := Ideal))) ⟨m', fun _ => 0, g'⟩ (fun r => ∀ c : Dev Cert.SumSqRefIdeal.nD,
          r.2.mem ((c.tc : Thread Cert.SumSqRefIdeal.nD Cert.SumSqRefIdeal.τ).loc Cert.SumSqRefIdeal.main_v1) = v0 c
          ∧ r.2.mem ((c.tc : Thread Cert.SumSqRefIdeal.nD Cert.SumSqRefIdeal.τ).loc Cert.SumSqRefIdeal.main_arg0) = m' ((c.tc : Thread Cert.SumSqRefIdeal.nD Cert.SumSqRefIdeal.τ).loc Cert.SumSqRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumPw1_SumPw1Ideal : Prop :=
  True

def algebraic_SumPw1Ideal_SumPw1RefIdeal [hSumPw1Ideal : Cert.SumPw1Ideal.Facts] [hSumPw1RefIdeal : Cert.SumPw1RefIdeal.Facts] : Prop :=
  ∀ (m : (ℓ : Loc Cert.SumPw1Ideal.nD Cert.SumPw1Ideal.τ Cert.SumPw1Ideal.sig) → Buf (Elt Ideal) ℓ) (g : Dev Cert.SumPw1Ideal.nD → PrngReg)
    (m' : (ℓ : Loc Cert.SumPw1RefIdeal.nD Cert.SumPw1RefIdeal.τ Cert.SumPw1RefIdeal.sig) → Buf (Elt Ideal) ℓ) (g' : Dev Cert.SumPw1RefIdeal.nD → PrngReg), Pre_SumPw1Ideal m →
    (∀ c : Dev Cert.SumPw1Ideal.nD,
      m' ((c.tc : Thread Cert.SumPw1RefIdeal.nD Cert.SumPw1RefIdeal.τ).loc Cert.SumPw1RefIdeal.main_arg0) = m ((c.tc : Thread Cert.SumPw1Ideal.nD Cert.SumPw1Ideal.τ).loc Cert.SumPw1Ideal.main_arg0)) →
    ∃ (v0 : (c : Dev Cert.SumPw1Ideal.nD) → Buf (Elt Ideal) ((c.tc : Thread Cert.SumPw1Ideal.nD Cert.SumPw1Ideal.τ).loc Cert.SumPw1Ideal.main_v0)),
      θ_run (Cert.SumPw1Ideal.defs (F := Ideal)) (onTc (τ := Cert.SumPw1Ideal.τ) (Cert.SumPw1Ideal.main (F := Ideal))) ⟨m, fun _ => 0, g⟩ (fun r => ∀ c : Dev Cert.SumPw1Ideal.nD,
          r.2.mem ((c.tc : Thread Cert.SumPw1Ideal.nD Cert.SumPw1Ideal.τ).loc Cert.SumPw1Ideal.main_v0) = v0 c
          ∧ r.2.mem ((c.tc : Thread Cert.SumPw1Ideal.nD Cert.SumPw1Ideal.τ).loc Cert.SumPw1Ideal.main_arg0) = m ((c.tc : Thread Cert.SumPw1Ideal.nD Cert.SumPw1Ideal.τ).loc Cert.SumPw1Ideal.main_arg0))
      ∧ θ_run (Cert.SumPw1RefIdeal.defs (F := Ideal)) (onTc (τ := Cert.SumPw1RefIdeal.τ) (Cert.SumPw1RefIdeal.main (F := Ideal))) ⟨m', fun _ => 0, g'⟩ (fun r => ∀ c : Dev Cert.SumPw1RefIdeal.nD,
          r.2.mem ((c.tc : Thread Cert.SumPw1RefIdeal.nD Cert.SumPw1RefIdeal.τ).loc Cert.SumPw1RefIdeal.main_v1) = v0 c
          ∧ r.2.mem ((c.tc : Thread Cert.SumPw1RefIdeal.nD Cert.SumPw1RefIdeal.τ).loc Cert.SumPw1RefIdeal.main_arg0) = m' ((c.tc : Thread Cert.SumPw1RefIdeal.nD Cert.SumPw1RefIdeal.τ).loc Cert.SumPw1RefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hADx : Cert.ADx.Facts) (hADxIdeal : Cert.ADxIdeal.Facts) (hADxRefIdeal : Cert.ADxRefIdeal.Facts) (hMixLn : Cert.MixLn.Facts) (hMixLnIdeal : Cert.MixLnIdeal.Facts) (hMixLnRefIdeal : Cert.MixLnRefIdeal.Facts) (hBDx : Cert.BDx.Facts) (hBDxIdeal : Cert.BDxIdeal.Facts) (hBDxRefIdeal : Cert.BDxRefIdeal.Facts) (hDwOut : Cert.DwOut.Facts) (hDwOutIdeal : Cert.DwOutIdeal.Facts) (hDwOutRefIdeal : Cert.DwOutRefIdeal.Facts) (hADwIn : Cert.ADwIn.Facts) (hADwInIdeal : Cert.ADwInIdeal.Facts) (hADwInRefIdeal : Cert.ADwInRefIdeal.Facts) (hBDwIn : Cert.BDwIn.Facts) (hBDwInIdeal : Cert.BDwInIdeal.Facts) (hBDwInRefIdeal : Cert.BDwInRefIdeal.Facts) (hFfnFwd : Cert.FfnFwd.Facts) (hFfnFwdIdeal : Cert.FfnFwdIdeal.Facts) (hFfnFwdRefIdeal : Cert.FfnFwdRefIdeal.Facts) (hAIn : Cert.AIn.Facts) (hAInIdeal : Cert.AInIdeal.Facts) (hAInRefIdeal : Cert.AInRefIdeal.Facts) (hBIn : Cert.BIn.Facts) (hBInIdeal : Cert.BInIdeal.Facts) (hBInRefIdeal : Cert.BInRefIdeal.Facts) (hMixOut : Cert.MixOut.Facts) (hMixOutIdeal : Cert.MixOutIdeal.Facts) (hMixOutRefIdeal : Cert.MixOutRefIdeal.Facts) (hFfnDx : Cert.FfnDx.Facts) (hFfnDxIdeal : Cert.FfnDxIdeal.Facts) (hFfnDxRefIdeal : Cert.FfnDxRefIdeal.Facts) (hOptLn : Cert.OptLn.Facts) (hOptLnIdeal : Cert.OptLnIdeal.Facts) (hOptLnRefIdeal : Cert.OptLnRefIdeal.Facts) (hOptFfn : Cert.OptFfn.Facts) (hOptFfnIdeal : Cert.OptFfnIdeal.Facts) (hOptFfnRefIdeal : Cert.OptFfnRefIdeal.Facts) (hOptIn : Cert.OptIn.Facts) (hOptInIdeal : Cert.OptInIdeal.Facts) (hOptInRefIdeal : Cert.OptInRefIdeal.Facts) (hOptLb : Cert.OptLb.Facts) (hOptLbIdeal : Cert.OptLbIdeal.Facts) (hOptLbRefIdeal : Cert.OptLbRefIdeal.Facts) (hOptOut : Cert.OptOut.Facts) (hOptOutIdeal : Cert.OptOutIdeal.Facts) (hOptOutRefIdeal : Cert.OptOutRefIdeal.Facts) (hOptPw1 : Cert.OptPw1.Facts) (hOptPw1Ideal : Cert.OptPw1Ideal.Facts) (hOptPw1RefIdeal : Cert.OptPw1RefIdeal.Facts) (hOptBias : Cert.OptBias.Facts) (hOptBiasIdeal : Cert.OptBiasIdeal.Facts) (hOptBiasRefIdeal : Cert.OptBiasRefIdeal.Facts) (hOptDw : Cert.OptDw.Facts) (hOptDwIdeal : Cert.OptDwIdeal.Facts) (hOptDwRefIdeal : Cert.OptDwRefIdeal.Facts) (hOptVec : Cert.OptVec.Facts) (hOptVecIdeal : Cert.OptVecIdeal.Facts) (hOptVecRefIdeal : Cert.OptVecRefIdeal.Facts) (hSumSq : Cert.SumSq.Facts) (hSumSqIdeal : Cert.SumSqIdeal.Facts) (hSumSqRefIdeal : Cert.SumSqRefIdeal.Facts) (hSumOut : Cert.SumOut.Facts) (hSumOutIdeal : Cert.SumOutIdeal.Facts) (hSumOutRefIdeal : Cert.SumOutRefIdeal.Facts) (hSumPw1 : Cert.SumPw1.Facts) (hSumPw1Ideal : Cert.SumPw1Ideal.Facts) (hSumPw1RefIdeal : Cert.SumPw1RefIdeal.Facts) (hLoss : Cert.Loss.Facts) (hLossIdeal : Cert.LossIdeal.Facts) (hLossRefIdeal : Cert.LossRefIdeal.Facts) (hPre_finite_products : Cert.Pre_finite_products.Facts) (hPre_finite_ffn_products : Cert.Pre_finite_ffn_products.Facts),
    quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_ADx (hADx := hADx)
    ∧ quiescent_ADxIdeal (hADxIdeal := hADxIdeal)
    ∧ quiescent_ADxRefIdeal (hADxRefIdeal := hADxRefIdeal)
    ∧ quiescent_MixLn (hMixLn := hMixLn)
    ∧ quiescent_MixLnIdeal (hMixLnIdeal := hMixLnIdeal)
    ∧ quiescent_MixLnIdeal_pre_finite_products (hMixLnIdeal := hMixLnIdeal) (hPre_finite_products := hPre_finite_products)
    ∧ quiescent_MixLnRefIdeal (hMixLnRefIdeal := hMixLnRefIdeal)
    ∧ quiescent_MixLnRefIdeal_pre_finite_products (hMixLnRefIdeal := hMixLnRefIdeal) (hPre_finite_products := hPre_finite_products)
    ∧ quiescent_BDx (hBDx := hBDx)
    ∧ quiescent_BDxIdeal (hBDxIdeal := hBDxIdeal)
    ∧ quiescent_BDxRefIdeal (hBDxRefIdeal := hBDxRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_ADwIn (hADwIn := hADwIn)
    ∧ quiescent_ADwInIdeal (hADwInIdeal := hADwInIdeal)
    ∧ quiescent_ADwInRefIdeal (hADwInRefIdeal := hADwInRefIdeal)
    ∧ quiescent_BDwIn (hBDwIn := hBDwIn)
    ∧ quiescent_BDwInIdeal (hBDwInIdeal := hBDwInIdeal)
    ∧ quiescent_BDwInRefIdeal (hBDwInRefIdeal := hBDwInRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_AIn (hAIn := hAIn)
    ∧ quiescent_AInIdeal (hAInIdeal := hAInIdeal)
    ∧ quiescent_AInRefIdeal (hAInRefIdeal := hAInRefIdeal)
    ∧ quiescent_BIn (hBIn := hBIn)
    ∧ quiescent_BInIdeal (hBInIdeal := hBInIdeal)
    ∧ quiescent_BInRefIdeal (hBInRefIdeal := hBInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDx (hFfnDx := hFfnDx)
    ∧ quiescent_FfnDxIdeal (hFfnDxIdeal := hFfnDxIdeal)
    ∧ quiescent_FfnDxIdeal_pre_finite_ffn_products (hFfnDxIdeal := hFfnDxIdeal) (hPre_finite_ffn_products := hPre_finite_ffn_products)
    ∧ quiescent_FfnDxRefIdeal (hFfnDxRefIdeal := hFfnDxRefIdeal)
    ∧ quiescent_FfnDxRefIdeal_pre_finite_ffn_products (hFfnDxRefIdeal := hFfnDxRefIdeal) (hPre_finite_ffn_products := hPre_finite_ffn_products)
    ∧ quiescent_OptLn (hOptLn := hOptLn)
    ∧ quiescent_OptLnIdeal (hOptLnIdeal := hOptLnIdeal)
    ∧ quiescent_OptLnRefIdeal (hOptLnRefIdeal := hOptLnRefIdeal)
    ∧ quiescent_OptFfn (hOptFfn := hOptFfn)
    ∧ quiescent_OptFfnIdeal (hOptFfnIdeal := hOptFfnIdeal)
    ∧ quiescent_OptFfnRefIdeal (hOptFfnRefIdeal := hOptFfnRefIdeal)
    ∧ quiescent_OptIn (hOptIn := hOptIn)
    ∧ quiescent_OptInIdeal (hOptInIdeal := hOptInIdeal)
    ∧ quiescent_OptInRefIdeal (hOptInRefIdeal := hOptInRefIdeal)
    ∧ quiescent_OptLb (hOptLb := hOptLb)
    ∧ quiescent_OptLbIdeal (hOptLbIdeal := hOptLbIdeal)
    ∧ quiescent_OptLbRefIdeal (hOptLbRefIdeal := hOptLbRefIdeal)
    ∧ quiescent_OptOut (hOptOut := hOptOut)
    ∧ quiescent_OptOutIdeal (hOptOutIdeal := hOptOutIdeal)
    ∧ quiescent_OptOutRefIdeal (hOptOutRefIdeal := hOptOutRefIdeal)
    ∧ quiescent_OptPw1 (hOptPw1 := hOptPw1)
    ∧ quiescent_OptPw1Ideal (hOptPw1Ideal := hOptPw1Ideal)
    ∧ quiescent_OptPw1RefIdeal (hOptPw1RefIdeal := hOptPw1RefIdeal)
    ∧ quiescent_OptBias (hOptBias := hOptBias)
    ∧ quiescent_OptBiasIdeal (hOptBiasIdeal := hOptBiasIdeal)
    ∧ quiescent_OptBiasRefIdeal (hOptBiasRefIdeal := hOptBiasRefIdeal)
    ∧ quiescent_OptDw (hOptDw := hOptDw)
    ∧ quiescent_OptDwIdeal (hOptDwIdeal := hOptDwIdeal)
    ∧ quiescent_OptDwRefIdeal (hOptDwRefIdeal := hOptDwRefIdeal)
    ∧ quiescent_OptVec (hOptVec := hOptVec)
    ∧ quiescent_OptVecIdeal (hOptVecIdeal := hOptVecIdeal)
    ∧ quiescent_OptVecRefIdeal (hOptVecRefIdeal := hOptVecRefIdeal)
    ∧ quiescent_SumSq (hSumSq := hSumSq)
    ∧ quiescent_SumSqIdeal (hSumSqIdeal := hSumSqIdeal)
    ∧ quiescent_SumSqRefIdeal (hSumSqRefIdeal := hSumSqRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumPw1 (hSumPw1 := hSumPw1)
    ∧ quiescent_SumPw1Ideal (hSumPw1Ideal := hSumPw1Ideal)
    ∧ quiescent_SumPw1RefIdeal (hSumPw1RefIdeal := hSumPw1RefIdeal)
    ∧ quiescent_Loss (hLoss := hLoss)
    ∧ quiescent_LossIdeal (hLossIdeal := hLossIdeal)
    ∧ quiescent_LossRefIdeal (hLossRefIdeal := hLossRefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_ADx_ADxIdeal
    ∧ algebraic_ADxIdeal_ADxRefIdeal (hADxIdeal := hADxIdeal) (hADxRefIdeal := hADxRefIdeal)
    ∧ preserves_MixLn_MixLnIdeal
    ∧ algebraic_MixLnIdeal_MixLnRefIdeal_pre_finite_products (hMixLnIdeal := hMixLnIdeal) (hMixLnRefIdeal := hMixLnRefIdeal) (hPre_finite_products := hPre_finite_products)
    ∧ preserves_BDx_BDxIdeal
    ∧ algebraic_BDxIdeal_BDxRefIdeal (hBDxIdeal := hBDxIdeal) (hBDxRefIdeal := hBDxRefIdeal)
    ∧ preserves_DwOut_DwOutIdeal
    ∧ algebraic_DwOutIdeal_DwOutRefIdeal (hDwOutIdeal := hDwOutIdeal) (hDwOutRefIdeal := hDwOutRefIdeal)
    ∧ preserves_ADwIn_ADwInIdeal
    ∧ algebraic_ADwInIdeal_ADwInRefIdeal (hADwInIdeal := hADwInIdeal) (hADwInRefIdeal := hADwInRefIdeal)
    ∧ preserves_BDwIn_BDwInIdeal
    ∧ algebraic_BDwInIdeal_BDwInRefIdeal (hBDwInIdeal := hBDwInIdeal) (hBDwInRefIdeal := hBDwInRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_AIn_AInIdeal
    ∧ algebraic_AInIdeal_AInRefIdeal (hAInIdeal := hAInIdeal) (hAInRefIdeal := hAInRefIdeal)
    ∧ preserves_BIn_BInIdeal
    ∧ algebraic_BInIdeal_BInRefIdeal (hBInIdeal := hBInIdeal) (hBInRefIdeal := hBInRefIdeal)
    ∧ preserves_MixOut_MixOutIdeal
    ∧ algebraic_MixOutIdeal_MixOutRefIdeal (hMixOutIdeal := hMixOutIdeal) (hMixOutRefIdeal := hMixOutRefIdeal)
    ∧ preserves_FfnDx_FfnDxIdeal
    ∧ algebraic_FfnDxIdeal_FfnDxRefIdeal_pre_finite_ffn_products (hFfnDxIdeal := hFfnDxIdeal) (hFfnDxRefIdeal := hFfnDxRefIdeal) (hPre_finite_ffn_products := hPre_finite_ffn_products)
    ∧ preserves_OptLn_OptLnIdeal
    ∧ algebraic_OptLnIdeal_OptLnRefIdeal (hOptLnIdeal := hOptLnIdeal) (hOptLnRefIdeal := hOptLnRefIdeal)
    ∧ preserves_OptFfn_OptFfnIdeal
    ∧ algebraic_OptFfnIdeal_OptFfnRefIdeal (hOptFfnIdeal := hOptFfnIdeal) (hOptFfnRefIdeal := hOptFfnRefIdeal)
    ∧ preserves_OptIn_OptInIdeal
    ∧ algebraic_OptInIdeal_OptInRefIdeal (hOptInIdeal := hOptInIdeal) (hOptInRefIdeal := hOptInRefIdeal)
    ∧ preserves_OptLb_OptLbIdeal
    ∧ algebraic_OptLbIdeal_OptLbRefIdeal (hOptLbIdeal := hOptLbIdeal) (hOptLbRefIdeal := hOptLbRefIdeal)
    ∧ preserves_OptOut_OptOutIdeal
    ∧ algebraic_OptOutIdeal_OptOutRefIdeal (hOptOutIdeal := hOptOutIdeal) (hOptOutRefIdeal := hOptOutRefIdeal)
    ∧ preserves_OptPw1_OptPw1Ideal
    ∧ algebraic_OptPw1Ideal_OptPw1RefIdeal (hOptPw1Ideal := hOptPw1Ideal) (hOptPw1RefIdeal := hOptPw1RefIdeal)
    ∧ preserves_OptBias_OptBiasIdeal
    ∧ algebraic_OptBiasIdeal_OptBiasRefIdeal (hOptBiasIdeal := hOptBiasIdeal) (hOptBiasRefIdeal := hOptBiasRefIdeal)
    ∧ preserves_OptDw_OptDwIdeal
    ∧ algebraic_OptDwIdeal_OptDwRefIdeal (hOptDwIdeal := hOptDwIdeal) (hOptDwRefIdeal := hOptDwRefIdeal)
    ∧ preserves_OptVec_OptVecIdeal
    ∧ algebraic_OptVecIdeal_OptVecRefIdeal (hOptVecIdeal := hOptVecIdeal) (hOptVecRefIdeal := hOptVecRefIdeal)
    ∧ preserves_SumSq_SumSqIdeal
    ∧ algebraic_SumSqIdeal_SumSqRefIdeal (hSumSqIdeal := hSumSqIdeal) (hSumSqRefIdeal := hSumSqRefIdeal)
    ∧ preserves_SumOut_SumOutIdeal
    ∧ algebraic_SumOutIdeal_SumOutRefIdeal (hSumOutIdeal := hSumOutIdeal) (hSumOutRefIdeal := hSumOutRefIdeal)
    ∧ preserves_SumPw1_SumPw1Ideal
    ∧ algebraic_SumPw1Ideal_SumPw1RefIdeal (hSumPw1Ideal := hSumPw1Ideal) (hSumPw1RefIdeal := hSumPw1RefIdeal)
    ∧ preserves_Loss_LossIdeal
    ∧ algebraic_LossIdeal_LossRefIdeal (hLossIdeal := hLossIdeal) (hLossRefIdeal := hLossRefIdeal)
-- ==== Pre_finite_ffn_products.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1024x4096 .f32) (main_arg3 : FVec F S4096x1024 .f32) (main_arg4 : FVec F S1x1024 .f32) : IVec S8192x1024 1 :=
  let main_v0 : FVec F S8192x1024 .f32 := broadcastInDim S8192x1024 ![0, 1] bcast_S1x1024_S8192x1024_0_1 main_arg4
  let main_v1 : FVec F S8192x1024 .f32 := mulf main_arg0 main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Pre_finite_products.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1x1024 .f32) (main_arg5 : FVec F S1x1024 .f32) : IVec S8192x1024 1 :=
  let main_v0 : FVec F S8192x1024 .f32 := broadcastInDim S8192x1024 ![0, 1] bcast_S1x1024_S8192x1024_0_1 main_arg5
  let main_v1 : FVec F S8192x1024 .f32 := mulf main_arg0 main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Dw1.lean ====
abbrev S8192x1024 : Shape := ⟨2, ![8192, 1024]⟩
abbrev S8192x4096 : Shape := ⟨2, ![8192, 4096]⟩
abbrev S1x8192x4096 : Shape := ⟨3, ![1, 8192, 4096]⟩
abbrev S1x4x1024x1024 : Shape := ⟨4, ![1, 4, 1024, 1024]⟩
abbrev S1024x1024 : Shape := ⟨2, ![1024, 1024]⟩
abbrev S1x1024x1024 : Shape := ⟨3, ![1, 1024, 1024]⟩
abbrev S1x1x1024x1024 : Shape := ⟨4, ![1, 1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S8192x1024, .bf16⟩
  | .hbm, ⟨3, _⟩ => ⟨S1x8192x4096, .bf16⟩
  | .hbm, ⟨4, _⟩ => ⟨S1x4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Dw1RefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S1x4x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dw2.lean ====
abbrev S8192x4096 : Shape := ⟨2, ![8192, 4096]⟩
abbrev S8192x1024 : Shape := ⟨2, ![8192, 1024]⟩
abbrev S1x8192x1024 : Shape := ⟨3, ![1, 8192, 1024]⟩
abbrev S1x1x4096x1024 : Shape := ⟨4, ![1, 1, 4096, 1024]⟩
abbrev S1024x1024 : Shape := ⟨2, ![1024, 1024]⟩
abbrev S1x1024x1024 : Shape := ⟨3, ![1, 1024, 1024]⟩
abbrev S1x1x1024x1024 : Shape := ⟨4, ![1, 1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S8192x4096, .bf16⟩
  | .hbm, ⟨3, _⟩ => ⟨S1x8192x1024, .bf16⟩
  | .hbm, ⟨4, _⟩ => ⟨S1x1x4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 8], ![false, false, false, false]⟩

def k0_cond2 (i : grid0.Coords) : BitVec 1 :=
  let arg3 : BitVec 32 := BitVec.ofNat 32 (i 3).val
  let c7_i32 : BitVec 32 := 7#32
  let v18 : BitVec 1 := Scalar.cmpi .eq arg3 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Dw2RefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S1x1x4096x1024 : Shape := ⟨4, ![1, 1, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | .hbm, ⟨13, _⟩ => ⟨S1x1x4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== ADx.lean ====
abbrev S8192x4096 : Shape := ⟨2, ![8192, 4096]⟩
abbrev S1024x4096 : Shape := ⟨2, ![1024, 4096]⟩
abbrev S8192x1024 : Shape := ⟨2, ![8192, 1024]⟩
abbrev S8192x4x1024 : Shape := ⟨3, ![8192, 4, 1024]⟩
abbrev S4x8192x1024 : Shape := ⟨3, ![4, 8192, 1024]⟩
abbrev S1024x4x1024 : Shape := ⟨3, ![1024, 4, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S8192x4x1024, .bf16⟩
  | .hbm, ⟨4, _⟩ => ⟨S4x8192x1024, .bf16⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ADxRefIdeal.lean ====
abbrev S8192x4096 : Shape := ⟨2, ![8192, 4096]⟩
abbrev S1024x4096 : Shape := ⟨2, ![1024, 4096]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MixLn.lean ====
abbrev S8192x1024 : Shape := ⟨2, ![8192, 1024]⟩
abbrev S1024x1024 : Shape := ⟨2, ![1024, 1024]⟩
abbrev S1x1024 : Shape := ⟨2, ![1, 1024]⟩
abbrev S8x1024 : Shape := ⟨2, ![8, 1024]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixLnRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1024, .f32⟩
  | .hbm, ⟨101, _⟩ => ⟨S8192x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S_, .f32⟩
  | .hbm, ⟨106, _⟩ => ⟨S5x1024, .f32⟩
  | .hbm, ⟨107, _⟩ => ⟨S8x1024, .f32⟩
  | .hbm, ⟨108, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== BDx.lean ====
abbrev S8192x2048 : Shape := ⟨2, ![8192, 2048]⟩
abbrev S1024x2048 : Shape := ⟨2, ![1024, 2048]⟩
abbrev S8192x1024 : Shape := ⟨2, ![8192, 1024]⟩
abbrev S8192x2x1024 : Shape := ⟨3, ![8192, 2, 1024]⟩
abbrev S2x8192x1024 : Shape := ⟨3, ![2, 8192, 1024]⟩
abbrev S1024x2x1024 : Shape := ⟨3, ![1024, 2, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S8192x2x1024, .bf16⟩
  | .hbm, ⟨4, _⟩ => ⟨S2x8192x1024, .bf16⟩
  | .hbm, ⟨5, _⟩ => ⟨S1024x2048, .bf16⟩
  | .hbm, ⟨6, _⟩ => ⟨S1024x2x1024, .bf16⟩
  | .hbm, ⟨7, _⟩ => ⟨S2x1024x1024, .bf16⟩
  | .hbm, ⟨8, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BDxRefIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== DwOut.lean ====
abbrev S8192x1024 : Shape := ⟨2, ![8192, 1024]⟩
abbrev S1x8192x1024 : Shape := ⟨3, ![1, 8192, 1024]⟩
abbrev S1x1x1024x1024 : Shape := ⟨4, ![1, 1, 1024, 1024]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x8192x1024, .bf16⟩
  | .hbm, ⟨4, _⟩ => ⟨S1x1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DwOutRefIdeal.lean ====
abbrev S8192x1024 : Shape := ⟨2, ![8192, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ADwIn.lean ====
abbrev S8192x1024 : Shape := ⟨2, ![8192, 1024]⟩
abbrev S8192x4096 : Shape := ⟨2, ![8192, 4096]⟩
abbrev S8192x4x1024 : Shape := ⟨3, ![8192, 4, 1024]⟩
abbrev S4x8192x1024 : Shape := ⟨3, ![4, 8192, 1024]⟩
abbrev S4x1x1024x1024 : Shape := ⟨4, ![4, 1, 1024, 1024]⟩
abbrev S1024x1024 : Shape := ⟨2, ![1024, 1024]⟩
abbrev S1x1024x1024 : Shape := ⟨3, ![1, 1024, 1024]⟩
abbrev S1x1x1024x1024 : Shape := ⟨4, ![1, 1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S8192x4x1024, .bf16⟩
  | .hbm, ⟨3, _⟩ => ⟨S4x8192x1024, .bf16⟩
  | .hbm, ⟨4, _⟩ => ⟨S8192x1024, .bf16⟩
  | .hbm, ⟨5, _⟩ => ⟨S4x1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ADwInRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S4x1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BDwIn.lean ====
abbrev S8192x1024 : Shape := ⟨2, ![8192, 1024]⟩
abbrev S8192x2048 : Shape := ⟨2, ![8192, 2048]⟩
abbrev S8192x2x1024 : Shape := ⟨3, ![8192, 2, 1024]⟩
abbrev S2x8192x1024 : Shape := ⟨3, ![2, 8192, 1024]⟩
abbrev S2x2x1024x512 : Shape := ⟨4, ![2, 2, 1024, 512]⟩
abbrev S1024x1024 : Shape := ⟨2, ![1024, 1024]⟩
abbrev S1x1024x512 : Shape := ⟨3, ![1, 1024, 512]⟩
abbrev S1x1x1024x512 : Shape := ⟨4, ![1, 1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x2x1024, .bf16⟩
  | .hbm, ⟨3, _⟩ => ⟨S2x8192x1024, .bf16⟩
  | .hbm, ⟨4, _⟩ => ⟨S8192x1024, .bf16⟩
  | .hbm, ⟨5, _⟩ => ⟨S2x2x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BDwInRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x2x2x512 : Shape := ⟨4, ![1024, 2, 2, 512]⟩
abbrev S2x2x1024x512 : Shape := ⟨4, ![2, 2, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S1024x2x2x512, .f32⟩
  | .hbm, ⟨9, _⟩ => ⟨S2x2x1024x512, .f32⟩
  | .hbm, ⟨10, _⟩ => ⟨S2x2x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnFwd.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S8192x4096, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S8192x4096, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x4096, .bf16⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== AIn.lean ====
abbrev S8192x1024 : Shape := ⟨2, ![8192, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4x1x1024 : Shape := ⟨3, ![4, 1, 1024]⟩
abbrev S4x8192x1024 : Shape := ⟨3, ![4, 8192, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S8192x1024, .bf16⟩
  | .hbm, ⟨6, _⟩ => ⟨S_, .f32⟩
  | .hbm, ⟨7, _⟩ => ⟨S4x1x1024, .f32⟩
  | .hbm, ⟨8, _⟩ => ⟨S4x8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AInRefIdeal.lean ====
abbrev S8192x1024 : Shape := ⟨2, ![8192, 1024]⟩
abbrev S1024x4096 : Shape := ⟨2, ![1024, 4096]⟩
abbrev S8192x4096 : Shape := ⟨2, ![8192, 4096]⟩
abbrev S8192x4x1024 : Shape := ⟨3, ![8192, 4, 1024]⟩
abbrev S4x8192x1024 : Shape := ⟨3, ![4, 8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4x1024, .f32⟩
  | .hbm, ⟨4, _⟩ => ⟨S4x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BIn.lean ====
abbrev S8192x1024 : Shape := ⟨2, ![8192, 1024]⟩
abbrev S1024x2048 : Shape := ⟨2, ![1024, 2048]⟩
abbrev S1x2048 : Shape := ⟨2, ![1, 2048]⟩
abbrev S1024x2x1024 : Shape := ⟨3, ![1024, 2, 1024]⟩
abbrev S2x1024x1024 : Shape := ⟨3, ![2, 1024, 1024]⟩
abbrev S2x1x1024 : Shape := ⟨3, ![2, 1, 1024]⟩
abbrev S2x8192x1024 : Shape := ⟨3, ![2, 8192, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S1024x2048, .bf16⟩
  | .hbm, ⟨4, _⟩ => ⟨S1024x2x1024, .bf16⟩
  | .hbm, ⟨5, _⟩ => ⟨S2x1024x1024, .bf16⟩
  | .hbm, ⟨6, _⟩ => ⟨S8192x1024, .bf16⟩
  | .hbm, ⟨7, _⟩ => ⟨S2x1x1024, .f32⟩
  | .hbm, ⟨8, _⟩ => ⟨S2x8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BInRefIdeal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S2048 : Shape := ⟨1, ![2048]⟩
abbrev S8192x2x1024 : Shape := ⟨3, ![8192, 2, 1024]⟩
abbrev S2x8192x1024 : Shape := ⟨3, ![2, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2x1024, .f32⟩
  | .hbm, ⟨9, _⟩ => ⟨S2x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfnDx.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S1024x4x1024 : Shape := ⟨3, ![1024, 4, 1024]⟩
abbrev S4x1024x1024 : Shape := ⟨3, ![4, 1024, 1024]⟩
abbrev S8x1024 : Shape := ⟨2, ![8, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x4096, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S1024x4096, .bf16⟩
  | .hbm, ⟨16, _⟩ => ⟨S1024x4x1024, .bf16⟩
  | .hbm, ⟨17, _⟩ => ⟨S4x1024x1024, .bf16⟩
  | .hbm, ⟨18, _⟩ => ⟨S8192x4096, .bf16⟩
  | .hbm, ⟨19, _⟩ => ⟨S4096x1024, .bf16⟩
  | .hbm, ⟨20, _⟩ => ⟨S8192x4096, .bf16⟩
  | .hbm, ⟨21, _⟩ => ⟨S8192x1024, .f32⟩
  | .hbm, ⟨22, _⟩ => ⟨S8192x1024, .bf16⟩
  | .hbm, ⟨23, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_21 : BitVec 32 := 0#32
  let v33 : BitVec 1 := Scalar.cmpi .ne v32 c0_i32_21
  v33

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnDxRefIdeal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S1024 : Shape := ⟨1, ![1024]⟩
abbrev S8192 : Shape := ⟨1, ![8192]⟩
abbrev S8192x1 : Shape := ⟨2, ![8192, 1]⟩
abbrev S6x1024 : Shape := ⟨2, ![6, 1024]⟩
abbrev S8x1024 : Shape := ⟨2, ![8, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .i1⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x4096, .f32⟩
  | .hbm, ⟨108, _⟩ => ⟨S8192x4096, .f32⟩
  | .hbm, ⟨109, _⟩ => ⟨S_, .f32⟩
  | .hbm, ⟨110, _⟩ => ⟨S8192x4096, .f32⟩
  | .hbm, ⟨111, _⟩ => ⟨S8192x4096, .f32⟩
  | .hbm, ⟨112, _⟩ => ⟨S8192x1024, .f32⟩
  | .hbm, ⟨113, _⟩ => ⟨S_, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S1x1024, .f32⟩
  | .hbm, ⟨118, _⟩ => ⟨S1x1024, .f32⟩
  | .hbm, ⟨119, _⟩ => ⟨S_, .f32⟩
  | .hbm, ⟨120, _⟩ => ⟨S6x1024, .f32⟩
  | .hbm, ⟨121, _⟩ => ⟨S8x1024, .f32⟩
  | .hbm, ⟨122, _⟩ => ⟨S8192x4096, .bf16⟩
  | .hbm, ⟨123, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_22 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_23 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_24 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== OptLn.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptLnIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptLnRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptFfn.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptFfnIdeal.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptFfnRefIdeal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OptIn.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptInIdeal.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptInRefIdeal.lean ====
abbrev S2x1024x1024 : Shape := ⟨3, ![2, 1024, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OptLb.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptLbIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptLbRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OptPw1.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptPw1Ideal.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptPw1RefIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OptBias.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptBiasIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptBiasRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptDw.lean ====
abbrev S2x31x256 : Shape := ⟨3, ![2, 31, 256]⟩
abbrev S62x256 : Shape := ⟨2, ![62, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .hbm, ⟨8, _⟩ => ⟨S62x256, .f32⟩
  | .hbm, ⟨9, _⟩ => ⟨S62x256, .f32⟩
  | .hbm, ⟨10, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptDwIdeal.lean ====
abbrev S2x31x256 : Shape := ⟨3, ![2, 31, 256]⟩
abbrev S62x256 : Shape := ⟨2, ![62, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .hbm, ⟨8, _⟩ => ⟨S62x256, .f32⟩
  | .hbm, ⟨9, _⟩ => ⟨S62x256, .f32⟩
  | .hbm, ⟨10, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptDwRefIdeal.lean ====
abbrev S2x31x256 : Shape := ⟨3, ![2, 31, 256]⟩
abbrev S_ : Shape := ⟨0, ![]⟩
abbrev S62x256 : Shape := ⟨2, ![62, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S_, .f32⟩
  | .hbm, ⟨5, _⟩ => ⟨S2x31x256, .f32⟩
  | .hbm, ⟨6, _⟩ => ⟨S2x31x256, .f32⟩
  | .hbm, ⟨7, _⟩ => ⟨S_, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S_, .f32⟩
  | .hbm, ⟨12, _⟩ => ⟨S2x31x256, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S_, .f32⟩
  | .hbm, ⟨23, _⟩ => ⟨S2x31x256, .f32⟩
  | .hbm, ⟨24, _⟩ => ⟨S2x31x256, .f32⟩
  | .hbm, ⟨25, _⟩ => ⟨S2x31x256, .f32⟩
  | .hbm, ⟨26, _⟩ => ⟨S_, .f32⟩
  | .hbm, ⟨27, _⟩ => ⟨S2x31x256, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | .hbm, ⟨37, _⟩ => ⟨S62x256, .f32⟩
  | .hbm, ⟨38, _⟩ => ⟨S62x256, .f32⟩
  | .hbm, ⟨39, _⟩ => ⟨S62x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OptVec.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptVecRefIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSq.lean ====
abbrev S8x1024x1024 : Shape := ⟨3, ![8, 1024, 1024]⟩
abbrev S1024x1024 : Shape := ⟨2, ![1024, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSqIdeal.lean ====
abbrev S8x1024x1024 : Shape := ⟨3, ![8, 1024, 1024]⟩
abbrev S1024x1024 : Shape := ⟨2, ![1024, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSqRefIdeal.lean ====
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .f32⟩
  | .hbm, ⟨2, _⟩ => ⟨S_, .f32⟩
  | .hbm, ⟨3, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutRefIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumPw1.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPw1RefIdeal.lean ====
abbrev S8x1024x512 : Shape := ⟨3, ![8, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .f32⟩
  | .hbm, ⟨2, _⟩ => ⟨S_, .f32⟩
  | .hbm, ⟨3, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Loss.lean ====
abbrev S8192x1024 : Shape := ⟨2, ![8192, 1024]⟩
abbrev S1x1 : Shape := ⟨2, ![1, 1]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Dw1Value.lean ====
/-
  The feed-forward block's first weight gradient (`ffn_dw1`): what the kernel's array holds after the run is the
  reference's transposed product, tile by tile.
-/
module

public import proofs.«01_k».proof.Proof.Gen.Dw1Ideal.Frame
public import proofs.«01_k».proof.Proof.Gen.Dw1RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dw1Value

open Cert.Dw1Ideal Cert.Dw1Ideal.Gen

variable (m : (ℓ : Loc nD τ sig) → Buf (Elt Ideal) ℓ)

/-- The reference's term over the arguments. -/
abbrev REF (X : FVec Ideal S8192x1024 .f32) (Z : FVec Ideal S8192x4096 .bf16) : FVec Ideal S1x4x1024x1024 .bf16 :=
  Cert.Dw1RefIdeal.Read.val_main_v8 (F := Ideal) X Z

/-- The block indices of the three windows at point `t`. -/
theorem idx : ∀ t : Fin cfg0.N, win0_0.index t = ![t.val % 8, 0] ∧ win0_1.index t = ![0, t.val % 8, t.val / 8]
    ∧ win0_2.index t = ![0, t.val / 8, 0, 0] ∧ t.val / 8 < 4 :=
  (by decide +kernel : ∀ t : Fin grid0.N, _)

/-- The accumulator is cleared to zero. -/
theorem pay_zero (j : S1024x1024.Idx) : k0_pay1 (F := Ideal) j = 0 := by pointwise [k0_pay1]

/-- One point adds the product of its two blocks, contracted over their rows. -/
theorem pay_add (acc : Vec Ideal S1024x1024 .f32) (a : Vec Ideal S1024x1024 .bf16) (b : Vec Ideal S1x1024x1024 .bf16) (j : S1024x1024.Idx) :
    k0_pay2 a acc b j = acc j + ∑ k : Fin 1024, a (ix2 k (j 0)) * b (ix3 0 k (j 1)) := by
  pointwise [k0_pay2]

/-- The last point of a run writes the accumulator back as it stands. -/
theorem pay_out (acc : Vec Ideal S1024x1024 .f32) (y : S1x1x1024x1024.Idx) :
    k0_pay3 acc y = acc (ix2 (y 2) (y 3)) := by
  pointwise [k0_pay3]

/-- At the last point of a run the output block is the accumulator's contents after that point. -/
theorem out_eq (c : Dev nD) (t : Fin cfg0.N) (h : t.val % 8 = 7) (y : S1x1x1024x1024.Idx) :
    (outsAt0 m c t.val t.isLt).1 y = (outsAt0 m c t.val t.isLt).2 (ix2 (y 2) (y 3)) := by
  rw [outsAt0_C m c t (by omega) h]; frame_out; exact pay_out _ y

/-- The reference at an index: the product of the transposed input and the incoming gradient, the columns in four groups. -/
theorem ref_at (X : FVec Ideal S8192x1024 .f32) (Z : FVec Ideal S8192x4096 .bf16) (i : S1x4x1024x1024.Idx)
    (n : Fin 4096) (hn : n.val = (i 1).val * 1024 + (i 3).val) :
    REF X Z i = ∑ l : Fin 8192, X (ix2 l (i 2)) * Z (ix2 l n) := by
  unfold REF
  rw [Cert.Dw1RefIdeal.Read.val_main_v8_apply, Cert.Dw1RefIdeal.Read.val_main_v7_apply, Cert.Dw1RefIdeal.Read.val_main_v6_apply, Cert.Dw1RefIdeal.Read.val_main_v5_apply, Cert.Dw1RefIdeal.Read.val_main_v4_apply,
    show ∀ x : EReal, FloatOps.truncf (F := Ideal) .bf16 Cert.Dw1RefIdeal.Gen.bitsLt_bf16_f32 x = x from fun _ => rfl]
  refine (Cert.Dw1RefIdeal.Read.val_main_v3_apply X Z _).trans (Finset.sum_congr rfl fun l _ => ?_)
  rw [mul_comm]
  have h1 : (i 1).val < 4 := (i 1).isLt
  have h2 : (i 2).val < 1024 := (i 2).isLt
  have h3 : (i 3).val < 1024 := (i 3).isLt
  refine congrArg₂ (· * ·) (congrArg X (funext fun a => Fin.ext ?_)) (congrArg Z (funext fun a => Fin.ext ?_))
  · match a with
    | ⟨0, _⟩ => rfl
    | ⟨1, _⟩ =>
      show (((i 2).val * 4 + (i 1).val) * 1024 + (i 3).val) / 4096 = (i 2).val
      omega
  · match a with
    | ⟨0, _⟩ => rfl
    | ⟨1, _⟩ =>
      show (((i 2).val * 4 + (i 1).val) * 1024 + (i 3).val) % 4096 = n.val
      omega

/-- The kernel's array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t ((flush0_2 t).mp hf) _, zero_add]
  have ht := (idx t).2.2.2
  have h3 : (y 3).val < 1024 := (y 3).isLt
  rw [ref_at _ _ _ ⟨t.val / 8 * 1024 + (y 3).val, by omega⟩ (by blk_simp [idx t])]
  refine Fin.sum_mul_add_congr fun s k hl => ?_
  blk_point [iblk, V, idx t, idx ⟨_, Pipeline.run_point_lt_of_flush t ((flush0_2 t).mp hf) s⟩]

end Cert.Dw1Value

end
-- ==== Proof.Dw2Value.lean ====
/-
  The feed-forward block's second weight gradient (`ffn_dw2`): what the kernel's array holds after the run is the
  reference's transposed product of the squared rectified input.
-/
module

public import proofs.«01_k».proof.Proof.Gen.Dw2Ideal.Frame
public import proofs.«01_k».proof.Proof.Gen.Dw2RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dw2Value

open Cert.Dw2Ideal Cert.Dw2Ideal.Gen

variable (m : (ℓ : Loc nD τ sig) → Buf (Elt Ideal) ℓ)

/-- The reference's term over the arguments. -/
abbrev REF (Z : FVec Ideal S8192x4096 .f32) (G : FVec Ideal S8192x1024 .bf16) : FVec Ideal S1x1x4096x1024 .bf16 :=
  Cert.Dw2RefIdeal.Read.val_main_v8 (F := Ideal) Z G

/-- The block indices of the three windows at point `t`. -/
theorem idx : ∀ t : Fin cfg0.N, win0_0.index t = ![t.val % 8, t.val / 8] ∧ win0_1.index t = ![0, t.val % 8, 0]
    ∧ win0_2.index t = ![0, 0, t.val / 8, 0] ∧ t.val / 8 < 4 :=
  (by decide +kernel : ∀ t : Fin grid0.N, _)

/-- The accumulator is cleared to zero. -/
theorem pay_zero (j : S1024x1024.Idx) : k0_pay1 (F := Ideal) j = 0 := by pointwise [k0_pay1]

/-- One point adds the product of its two blocks, the first squared after rectification, contracted over their rows. -/
theorem pay_add (acc : Vec Ideal S1024x1024 .f32) (a : Vec Ideal S1024x1024 .bf16) (b : Vec Ideal S1x1024x1024 .bf16) (j : S1024x1024.Idx) :
    k0_pay2 a acc b j
      = acc j + ∑ k : Fin 1024, max (a (ix2 k (j 0))) 0 * max (a (ix2 k (j 0))) 0 * b (ix3 0 k (j 1)) := by
  pointwise [k0_pay2]

/-- The last point of a run writes the accumulator back as it stands. -/
theorem pay_out (acc : Vec Ideal S1024x1024 .f32) (y : S1x1x1024x1024.Idx) :
    k0_pay3 acc y = acc (ix2 (y 2) (y 3)) := by
  pointwise [k0_pay3]

/-- At the last point of a run the output block is the accumulator's contents after that point. -/
theorem out_eq (c : Dev nD) (t : Fin cfg0.N) (h : t.val % 8 = 7) (y : S1x1x1024x1024.Idx) :
    (outsAt0 m c t.val t.isLt).1 y = (outsAt0 m c t.val t.isLt).2 (ix2 (y 2) (y 3)) := by
  rw [outsAt0_C m c t (by omega) h]; frame_out; exact pay_out _ y

/-- The reference at an index: the product of the squared rectified input, transposed, and the incoming gradient. -/
theorem ref_at (Z : FVec Ideal S8192x4096 .f32) (G : FVec Ideal S8192x1024 .bf16) (i : S1x1x4096x1024.Idx) :
    REF Z G i = ∑ l : Fin 8192, max (Z (ix2 l (i 2))) 0 * max (Z (ix2 l (i 2))) 0 * G (ix2 l (i 3)) := by
  unfold REF
  rw [Cert.Dw2RefIdeal.Read.val_main_v8_apply, Cert.Dw2RefIdeal.Read.val_main_v7_apply, Cert.Dw2RefIdeal.Read.val_main_v6_apply,
    show ∀ x : EReal, FloatOps.truncf (F := Ideal) .bf16 Cert.Dw2RefIdeal.Gen.bitsLt_bf16_f32 x = x from fun _ => rfl]
  refine (Cert.Dw2RefIdeal.Read.val_main_v5_apply Z G _).trans (Finset.sum_congr rfl fun l _ => ?_)
  rw [mul_comm]
  refine congrArg₂ (· * ·) ?_ (congrArg G (funext fun a => Fin.ext ?_))
  · rw [Cert.Dw2RefIdeal.Read.val_main_v2_apply, Cert.Dw2RefIdeal.Read.val_main_v1_apply, Cert.Dw2RefIdeal.Read.val_main_call0_v0_apply,
      Cert.Dw2RefIdeal.Read.val_main_call0_cst_apply]
    have hz : FloatOps.ofBits (F := Ideal) .f32 0x00000000#32 = (0 : EReal) := Ideal.ofBits_zero_f32
    have hi : Cert.Dw2RefIdeal.Read.ridx_main_v5 (Cert.Dw2RefIdeal.Read.idx_main_v6 (Cert.Dw2RefIdeal.Read.idx_main_v8 i)) l = ix2 l (i 2) :=
      funext fun a => Fin.ext (by
        match a with
        | ⟨0, _⟩ => rfl
        | ⟨1, _⟩ => rfl)
    rw [hz, hi]
    rfl
  · match a with
    | ⟨0, _⟩ => rfl
    | ⟨1, _⟩ => rfl

/-- The kernel's array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.Dw2Value

end
-- ==== Proof.ADxValue.lean ====
/-
  The gradient of a mixer's input through its projection (`a_dx`): what the kernel's array holds after the run is the
  scaled residual gradient plus the product with the transposed weights.
-/
module

public import proofs.«01_k».proof.Proof.Gen.ADxIdeal.Frame
public import proofs.«01_k».proof.Proof.Gen.ADxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ADxValue

open Cert.ADxIdeal Cert.ADxIdeal.Gen

variable (m : (ℓ : Loc nD τ sig) → Buf (Elt Ideal) ℓ)

/-- The reference's term over the arguments. -/
abbrev REF (G : FVec Ideal S8192x4096 .bf16) (W : FVec Ideal S1024x4096 .f32) (B : FVec Ideal S8192x1024 .f32) :
    FVec Ideal S8192x1024 .f32 :=
  Cert.ADxRefIdeal.Read.val_main_v8 (F := Ideal) G W B

/-- The residual's scale, as the literal that both programs carry. -/
abbrev alpha : EReal := Ideal.ofBits .f32 0x3FD744FD#32

/-- The block indices of the four windows at point `t`. -/
theorem idx : ∀ t : Fin cfg0.N, win0_0.index t = ![t.val % 4, t.val / 4, 0] ∧ win0_1.index t = ![t.val % 4, 0, 0]
    ∧ win0_2.index t = ![t.val / 4, 0] ∧ win0_3.index t = ![t.val / 4, 0] ∧ t.val / 4 < 8 :=
  (by decide +kernel : ∀ t : Fin grid0.N, _)

/-- The first point of a run stores the scaled residual gradient. -/
theorem pay_base (b : Vec Ideal S1024x1024 .f32) (j : S1024x1024.Idx) : k0_pay1 b j = alpha * b j := by
  pointwise [k0_pay1]

/-- One point adds the product of its two blocks, contracted over their columns. -/
theorem pay_add (acc : Vec Ideal S1024x1024 .f32) (a b : Vec Ideal S1x1024x1024 .bf16) (j : S1024x1024.Idx) :
    k0_pay2 acc a b j = acc j + ∑ k : Fin 1024, a (ix3 0 (j 0) k) * b (ix3 0 (j 1) k) := by
  pointwise [k0_pay2]

/-- The reference at an index: the product with the transposed weights, plus the scaled residual gradient. -/
theorem ref_at (G : FVec Ideal S8192x4096 .bf16) (W : FVec Ideal S1024x4096 .f32) (B : FVec Ideal S8192x1024 .f32) (i : S8192x1024.Idx) :
    REF G W B i = alpha * B i + ∑ l : Fin 4096, G (ix2 (i 0) l) * W (ix2 (i 1) l) := by
  unfold REF
  rw [Cert.ADxRefIdeal.Read.val_main_v8_apply, show ∀ x y : EReal, FloatOps.addf (F := Ideal) (φ := .f32) x y = x + y from fun _ _ => rfl, add_comm]
  refine congrArg₂ (· + ·) ?_ ?_
  · rfl
  refine (Cert.ADxRefIdeal.Read.val_main_v5_apply G W _).trans (Finset.sum_congr rfl fun l _ => ?_)
  refine congrArg₂ (· * ·) (congrArg G (funext fun a => Fin.ext ?_)) (congrArg W (funext fun a => Fin.ext ?_))
  · match a with
    | ⟨0, _⟩ => rfl
    | ⟨1, _⟩ => rfl
  · match a with
    | ⟨0, _⟩ => rfl
    | ⟨1, _⟩ => rfl

/-- The kernel's array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : cfg0.N = 32 := N_0
  rw [after0_3, Pipeline.eq_sum_fin_of_reset_step_apply_of_flush (fun n h => outsAt0 m c n h) 4 (fun _ => 0)
    (fun p j => (if p.val % 4 = 0 then alpha * (show FVec Ideal S1024x1024 .f32 from iblk m c 2 p) j else 0)
      + ∑ k : Fin 1024, (show FVec Ideal S1x1024x1024 .bf16 from iblk m c 0 p) (ix3 0 (j 0) k)
        * (show FVec Ideal S1x1024x1024 .bf16 from iblk m c 1 p) (ix3 0 (j 1) k))
    (fun t h j => by rw [outsAt0_A m c t h]; frame_out; rw [pay_add, pay_base, if_pos h, zero_add])
    (fun t h j => by rw [outsAt0_B m c t h]; frame_out; rw [pay_add, if_neg h, zero_add])
    t ((flush0_3 t).mp hf) _, zero_add, Finset.sum_add_distrib, ref_at]
  refine congrArg₂ (· + ·) ?_ ?_
  · rw [Fin.sum_univ_four]
    simp only [Nat.mul_add_mod, Fin.val_zero, Fin.val_one, Fin.val_two, show ((3 : Fin 4) : ℕ) = 3 from rfl,
      show 0 % 4 = 0 from rfl, show ¬1 % 4 = 0 from by decide, show ¬2 % 4 = 0 from by decide, show ¬3 % 4 = 0 from by decide,
      if_true, if_false, add_zero]
    have hlt : t.val < 32 := lt_of_lt_of_eq t.isLt hN
    have h4 : 4 * (t.val / 4) < cfg0.N := by omega
    rw [if_pos (by omega)]
    blk_point [iblk, V, idx t, idx ⟨4 * (t.val / 4), h4⟩]
  refine Fin.sum_mul_add_congr fun s k hl => ?_
  blk_point [iblk, V, idx t, idx ⟨_, Pipeline.run_point_lt_of_flush t ((flush0_3 t).mp hf) s⟩]

end Cert.ADxValue

end
-- ==== Proof.BDxValue.lean ====
/-
  The gradient of the convolution mixer's input through its projection (`b_dx`): what the kernel's array holds after the run is the
  scaled residual gradient plus the product with the transposed weights.
-/
module

public import proofs.«01_k».proof.Proof.Gen.BDxIdeal.Frame
public import proofs.«01_k».proof.Proof.Gen.BDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BDxValue

open Cert.BDxIdeal Cert.BDxIdeal.Gen

variable (m : (ℓ : Loc nD τ sig) → Buf (Elt Ideal) ℓ)

/-- The reference's term over the arguments. -/
abbrev REF (G : FVec Ideal S8192x2048 .bf16) (W : FVec Ideal S1024x2048 .f32) (B : FVec Ideal S8192x1024 .f32) :
    FVec Ideal S8192x1024 .f32 :=
  Cert.BDxRefIdeal.Read.val_main_v8 (F := Ideal) G W B

/-- The residual's scale, as the literal that both programs carry. -/
abbrev alpha : EReal := Ideal.ofBits .f32 0x3FD744FD#32

/-- The block indices of the four windows at point `t`. -/
theorem idx : ∀ t : Fin cfg0.N, win0_0.index t = ![t.val % 2, t.val / 2, 0] ∧ win0_1.index t = ![t.val % 2, 0, 0]
    ∧ win0_2.index t = ![t.val / 2, 0] ∧ win0_3.index t = ![t.val / 2, 0] ∧ t.val / 2 < 8 :=
  (by decide +kernel : ∀ t : Fin grid0.N, _)

/-- The first point of a run stores the scaled residual gradient. -/
theorem pay_base (b : Vec Ideal S1024x1024 .f32) (j : S1024x1024.Idx) : k0_pay1 b j = alpha * b j := by
  pointwise [k0_pay1]

/-- One point adds the product of its two blocks, contracted over their columns. -/
theorem pay_add (acc : Vec Ideal S1024x1024 .f32) (a b : Vec Ideal S1x1024x1024 .bf16) (j : S1024x1024.Idx) :
    k0_pay2 acc a b j = acc j + ∑ k : Fin 1024, a (ix3 0 (j 0) k) * b (ix3 0 (j 1) k) := by
  pointwise [k0_pay2]

/-- The reference at an index: the product with the transposed weights, plus the scaled residual gradient. -/
theorem ref_at (G : FVec Ideal S8192x2048 .bf16) (W : FVec Ideal S1024x2048 .f32) (B : FVec Ideal S8192x1024 .f32) (i : S8192x1024.Idx) :
    REF G W B i = alpha * B i + ∑ l : Fin 2048, G (ix2 (i 0) l) * W (ix2 (i 1) l) := by
  unfold REF
  rw [Cert.BDxRefIdeal.Read.val_main_v8_apply, show ∀ x y : EReal, FloatOps.addf (F := Ideal) (φ := .f32) x y = x + y from fun _ _ => rfl, add_comm]
  refine congrArg₂ (· + ·) ?_ ?_
  · rfl
  refine (Cert.BDxRefIdeal.Read.val_main_v5_apply G W _).trans (Finset.sum_congr rfl fun l _ => ?_)
  refine congrArg₂ (· * ·) (congrArg G (funext fun a => Fin.ext ?_)) (congrArg W (funext fun a => Fin.ext ?_))
  · match a with
    | ⟨0, _⟩ => rfl
    | ⟨1, _⟩ => rfl
  · match a with
    | ⟨0, _⟩ => rfl
    | ⟨1, _⟩ => rfl

/-- The kernel's array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : cfg0.N = 16 := N_0
  rw [after0_3, Pipeline.eq_sum_fin_of_reset_step_apply_of_flush (fun n h => outsAt0 m c n h) 2 (fun _ => 0)
    (fun p j => (if p.val % 2 = 0 then alpha * (show FVec Ideal S1024x1024 .f32 from iblk m c 2 p) j else 0)
      + ∑ k : Fin 1024, (show FVec Ideal S1x1024x1024 .bf16 from iblk m c 0 p) (ix3 0 (j 0) k)
        * (show FVec Ideal S1x1024x1024 .bf16 from iblk m c 1 p) (ix3 0 (j 1) k))
    (fun t h j => by rw [outsAt0_A m c t h]; frame_out; rw [pay_add, pay_base, if_pos h, zero_add])
    (fun t h j => by rw [outsAt0_B m c t h]; frame_out; rw [pay_add, if_neg h, zero_add])
    t ((flush0_3 t).mp hf) _, zero_add, Finset.sum_add_distrib, ref_at]
  refine congrArg₂ (· + ·) ?_ ?_
  · rw [Fin.sum_univ_two]
    simp only [Nat.mul_add_mod, Fin.val_zero, Fin.val_one, show 0 % 2 = 0 from rfl, show ¬1 % 2 = 0 from by decide, if_true, if_false, add_zero]
    have hlt : t.val < 16 := lt_of_lt_of_eq t.isLt hN
    have h4 : 2 * (t.val / 2) < cfg0.N := by omega
    rw [if_pos (by omega)]
    blk_point [iblk, V, idx t, idx ⟨2 * (t.val / 2), h4⟩]
  refine Fin.sum_mul_add_congr fun s k hl => ?_
  blk_point [iblk, V, idx t, idx ⟨_, Pipeline.run_point_lt_of_flush t ((flush0_3 t).mp hf) s⟩]

end Cert.BDxValue

end
-- ==== Proof.DwOutValue.lean ====
/-
  The weight gradient of a mixer's output projection (`a_dw_out`, `b_dw_pw2`): what the kernel's array holds after the run is
  the product of the transposed input and the incoming gradient.
-/
module

public import proofs.«01_k».proof.Proof.Gen.DwOutIdeal.Frame
public import proofs.«01_k».proof.Proof.Gen.DwOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwOutValue

open Cert.DwOutIdeal Cert.DwOutIdeal.Gen

variable (m : (ℓ : Loc nD τ sig) → Buf (Elt Ideal) ℓ)

/-- The reference's term over the arguments. -/
abbrev REF (X : FVec Ideal S8192x1024 .f32) (Z : FVec Ideal S8192x1024 .bf16) : FVec Ideal S1x1x1024x1024 .bf16 :=
  Cert.DwOutRefIdeal.Read.val_main_v6 (F := Ideal) X Z

/-- The block indices of the three windows at point `t`. -/
theorem idx : ∀ t : Fin cfg0.N, win0_0.index t = ![t.val % 8, 0] ∧ win0_1.index t = ![0, t.val % 8, 0]
    ∧ win0_2.index t = ![0, 0, 0, 0] ∧ t.val < 8 :=
  (by decide +kernel : ∀ t : Fin grid0.N, _)

/-- The accumulator is cleared to zero. -/
theorem pay_zero (j : S1024x1024.Idx) : k0_pay1 (F := Ideal) j = 0 := by pointwise [k0_pay1]

/-- One point adds the product of its two blocks, contracted over their rows. -/
theorem pay_add (acc : Vec Ideal S1024x1024 .f32) (a : Vec Ideal S1024x1024 .bf16) (b : Vec Ideal S1x1024x1024 .bf16) (j : S1024x1024.Idx) :
    k0_pay2 a acc b j = acc j + ∑ k : Fin 1024, a (ix2 k (j 0)) * b (ix3 0 k (j 1)) := by
  pointwise [k0_pay2]

/-- The last point of a run writes the accumulator back as it stands. -/
theorem pay_out (acc : Vec Ideal S1024x1024 .f32) (y : S1x1x1024x1024.Idx) :
    k0_pay3 acc y = acc (ix2 (y 2) (y 3)) := by
  pointwise [k0_pay3]

/-- At the last point of a run the output block is the accumulator's contents after that point. -/
theorem out_eq (c : Dev nD) (t : Fin cfg0.N) (h : t.val % 8 = 7) (y : S1x1x1024x1024.Idx) :
    (outsAt0 m c t.val t.isLt).1 y = (outsAt0 m c t.val t.isLt).2 (ix2 (y 2) (y 3)) := by
  rw [outsAt0_C m c t (by omega) h]; frame_out; exact pay_out _ y

/-- The reference at an index: the product of the transposed input and the incoming gradient. -/
theorem ref_at (X : FVec Ideal S8192x1024 .f32) (Z : FVec Ideal S8192x1024 .bf16) (i : S1x1x1024x1024.Idx) :
    REF X Z i = ∑ l : Fin 8192, X (ix2 l (i 2)) * Z (ix2 l (i 3)) := by
  unfold REF
  rw [Cert.DwOutRefIdeal.Read.val_main_v6_apply, Cert.DwOutRefIdeal.Read.val_main_v5_apply, Cert.DwOutRefIdeal.Read.val_main_v4_apply,
    show ∀ x : EReal, FloatOps.truncf (F := Ideal) .bf16 Cert.DwOutRefIdeal.Gen.bitsLt_bf16_f32 x = x from fun _ => rfl]
  refine (Cert.DwOutRefIdeal.Read.val_main_v3_apply X Z _).trans (Finset.sum_congr rfl fun l _ => ?_)
  rw [mul_comm]
  refine congrArg₂ (· * ·) (congrArg X (funext fun a => Fin.ext ?_)) (congrArg Z (funext fun a => Fin.ext ?_))
  · match a with
    | ⟨0, _⟩ => rfl
    | ⟨1, _⟩ => rfl
  · match a with
    | ⟨0, _⟩ => rfl
    | ⟨1, _⟩ => rfl

/-- The kernel's array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t ((flush0_2 t).mp hf) _, zero_add]
  rw [ref_at]
  refine Fin.sum_mul_add_congr fun s k hl => ?_
  blk_point [iblk, V, idx t, idx ⟨_, Pipeline.run_point_lt_of_flush t ((flush0_2 t).mp hf) s⟩]

end Cert.DwOutValue

end
-- ==== Proof.ADwInValue.lean ====
/-
  The weight gradient of the gated mixer's input projection (`a_dw_in`): what the kernel's array holds after the run is the
  product of the transposed input and the incoming gradient, the columns in four groups.
-/
module

public import proofs.«01_k».proof.Proof.Gen.ADwInIdeal.Frame
public import proofs.«01_k».proof.Proof.Gen.ADwInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ADwInValue

open Cert.ADwInIdeal Cert.ADwInIdeal.Gen

variable (m : (ℓ : Loc nD τ sig) → Buf (Elt Ideal) ℓ)

/-- The reference's term over the arguments. -/
abbrev REF (X : FVec Ideal S8192x1024 .f32) (Z : FVec Ideal S8192x4096 .bf16) : FVec Ideal S4x1x1024x1024 .bf16 :=
  Cert.ADwInRefIdeal.Read.val_main_v8 (F := Ideal) X Z

/-- The block indices of the three windows at point `t`. -/
theorem idx : ∀ t : Fin cfg0.N, win0_0.index t = ![t.val % 8, 0] ∧ win0_1.index t = ![t.val / 8, t.val % 8, 0]
    ∧ win0_2.index t = ![t.val / 8, 0, 0, 0] ∧ t.val / 8 < 4 :=
  (by decide +kernel : ∀ t : Fin grid0.N, _)

/-- The accumulator is cleared to zero. -/
theorem pay_zero (j : S1024x1024.Idx) : k0_pay1 (F := Ideal) j = 0 := by pointwise [k0_pay1]

/-- One point adds the product of its two blocks, contracted over their rows. -/
theorem pay_add (acc : Vec Ideal S1024x1024 .f32) (a : Vec Ideal S1024x1024 .bf16) (b : Vec Ideal S1x1024x1024 .bf16) (j : S1024x1024.Idx) :
    k0_pay2 a acc b j = acc j + ∑ k : Fin 1024, a (ix2 k (j 0)) * b (ix3 0 k (j 1)) := by
  pointwise [k0_pay2]

/-- The last point of a run writes the accumulator back as it stands. -/
theorem pay_out (acc : Vec Ideal S1024x1024 .f32) (y : S1x1x1024x1024.Idx) :
    k0_pay3 acc y = acc (ix2 (y 2) (y 3)) := by
  pointwise [k0_pay3]

/-- At the last point of a run the output block is the accumulator's contents after that point. -/
theorem out_eq (c : Dev nD) (t : Fin cfg0.N) (h : t.val % 8 = 7) (y : S1x1x1024x1024.Idx) :
    (outsAt0 m c t.val t.isLt).1 y = (outsAt0 m c t.val t.isLt).2 (ix2 (y 2) (y 3)) := by
  rw [outsAt0_C m c t (by omega) h]; frame_out; exact pay_out _ y

/-- The reference at an index: the product of the transposed input and the incoming gradient, the columns in four groups. -/
theorem ref_at (X : FVec Ideal S8192x1024 .f32) (Z : FVec Ideal S8192x4096 .bf16) (i : S4x1x1024x1024.Idx)
    (n : Fin 4096) (hn : n.val = (i 0).val * 1024 + (i 3).val) :
    REF X Z i = ∑ l : Fin 8192, X (ix2 l (i 2)) * Z (ix2 l n) := by
  unfold REF
  rw [Cert.ADwInRefIdeal.Read.val_main_v8_apply, Cert.ADwInRefIdeal.Read.val_main_v7_apply, Cert.ADwInRefIdeal.Read.val_main_v6_apply, Cert.ADwInRefIdeal.Read.val_main_v5_apply, Cert.ADwInRefIdeal.Read.val_main_v4_apply,
    show ∀ x : EReal, FloatOps.truncf (F := Ideal) .bf16 Cert.ADwInRefIdeal.Gen.bitsLt_bf16_f32 x = x from fun _ => rfl]
  refine (Cert.ADwInRefIdeal.Read.val_main_v3_apply X Z _).trans (Finset.sum_congr rfl fun l _ => ?_)
  rw [mul_comm]
  have h1 : (i 0).val < 4 := (i 0).isLt
  have h2 : (i 2).val < 1024 := (i 2).isLt
  have h3 : (i 3).val < 1024 := (i 3).isLt
  refine congrArg₂ (· * ·) (congrArg X (funext fun a => Fin.ext ?_)) (congrArg Z (funext fun a => Fin.ext ?_))
  · match a with
    | ⟨0, _⟩ => rfl
    | ⟨1, _⟩ =>
      show (((i 2).val * 4 + (i 0).val) * 1024 + (i 3).val) / 4096 = (i 2).val
      omega
  · match a with
    | ⟨0, _⟩ => rfl
    | ⟨1, _⟩ =>
      show (((i 2).val * 4 + (i 0).val) * 1024 + (i 3).val) % 4096 = n.val
      omega

/-- The kernel's array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t ((flush0_2 t).mp hf) _, zero_add]
  have ht := (idx t).2.2.2
  have h3 : (y 3).val < 1024 := (y 3).isLt
  rw [ref_at _ _ _ ⟨t.val / 8 * 1024 + (y 3).val, by omega⟩ (by blk_simp [idx t])]
  refine Fin.sum_mul_add_congr fun s k hl => ?_
  blk_point [iblk, V, idx t, idx ⟨_, Pipeline.run_point_lt_of_flush t ((flush0_2 t).mp hf) s⟩]

end Cert.ADwInValue

end
-- ==== Proof.BDwInValue.lean ====
/-
  The weight gradient of the convolution mixer's input projection (`b_dw_pw1`): what the kernel's array holds after the run is
  the product of the transposed input and the incoming gradient, the columns in two groups of two.
-/
module

public import proofs.«01_k».proof.Proof.Gen.BDwInIdeal.Frame
public import proofs.«01_k».proof.Proof.Gen.BDwInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BDwInValue

open Cert.BDwInIdeal Cert.BDwInIdeal.Gen

variable (m : (ℓ : Loc nD τ sig) → Buf (Elt Ideal) ℓ)

/-- The reference's term over the arguments. -/
abbrev REF (X : FVec Ideal S8192x1024 .f32) (Z : FVec Ideal S8192x2048 .bf16) : FVec Ideal S2x2x1024x512 .bf16 :=
  Cert.BDwInRefIdeal.Read.val_main_v7 (F := Ideal) X Z

/-- The block indices of the three windows at point `t`. -/
theorem idx : ∀ t : Fin cfg0.N, win0_0.index t = ![t.val % 8, 0] ∧ win0_1.index t = ![t.val / 16, t.val % 8, t.val / 8 % 2]
    ∧ win0_2.index t = ![t.val / 16, t.val / 8 % 2, 0, 0] ∧ t.val / 8 < 4 :=
  (by decide +kernel : ∀ t : Fin grid0.N, _)

/-- The accumulator is cleared to zero. -/
theorem pay_zero (j : S1024x512.Idx) : k0_pay1 (F := Ideal) j = 0 := by pointwise [k0_pay1]

/-- One point adds the product of its two blocks, contracted over their rows. -/
theorem pay_add (acc : Vec Ideal S1024x512 .f32) (a : Vec Ideal S1024x1024 .bf16) (b : Vec Ideal S1x1024x512 .bf16) (j : S1024x512.Idx) :
    k0_pay2 a acc b j = acc j + ∑ k : Fin 1024, a (ix2 k (j 0)) * b (ix3 0 k (j 1)) := by
  pointwise [k0_pay2]

/-- The last point of a run writes the accumulator back as it stands. -/
theorem pay_out (acc : Vec Ideal S1024x512 .f32) (y : S1x1x1024x512.Idx) :
    k0_pay3 acc y = acc (ix2 (y 2) (y 3)) := by
  pointwise [k0_pay3]

/-- At the last point of a run the output block is the accumulator's contents after that point. -/
theorem out_eq (c : Dev nD) (t : Fin cfg0.N) (h : t.val % 8 = 7) (y : S1x1x1024x512.Idx) :
    (outsAt0 m c t.val t.isLt).1 y = (outsAt0 m c t.val t.isLt).2 (ix2 (y 2) (y 3)) := by
  rw [outsAt0_C m c t (by omega) h]; frame_out; exact pay_out _ y

/-- The reference at an index: the product of the transposed input and the incoming gradient, the columns in four groups. -/
theorem ref_at (X : FVec Ideal S8192x1024 .f32) (Z : FVec Ideal S8192x2048 .bf16) (i : S2x2x1024x512.Idx)
    (n : Fin 2048) (hn : n.val = (i 0).val * 1024 + (i 1).val * 512 + (i 3).val) :
    REF X Z i = ∑ l : Fin 8192, X (ix2 l (i 2)) * Z (ix2 l n) := by
  unfold REF
  rw [Cert.BDwInRefIdeal.Read.val_main_v7_apply, Cert.BDwInRefIdeal.Read.val_main_v6_apply, Cert.BDwInRefIdeal.Read.val_main_v5_apply, Cert.BDwInRefIdeal.Read.val_main_v4_apply,
    show ∀ x : EReal, FloatOps.truncf (F := Ideal) .bf16 Cert.BDwInRefIdeal.Gen.bitsLt_bf16_f32 x = x from fun _ => rfl]
  refine (Cert.BDwInRefIdeal.Read.val_main_v3_apply X Z _).trans (Finset.sum_congr rfl fun l _ => ?_)
  rw [mul_comm]
  have h0 : (i 0).val < 2 := (i 0).isLt
  have h1 : (i 1).val < 2 := (i 1).isLt
  have h2 : (i 2).val < 1024 := (i 2).isLt
  have h3 : (i 3).val < 512 := (i 3).isLt
  refine congrArg₂ (· * ·) (congrArg X (funext fun a => Fin.ext ?_)) (congrArg Z (funext fun a => Fin.ext ?_))
  · match a with
    | ⟨0, _⟩ => rfl
    | ⟨1, _⟩ =>
      show ((((i 2).val * 2 + (i 0).val) * 2 + (i 1).val) * 512 + (i 3).val) / 2048 = (i 2).val
      omega
  · match a with
    | ⟨0, _⟩ => rfl
    | ⟨1, _⟩ =>
      show ((((i 2).val * 2 + (i 0).val) * 2 + (i 1).val) * 512 + (i 3).val) % 2048 = n.val
      omega

/-- The kernel's array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t ((flush0_2 t).mp hf) _, zero_add]
  have ht := (idx t).2.2.2
  have h3 : (y 3).val < 512 := (y 3).isLt
  rw [ref_at _ _ _ ⟨t.val / 8 * 512 + (y 3).val, by omega⟩ (by blk_simp [idx t]; show t.val / 8 * 512 + (y 3).val = _; omega)]
  refine Fin.sum_mul_add_congr fun s k hl => ?_
  blk_point [iblk, V, idx t, idx ⟨_, Pipeline.run_point_lt_of_flush t ((flush0_2 t).mp hf) s⟩]

end Cert.BDwInValue

end
-- ==== Proof.ProductClaims.lean ====
/-
  The claims about the plain products of the backward pass, each closed from the kernel's run, the value its array holds after
  that run, and the reference's run.
-/
module

public import proofs.«01_k».proof.Defs
public import proofs.«01_k».proof.Proof.Dw1Value
public import proofs.«01_k».proof.Proof.Dw2Value
public import proofs.«01_k».proof.Proof.ADxValue
public import proofs.«01_k».proof.Proof.BDxValue
public import proofs.«01_k».proof.Proof.Gen.BDx.Frame
public import proofs.«01_k».proof.Proof.DwOutValue
public import proofs.«01_k».proof.Proof.Gen.DwOut.Frame
public import proofs.«01_k».proof.Proof.ADwInValue
public import proofs.«01_k».proof.Proof.Gen.ADwIn.Frame
public import proofs.«01_k».proof.Proof.BDwInValue
public import proofs.«01_k».proof.Proof.Gen.BDwIn.Frame
public import proofs.«01_k».proof.Proof.Gen.Dw1.Frame
public import proofs.«01_k».proof.Proof.Gen.Dw2.Frame
public import proofs.«01_k».proof.Proof.Gen.ADx.Frame
public import Idealize.ShloMosaic.Lib.Claim

@[expose] public section

set_option maxRecDepth 16384

noncomputable section

open Idealize.ShloMosaic Idealize.SL.Sem

namespace Cert.Dw1Claims

/-- The kernel runs and leaves its arguments and the semaphores as they were. -/
theorem frame_kernel : Cert.quiescent_Dw1 := fun m ρ _ => Cert.Dw1.Gen.frame m ρ
/-- So does its idealization. -/
theorem frame_ideal : Cert.quiescent_Dw1Ideal := fun m ρ _ => Cert.Dw1Ideal.Gen.frame m ρ
/-- So does the reference. -/
theorem frame_ref : Cert.quiescent_Dw1RefIdeal := fun m ρ _ =>
  (θ_run Cert.Dw1RefIdeal.defs _ _).mono (fun r h => ⟨fun c => (h c).2, sem_eq_zero_of_no_sems (by decide) r.2⟩)
    (Cert.Dw1RefIdeal.Value.run (F := Ideal) m ρ)
/-- The kernel and the reference end with the same array. -/
theorem value : Cert.algebraic_Dw1Ideal_Dw1RefIdeal := by
  pair_intro
  · run_from Cert.Dw1Ideal.Gen.run_main m g
  · run_from Cert.Dw1RefIdeal.Value.run (F := Ideal) m' g'
    exact (Cert.Dw1Value.final m c).symm

end Cert.Dw1Claims

namespace Cert.Dw2Claims

/-- The kernel runs and leaves its arguments and the semaphores as they were. -/
theorem frame_kernel : Cert.quiescent_Dw2 := fun m ρ _ => Cert.Dw2.Gen.frame m ρ
/-- So does its idealization. -/
theorem frame_ideal : Cert.quiescent_Dw2Ideal := fun m ρ _ => Cert.Dw2Ideal.Gen.frame m ρ
/-- So does the reference. -/
theorem frame_ref : Cert.quiescent_Dw2RefIdeal := fun m ρ _ =>
  (θ_run Cert.Dw2RefIdeal.defs _ _).mono (fun r h => ⟨fun c => (h c).2, sem_eq_zero_of_no_sems (by decide) r.2⟩)
    (Cert.Dw2RefIdeal.Value.run (F := Ideal) m ρ)
/-- The kernel and the reference end with the same array. -/
theorem value : Cert.algebraic_Dw2Ideal_Dw2RefIdeal := by
  pair_intro
  · run_from Cert.Dw2Ideal.Gen.run_main m g
  · run_from Cert.Dw2RefIdeal.Value.run (F := Ideal) m' g'
    exact (Cert.Dw2Value.final m c).symm

end Cert.Dw2Claims

namespace Cert.ADxClaims

/-- The kernel runs and leaves its arguments and the semaphores as they were. -/
theorem frame_kernel : Cert.quiescent_ADx := fun m ρ _ => Cert.ADx.Gen.frame m ρ
/-- So does its idealization. -/
theorem frame_ideal : Cert.quiescent_ADxIdeal := fun m ρ _ => Cert.ADxIdeal.Gen.frame m ρ
/-- So does the reference. -/
theorem frame_ref : Cert.quiescent_ADxRefIdeal := fun m ρ _ =>
  (θ_run Cert.ADxRefIdeal.defs _ _).mono (fun r h => ⟨fun c => (h c).2, sem_eq_zero_of_no_sems (by decide) r.2⟩)
    (Cert.ADxRefIdeal.Value.run (F := Ideal) m ρ)
/-- The kernel and the reference end with the same array. -/
theorem value : Cert.algebraic_ADxIdeal_ADxRefIdeal := by
  pair_intro
  · run_from Cert.ADxIdeal.Gen.run_main m g
  · run_from Cert.ADxRefIdeal.Value.run (F := Ideal) m' g'
    exact (Cert.ADxValue.final m c).symm

end Cert.ADxClaims

namespace Cert.BDxClaims

/-- The kernel runs and leaves its arguments and the semaphores as they were. -/
theorem frame_kernel : Cert.quiescent_BDx := fun m ρ _ => Cert.BDx.Gen.frame m ρ
/-- So does its idealization. -/
theorem frame_ideal : Cert.quiescent_BDxIdeal := fun m ρ _ => Cert.BDxIdeal.Gen.frame m ρ
/-- So does the reference. -/
theorem frame_ref : Cert.quiescent_BDxRefIdeal := fun m ρ _ =>
  (θ_run Cert.BDxRefIdeal.defs _ _).mono (fun r h => ⟨fun c => (h c).2, sem_eq_zero_of_no_sems (by decide) r.2⟩)
    (Cert.BDxRefIdeal.Value.run (F := Ideal) m ρ)
/-- The kernel and the reference end with the same array. -/
theorem value : Cert.algebraic_BDxIdeal_BDxRefIdeal := by
  pair_intro
  · run_from Cert.BDxIdeal.Gen.run_main m g
  · run_from Cert.BDxRefIdeal.Value.run (F := Ideal) m' g'
    exact (Cert.BDxValue.final m c).symm

end Cert.BDxClaims

namespace Cert.DwOutClaims

/-- The kernel runs and leaves its arguments and the semaphores as they were. -/
theorem frame_kernel : Cert.quiescent_DwOut := fun m ρ _ => Cert.DwOut.Gen.frame m ρ
/-- So does its idealization. -/
theorem frame_ideal : Cert.quiescent_DwOutIdeal := fun m ρ _ => Cert.DwOutIdeal.Gen.frame m ρ
/-- So does the reference. -/
theorem frame_ref : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)
/-- The kernel and the reference end with the same array. -/
theorem value : Cert.algebraic_DwOutIdeal_DwOutRefIdeal := by
  pair_intro
  · run_from Cert.DwOutIdeal.Gen.run_main m g
  · run_from Cert.DwOutRefIdeal.Value.run (F := Ideal) m' g'
    exact (Cert.DwOutValue.final m c).symm

end Cert.DwOutClaims

namespace Cert.ADwInClaims

/-- The kernel runs and leaves its arguments and the semaphores as they were. -/
theorem frame_kernel : Cert.quiescent_ADwIn := fun m ρ _ => Cert.ADwIn.Gen.frame m ρ
/-- So does its idealization. -/
theorem frame_ideal : Cert.quiescent_ADwInIdeal := fun m ρ _ => Cert.ADwInIdeal.Gen.frame m ρ
/-- So does the reference. -/
theorem frame_ref : Cert.quiescent_ADwInRefIdeal := fun m ρ _ =>
  (θ_run Cert.ADwInRefIdeal.defs _ _).mono (fun r h => ⟨fun c => (h c).2, sem_eq_zero_of_no_sems (by decide) r.2⟩)
    (Cert.ADwInRefIdeal.Value.run (F := Ideal) m ρ)
/-- The kernel and the reference end with the same array. -/
theorem value : Cert.algebraic_ADwInIdeal_ADwInRefIdeal := by
  pair_intro
  · run_from Cert.ADwInIdeal.Gen.run_main m g
  · run_from Cert.ADwInRefIdeal.Value.run (F := Ideal) m' g'
    exact (Cert.ADwInValue.final m c).symm

end Cert.ADwInClaims

namespace Cert.BDwInClaims

/-- The kernel runs and leaves its arguments and the semaphores as they were. -/
theorem frame_kernel : Cert.quiescent_BDwIn := fun m ρ _ => Cert.BDwIn.Gen.frame m ρ
/-- So does its idealization. -/
theorem frame_ideal : Cert.quiescent_BDwInIdeal := fun m ρ _ => Cert.BDwInIdeal.Gen.frame m ρ
/-- So does the reference. -/
theorem frame_ref : Cert.quiescent_BDwInRefIdeal := fun m ρ _ =>
  (θ_run Cert.BDwInRefIdeal.defs _ _).mono (fun r h => ⟨fun c => (h c).2, sem_eq_zero_of_no_sems (by decide) r.2⟩)
    (Cert.BDwInRefIdeal.Value.run (F := Ideal) m ρ)
/-- The kernel and the reference end with the same array. -/
theorem value : Cert.algebraic_BDwInIdeal_BDwInRefIdeal := by
  pair_intro
  · run_from Cert.BDwInIdeal.Gen.run_main m g
  · run_from Cert.BDwInRefIdeal.Value.run (F := Ideal) m' g'
    exact (Cert.BDwInValue.final m c).symm

end Cert.BDwInClaims

end
-- ==== Proof.NormAlgebra.lean ====
/-
  One row of a layer normalisation's gradient over the extended reals: the closed form `rstd (dyg - mean dyg - xhat mean (dyg xhat))`
  against what the chain rule gives through the mean, the variance and the reciprocal root.
-/
module

public import Idealize.ShloMosaic.Lib.IdealHost
public import Idealize.ShloMosaic.Lib.Pipeline.ValueKit

@[expose] public section

noncomputable section

open Idealize.ShloMosaic

namespace Cert.Norm

/-! ## Sums and quotients of reals -/

/-- A sum of reals is the real of the sum. -/
theorem sum_coe {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- A quotient of reals by a nonzero real is the real quotient. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Every summand of a sum that is a real is a real. -/
theorem real_of_sum {ι : Type*} (s : Finset ι) (f : ι → EReal) (ht : (∑ k ∈ s, f k) ≠ ⊤) (hb : (∑ k ∈ s, f k) ≠ ⊥) :
    ∀ k ∈ s, f k ≠ ⊤ ∧ f k ≠ ⊥ := by
  classical
  induction s using Finset.induction_on with
  | empty => simp
  | insert a s h ih =>
    rw [Finset.sum_insert h] at ht hb
    have hb' := EReal.add_ne_bot_iff.mp hb
    have ha : f a ≠ ⊤ := fun e => ht (by rw [e]; exact EReal.top_add_of_ne_bot hb'.2)
    have hs : (∑ k ∈ s, f k) ≠ ⊤ := fun e => ht (by rw [e]; exact EReal.add_top_of_ne_bot hb'.1)
    intro k hk
    rcases Finset.mem_insert.mp hk with rfl | hk
    · exact ⟨ha, hb'.1⟩
    · exact ih hs hb'.2 k hk

/-! ## The two gradients of one row -/

variable {n : ℕ}

/-- A row's mean. -/
def mean (N : EReal) (f : Fin n → EReal) : EReal := Ideal.div (∑ k, f k) N
/-- A row less its mean. -/
def centred (N : EReal) (r : Fin n → EReal) (j : Fin n) : EReal := r j - mean N r
/-- The variance with the small constant added. -/
def spread (N e : EReal) (r : Fin n → EReal) : EReal := mean N (fun k => centred N r k * centred N r k) + e
/-- The reciprocal root of it. -/
def rstd (N e : EReal) (r : Fin n → EReal) : EReal := Ideal.rsqrt (spread N e r)
/-- The normalised row. -/
def hat (N e : EReal) (r : Fin n → EReal) (j : Fin n) : EReal := centred N r j * rstd N e r

/-- The normalised row times the gain plus the shift. -/
def affine (N e : EReal) (r g s : Fin n → EReal) (j : Fin n) : EReal := hat N e r j * g j + s j

/-- The gradient in closed form, for `d` the incoming gradient times the gain. -/
def closed (N e : EReal) (r d : Fin n → EReal) (j : Fin n) : EReal :=
  rstd N e r * (d j - mean N d - hat N e r j * mean N (fun k => d k * hat N e r k))

/-- The part of the chain rule's gradient that comes through the variance. -/
def viaVar (N e h two : EReal) (r d : Fin n → EReal) (j : Fin n) : EReal :=
  Ideal.div ((∑ k, centred N r k * d k) * (h * Ideal.div (rstd N e r) (spread N e r))) N * (two * centred N r j)

/-- The gradient as the chain rule gives it. -/
def chain (N e h two : EReal) (r d : Fin n → EReal) (j : Fin n) : EReal :=
  d j * rstd N e r + viaVar N e h two r d j
    + Ideal.div ((∑ k, -(d k * rstd N e r)) + ∑ k, -(viaVar N e h two r d k)) N

/-- In a row with an infinite entry the reciprocal root is zero. -/
theorem rstd_of_infinite (N : ℝ) (hN : 0 < N) (e : ℝ) (r : Fin n → EReal)
    (h : ¬ ∀ k, r k ≠ ⊤ ∧ r k ≠ ⊥) : spread (N : EReal) e r = ⊤ ∧ rstd (N : EReal) e r = 0 := by
  have hN0 : (N : EReal) ≠ 0 := by exact_mod_cast hN.ne'
  have hi : (0 : EReal) < (N : EReal)⁻¹ := by rw [← EReal.coe_inv]; exact_mod_cast inv_pos.mpr hN
  have hm : mean (N : EReal) r = ⊤ ∨ mean (N : EReal) r = ⊥ := by
    unfold mean Ideal.div
    rw [if_neg hN0]
    by_cases ht : (∑ k, r k) = ⊤
    · left; rw [ht]; exact EReal.top_mul_of_pos hi
    by_cases hb : (∑ k, r k) = ⊥
    · right; rw [hb]; exact EReal.bot_mul_of_pos hi
    exact absurd (fun k => real_of_sum _ _ ht hb k (Finset.mem_univ k)) h
  have hc : ∀ k, centred (N : EReal) r k * centred (N : EReal) r k = ⊤ := by
    intro k
    have hk : centred (N : EReal) r k = ⊤ ∨ centred (N : EReal) r k = ⊥ := by
      unfold centred
      rcases hm with hm | hm <;> rw [hm]
      · right; rw [sub_eq_add_neg, EReal.neg_top]; exact EReal.add_bot _
      · by_cases hr : r k = ⊥
        · right; rw [hr]; rfl
        · left; rw [sub_eq_add_neg, EReal.neg_bot]; exact EReal.add_top_of_ne_bot hr
    rcases hk with hk | hk <;> rw [hk]
    · exact EReal.top_mul_top
    · exact EReal.bot_mul_bot
  have hs : spread (N : EReal) e r = ⊤ := by
    unfold spread mean
    simp only [hc]
    obtain ⟨k0, _⟩ := not_forall.mp h
    have hsum : (∑ _k : Fin n, (⊤ : EReal)) = ⊤ := by
      rw [← Finset.add_sum_erase _ _ (Finset.mem_univ k0)]
      refine EReal.top_add_of_ne_bot ?_
      have : (0 : EReal) ≤ ∑ _k ∈ Finset.univ.erase k0, (⊤ : EReal) := Finset.sum_nonneg fun _ _ => le_top
      exact (lt_of_lt_of_le EReal.bot_lt_zero this).ne'
    rw [hsum]
    unfold Ideal.div
    rw [if_neg hN0, EReal.top_mul_of_pos hi]
    exact EReal.top_add_coe e
  refine ⟨hs, ?_⟩
  unfold rstd
  rw [hs]
  rfl

/-- The two gradients agree, row entry by row entry, for a real incoming gradient and any row. -/
theorem closed_eq_chain (N : ℝ) (hN : N = n) (h0 : 0 < N) (e : ℝ) (he : 0 < e) (r : Fin n → EReal) (d : Fin n → ℝ) (j : Fin n) :
    closed (N : EReal) e r (fun k => (d k : EReal)) j
      = chain (N : EReal) e ((-(1 / 2) : ℝ) : EReal) ((2 : ℝ) : EReal) r (fun k => (d k : EReal)) j := by
  by_cases hr : ∀ k, r k ≠ ⊤ ∧ r k ≠ ⊥
  · obtain ⟨ρ, rfl⟩ : ∃ ρ : Fin n → ℝ, r = fun k => (ρ k : EReal) :=
      ⟨fun k => (r k).toReal, funext fun k => (EReal.coe_toReal (hr k).1 (hr k).2).symm⟩
    have hN' : N ≠ 0 := h0.ne'
    have hmean : ∀ f : Fin n → ℝ, mean (N : EReal) (fun k => (f k : EReal)) = (((∑ k, f k) / N : ℝ) : EReal) := fun f => by
      unfold mean; rw [sum_coe, div_coe _ _ hN']
    set μ : ℝ := (∑ k, ρ k) / N with hμ
    have hc : ∀ k, centred (N : EReal) (fun k => (ρ k : EReal)) k = ((ρ k - μ : ℝ) : EReal) := fun k => by
      unfold centred; rw [hmean, EReal.coe_sub]
    set v : ℝ := (∑ k, (ρ k - μ) * (ρ k - μ)) / N + e with hv
    have hvpos : 0 < v := by
      have : 0 ≤ (∑ k, (ρ k - μ) * (ρ k - μ)) / N := div_nonneg (Finset.sum_nonneg fun k _ => mul_self_nonneg _) h0.le
      linarith
    have hs : spread (N : EReal) e (fun k => (ρ k : EReal)) = (v : EReal) := by
      unfold spread
      simp only [hc, ← EReal.coe_mul]
      rw [hmean, ← EReal.coe_add]
    set q : ℝ := (Real.sqrt v)⁻¹ with hq
    have hrs : rstd (N : EReal) e (fun k => (ρ k : EReal)) = (q : EReal) := by
      unfold rstd
      rw [hs]
      show (if v < 0 then ⊥ else if v = 0 then ⊤ else (((Real.sqrt v)⁻¹ : ℝ) : EReal)) = _
      rw [if_neg (by linarith), if_neg hvpos.ne']
    have hqv : q / v = q * q * q := by
      have : q * q * v = 1 := by
        rw [hq, ← mul_inv, Real.mul_self_sqrt hvpos.le, inv_mul_cancel₀ hvpos.ne']
      field_simp
      linear_combination (-q) * this
    have hsum0 : ∑ k, (ρ k - μ) = 0 := by
      rw [Finset.sum_sub_distrib, Finset.sum_const, Finset.card_univ, Fintype.card_fin, nsmul_eq_mul, ← hN, hμ]
      field_simp
      ring
    have hvia : ∀ k, viaVar (N : EReal) e ((-(1 / 2) : ℝ) : EReal) ((2 : ℝ) : EReal) (fun k => (ρ k : EReal)) (fun k => (d k : EReal)) k
        = (((∑ k, (ρ k - μ) * d k) * (-(1 / 2) * (q / v)) / N * (2 * (ρ k - μ)) : ℝ) : EReal) := fun k => by
      unfold viaVar
      simp only [hc, hs, hrs]
      rw [div_coe _ _ hvpos.ne']
      simp only [← EReal.coe_mul, sum_coe]
      rw [div_coe _ _ hN', ← EReal.coe_mul]
    unfold closed chain hat
    simp only [hvia, hc, hrs]
    simp only [← EReal.coe_mul, ← EReal.coe_neg, sum_coe, hmean]
    simp only [← EReal.coe_add, div_coe _ _ hN']
    simp only [← EReal.coe_mul, ← EReal.coe_add, ← EReal.coe_sub]
    congr 1
    rw [hqv]
    have e1 : ∑ k, -(d k * q) = -(q * ∑ k, d k) := by
      rw [Finset.sum_neg_distrib, ← Finset.sum_mul, mul_comm]
    have e2 : ∑ k, d k * ((ρ k - μ) * q) = q * ∑ k, (ρ k - μ) * d k := by
      rw [Finset.mul_sum]; exact Finset.sum_congr rfl fun k _ => by ring
    have e3 : ∀ a : ℝ, ∑ k, -(a * (2 * (ρ k - μ))) = 0 := fun a => by
      have : ∀ k, -(a * (2 * (ρ k - μ))) = (-(a * 2)) * (ρ k - μ) := fun k => by ring
      simp only [this]
      rw [← Finset.mul_sum, hsum0, mul_zero]
    rw [e1, e2, e3]
    field_simp
    ring
  · obtain ⟨hs, hq⟩ := rstd_of_infinite N h0 e r hr
    have hN0 : (N : EReal) ≠ 0 := by exact_mod_cast h0.ne'
    have hz : Ideal.div 0 (N : EReal) = 0 := by unfold Ideal.div; rw [if_neg hN0, zero_mul]
    have hzt : Ideal.div 0 (⊤ : EReal) = 0 := by unfold Ideal.div; rw [if_neg (by decide), zero_mul]
    unfold closed chain viaVar
    simp only [hs, hq, hzt, zero_mul, mul_zero, hz, neg_zero, Finset.sum_const_zero, add_zero]

/-! ## The rows' literals -/

/-- The row length's literal. -/
abbrev Nw : EReal := Ideal.ofBits .f32 0x44800000#32
/-- The small constant's literal. -/
abbrev Ew : EReal := Ideal.ofBits .f32 0x3727C5AC#32

/-- The row length's literal is 1024. -/
theorem Nw_eq : Nw = ((1024 : ℝ) : EReal) := by
  simp [Nw, Ideal.ofBits, Ideal.ieee]; rw [← EReal.coe_mul]; norm_num
/-- The literal of a half, negated. -/
theorem half_eq : Ideal.ofBits .f32 0xBF000000#32 = ((-(1 / 2) : ℝ) : EReal) := by
  simp [Ideal.ofBits, Ideal.ieee]; rw [← EReal.coe_mul]; norm_num
/-- The literal two. -/
theorem two_eq : Ideal.ofBits .f32 0x40000000#32 = ((2 : ℝ) : EReal) := by
  simp [Ideal.ofBits, Ideal.ieee]; rw [← EReal.coe_mul]; norm_num
/-- The small constant is a positive real. -/
theorem Ew_pos : ∃ e : ℝ, 0 < e ∧ Ew = (e : EReal) := by
  refine ⟨(2 ^ 23 + 2606508 : ℕ) * (2 : ℝ) ^ ((110 : ℤ) - 127 - 23), by positivity, ?_⟩
  simp [Ew, Ideal.ofBits, Ideal.ieee]

end Cert.Norm

end
-- ==== Proof.MixLnRef.lean ====
/-
  The reference of the output projection's and normalisation's gradient, read at an index: the rows of the chain rule's gradient.
-/
module

public import proofs.«01_k».proof.Proof.NormAlgebra
public import proofs.«01_k».proof.Proof.Gen.MixLnRefIdeal.Read
public import Idealize.ShloMosaic.Lib.Pipeline.ValueKit

@[expose] public section

set_option maxRecDepth 16384

noncomputable section

open Idealize.ShloMosaic Idealize.ShloMosaic.TcCoe

namespace Cert.MixLnRef

open Cert.MixLnRefIdeal Cert.MixLnRefIdeal.Read Cert.Norm

variable (x0 x1 x2 : FVec Ideal S8192x1024 .f32) (x3 : FVec Ideal S1024x1024 .f32) (x4 x5 : FVec Ideal S1x1024 .f32)

/-- Row `p` of a matrix. -/
abbrev row (X : FVec Ideal S8192x1024 .f32) (p : Fin 8192) : Fin 1024 → EReal := fun k => X (ix2 p k)

/-- A matrix at an index is its row at the column. -/
theorem at_row (X : FVec Ideal S8192x1024 .f32) (i : S8192x1024.Idx) : X i = row X (i 0) (i 1) :=
  congrArg X (funext fun a => Fin.ext (by match a with | ⟨0, _⟩ => rfl | ⟨1, _⟩ => rfl))

/-- The normalised layer's input: the residual plus the projected mixer output. -/
abbrev R : FVec Ideal S8192x1024 .f32 := val_main_v7 (F := Ideal) x1 x2 x3 x4

/-- The incoming gradient times the gain, a row of it. -/
abbrev dyg (p : Fin 8192) : Fin 1024 → EReal := fun k => x0 (ix2 p k) * x5 (ix2 0 k)

/-- The reference's row mean. -/
theorem mean_at (i : S8192x1.Idx) : val_main_v11 (F := Ideal) x1 x2 x3 x4 i = mean Nw (row (R x1 x2 x3 x4) (i 0)) := by
  rw [val_main_v11_apply, val_main_v9_apply, val_main_v8_apply, val_main_v10_apply, val_main_cst_1_apply, val_main_cst_0_apply]
  show Ideal.div (Ideal.ofBits .f32 0x00000000#32 + _) _ = Ideal.div _ _
  rw [Ideal.ofBits_zero_f32, zero_add]
  exact congrArg (Ideal.div · _) (Finset.sum_congr rfl fun k _ => at_row _ _)

/-- The reference's centred row. -/
theorem centred_at (i : S8192x1024.Idx) : val_main_v13 (F := Ideal) x1 x2 x3 x4 i = centred Nw (row (R x1 x2 x3 x4) (i 0)) (i 1) := by
  rw [val_main_v13_apply, val_main_v12_apply, mean_at]
  exact congrArg (· - mean Nw (row (R x1 x2 x3 x4) (i 0))) (at_row (R x1 x2 x3 x4) i)

/-- The centred row where the reference writes it a second time. -/
theorem centred_at' (i : S8192x1024.Idx) : val_main_v22 (F := Ideal) x1 x2 x3 x4 i = centred Nw (row (R x1 x2 x3 x4) (i 0)) (i 1) := by
  rw [val_main_v22_apply, val_main_v21_apply, mean_at]
  exact congrArg (· - mean Nw (row (R x1 x2 x3 x4) (i 0))) (at_row (R x1 x2 x3 x4) i)

/-- The reference's variance with the small constant added. -/
theorem spread_at (i : S8192x1.Idx) : val_main_v24 (F := Ideal) x1 x2 x3 x4 i = spread Nw Ew (row (R x1 x2 x3 x4) (i 0)) := by
  rw [val_main_v24_apply, val_main_v20_apply, val_main_v18_apply, val_main_v17_apply, val_main_v19_apply, val_main_v23_apply,
    val_main_cst_3_apply, val_main_cst_4_apply, val_main_cst_5_apply]
  show Ideal.div (Ideal.ofBits .f32 0x00000000#32 + _) _ + _ = Ideal.div _ _ + _
  rw [Ideal.ofBits_zero_f32, zero_add]
  refine congrArg (Ideal.div · _ + _) (Finset.sum_congr rfl fun k _ => ?_)
  rw [val_main_v14_apply, centred_at]; rfl

/-- The reference's reciprocal standard deviation. -/
theorem rstd_at (i : S8192x1.Idx) : val_main_v25 (F := Ideal) x1 x2 x3 x4 i = rstd Nw Ew (row (R x1 x2 x3 x4) (i 0)) := by
  rw [val_main_v25_apply, spread_at]; rfl

/-- The reference's normalised row. -/
theorem hat_at (i : S8192x1024.Idx) : val_main_v30 (F := Ideal) x1 x2 x3 x4 i = hat Nw Ew (row (R x1 x2 x3 x4) (i 0)) (i 1) := by
  rw [val_main_v30_apply, val_main_v29_apply, centred_at', rstd_at]; rfl

/-- The incoming gradient, reshaped to the shape it has, is itself. -/
theorem dy_at (i : S8192x1024.Idx) : val_main_v37 (F := Ideal) x0 i = row x0 (i 0) (i 1) := by
  unfold val_main_v37
  rw [shapeCast_self]
  exact at_row x0 i

/-- The gain, copied to every row. -/
theorem gain_at (i : S8192x1024.Idx) : val_main_v44 (F := Ideal) x5 i = x5 (ix2 0 (i 1)) := by
  rw [val_main_v44_apply, val_main_v31_apply, val_main_v1_apply]
  refine congrArg x5 (funext fun a => Fin.ext ?_)
  match a with
  | ⟨0, _⟩ => rfl
  | ⟨1, _⟩ => exact Nat.mod_eq_of_lt (i 1).isLt

/-- The incoming gradient times the gain. -/
theorem dyg_at (i : S8192x1024.Idx) : val_main_v45 (F := Ideal) x0 x5 i = dyg x0 x5 (i 0) (i 1) := by
  rw [val_main_v45_apply, dy_at, gain_at]; rfl

/-- The part of the gradient that comes through the variance. -/
theorem via_at (i : S8192x1024.Idx) : val_main_v60 (F := Ideal) x0 x1 x2 x3 x4 x5 i
    = viaVar Nw Ew (Ideal.ofBits .f32 0xBF000000#32) (Ideal.ofBits .f32 0x40000000#32) (row (R x1 x2 x3 x4) (i 0)) (dyg x0 x5 (i 0)) (i 1) := by
  rw [val_main_v60_apply, val_main_v59_apply, val_main_v58_apply, Fin.sum_univ_one, val_main_v57_apply, val_main_v56_apply, val_main_v52_apply,
    val_main_v49_apply, val_main_v48_apply, val_main_v28_apply, val_main_v26_apply, spread_at, rstd_at, val_main_v27_apply, val_main_v16_apply,
    val_main_v15_apply, centred_at, val_main_cst_14_apply, val_main_cst_13_apply, val_main_cst_11_apply, val_main_cst_6_apply, val_main_cst_2_apply]
  show (Ideal.ofBits .f32 0x00000000#32 + Ideal.div ((Ideal.ofBits .f32 0x00000000#32 + _) * (_ * Ideal.div _ _)) _) * (_ * _) = Ideal.div (_ * (_ * Ideal.div _ _)) _ * (_ * _)
  rw [Ideal.ofBits_zero_f32, zero_add, zero_add]
  refine congrArg (fun s => Ideal.div (s * _) _ * _) (Finset.sum_congr rfl fun k _ => ?_)
  rw [val_main_v47_apply, centred_at', dyg_at]
  have hp : (idx_main_v49 (idx_main_v58 (idx_main_v59 i) 0) 0 : Fin 8192) = i 0 := Fin.ext (Nat.mul_one _)
  show centred Nw (row (R x1 x2 x3 x4) (idx_main_v49 (idx_main_v58 (idx_main_v59 i) 0) 0)) k
    * dyg x0 x5 (idx_main_v49 (idx_main_v58 (idx_main_v59 i) 0) 0) k = _
  rw [hp]

/-- The gradient at the normalised layer's input is the chain rule's expression. -/
theorem dr_at (i : S8192x1024.Idx) : val_main_v70 (F := Ideal) x0 x1 x2 x3 x4 x5 i
    = chain Nw Ew (Ideal.ofBits .f32 0xBF000000#32) (Ideal.ofBits .f32 0x40000000#32) (row (R x1 x2 x3 x4) (i 0)) (dyg x0 x5 (i 0)) (i 1) := by
  rw [val_main_v70_apply, val_main_v64_apply, val_main_v51_apply, val_main_v50_apply, rstd_at, dyg_at, via_at, val_main_v69_apply, val_main_v68_apply,
    Fin.sum_univ_one, val_main_v67_apply, val_main_v66_apply, val_main_v65_apply, val_main_v55_apply, val_main_v54_apply, val_main_v63_apply,
    val_main_v62_apply, val_main_cst_17_apply, val_main_cst_16_apply, val_main_cst_15_apply, val_main_cst_12_apply]
  show _ * _ + _ + (Ideal.ofBits .f32 0x00000000#32 + Ideal.div ((Ideal.ofBits .f32 0x00000000#32 + _) + (Ideal.ofBits .f32 0x00000000#32 + _)) _)
    = _ * _ + _ + Ideal.div (_ + _) _
  rw [Ideal.ofBits_zero_f32, zero_add, zero_add, zero_add]
  refine congrArg₂ (fun s s' => _ + Ideal.div (s + s') _) (Finset.sum_congr rfl fun k _ => ?_) (Finset.sum_congr rfl fun k _ => ?_)
  · rw [val_main_v53_apply, val_main_v51_apply, val_main_v50_apply, rstd_at, dyg_at]
    have hp : (idx_main_v55 (idx_main_v68 (idx_main_v69 i) 0) 0 : Fin 8192) = i 0 := Fin.ext (Nat.mul_one _)
    show -(dyg x0 x5 (idx_main_v55 (idx_main_v68 (idx_main_v69 i) 0) 0) k
      * rstd Nw Ew (row (R x1 x2 x3 x4) (idx_main_v55 (idx_main_v68 (idx_main_v69 i) 0) 0))) = _
    rw [hp]
  · rw [val_main_v61_apply, via_at]
    have hp : (idx_main_v63 (idx_main_v68 (idx_main_v69 i) 0) 0 : Fin 8192) = i 0 := Fin.ext (Nat.mul_one _)
    show -(viaVar Nw Ew _ _ (row (R x1 x2 x3 x4) (idx_main_v63 (idx_main_v68 (idx_main_v69 i) 0) 0))
      (dyg x0 x5 (idx_main_v63 (idx_main_v68 (idx_main_v69 i) 0) 0)) k) = _
    rw [hp]

/-- With a real incoming gradient the reference's input gradient is the closed form of it. -/
theorem dr_closed (i : S8192x1024.Idx) (hd : ∃ d : Fin 1024 → ℝ, dyg x0 x5 (i 0) = fun k => (d k : EReal)) :
    val_main_v70 (F := Ideal) x0 x1 x2 x3 x4 x5 i = closed Nw Ew (row (R x1 x2 x3 x4) (i 0)) (dyg x0 x5 (i 0)) (i 1) := by
  obtain ⟨d, hd⟩ := hd
  obtain ⟨e, he, hE⟩ := Ew_pos
  rw [dr_at, hd, half_eq, two_eq, hE, Nw_eq]
  exact (closed_eq_chain 1024 (by norm_num) (by norm_num) e he _ d _).symm

/-- The gradient of the gain. -/
theorem dgain_at (i : S1x1024.Idx) : val_main_v75 (F := Ideal) x0 x1 x2 x3 x4 i
    = ∑ p : Fin 8192, hat Nw Ew (row (R x1 x2 x3 x4) p) (i 1) * x0 (ix2 p (i 1)) := by
  rw [val_main_v75_apply, val_main_v46_apply, Fin.sum_univ_one, val_main_v43_apply, val_main_v42_apply, val_main_cst_10_apply, val_main_cst_9_apply]
  show Ideal.ofBits .f32 0x00000000#32 + (Ideal.ofBits .f32 0x00000000#32 + _) = _
  rw [Ideal.ofBits_zero_f32, zero_add, zero_add]
  refine Finset.sum_congr rfl fun p _ => ?_
  rw [val_main_v41_apply, hat_at, dy_at]
  have hq : (idx_main_v43 (idx_main_v46 (idx_main_v75 i) 0) 0 : Fin 1024) = i 1 := Fin.ext (by show 0 * 1024 + (i 1).val = (i 1).val; omega)
  show hat Nw Ew (row (R x1 x2 x3 x4) p) (idx_main_v43 (idx_main_v46 (idx_main_v75 i) 0) 0)
    * x0 (ix2 p (idx_main_v43 (idx_main_v46 (idx_main_v75 i) 0) 0)) = _
  rw [hq]

/-- The gradient of the shift. -/
theorem dshift_at (i : S1x1024.Idx) : val_main_v76 (F := Ideal) x0 i = ∑ p : Fin 8192, x0 (ix2 p (i 1)) := by
  rw [val_main_v76_apply, val_main_v40_apply, Fin.sum_univ_one, val_main_v39_apply, val_main_v38_apply, val_main_cst_8_apply, val_main_cst_7_apply]
  show Ideal.ofBits .f32 0x00000000#32 + (Ideal.ofBits .f32 0x00000000#32 + _) = _
  rw [Ideal.ofBits_zero_f32, zero_add, zero_add]
  have hq : (idx_main_v39 (idx_main_v40 (idx_main_v76 i) 0) 0 : Fin 1024) = i 1 := Fin.ext (by show 0 * 1024 + (i 1).val = (i 1).val; omega)
  refine Finset.sum_congr rfl fun p _ => (at_row x0 _).trans ?_
  show x0 (ix2 p (idx_main_v39 (idx_main_v40 (idx_main_v76 i) 0) 0)) = _
  rw [hq]

/-- The gradient of the projection's bias. -/
theorem dbias_at (i : S1x1024.Idx) : val_main_v77 (F := Ideal) x0 x1 x2 x3 x4 x5 i
    = ∑ p : Fin 8192, val_main_v70 (F := Ideal) x0 x1 x2 x3 x4 x5 (ix2 p (i 1)) := by
  rw [val_main_v77_apply, val_main_v73_apply, Fin.sum_univ_one, val_main_v72_apply, val_main_v71_apply, val_main_cst_18_apply, val_main_cst_19_apply]
  show Ideal.ofBits .f32 0x00000000#32 + (Ideal.ofBits .f32 0x00000000#32 + _) = _
  rw [Ideal.ofBits_zero_f32, zero_add, zero_add]
  have hq : (idx_main_v72 (idx_main_v73 (idx_main_v77 i) 0) 0 : Fin 1024) = i 1 := Fin.ext (by show 0 * 1024 + (i 1).val = (i 1).val; omega)
  refine Finset.sum_congr rfl fun p _ => (at_row (val_main_v70 (F := Ideal) x0 x1 x2 x3 x4 x5) _).trans ?_
  show val_main_v70 (F := Ideal) x0 x1 x2 x3 x4 x5 (ix2 p (idx_main_v72 (idx_main_v73 (idx_main_v77 i) 0) 0)) = _
  rw [hq]

/-- The gradient of the projection's input. -/
theorem dv_at (i : S8192x1024.Idx) : val_main_v74 (F := Ideal) x0 x1 x2 x3 x4 x5 i
    = ∑ k : Fin 1024, val_main_v70 (F := Ideal) x0 x1 x2 x3 x4 x5 (ix2 (i 0) k) * x3 (ix2 (i 1) k) := by
  rw [val_main_v74_apply]
  refine Finset.sum_congr rfl fun k _ => congrArg₂ (· * ·) (at_row _ _) (congrArg x3 (funext fun a => Fin.ext ?_))
  match a with
  | ⟨0, _⟩ => rfl
  | ⟨1, _⟩ => rfl

/-- The four row groups of the last result. -/
theorem sums_at (i : S8x1024.Idx) : val_main_v79 (F := Ideal) x0 x1 x2 x3 x4 x5 i
    = if (i 0).val = 0 then ∑ p : Fin 8192, x0 (ix2 p (i 1)) * hat Nw Ew (row (R x1 x2 x3 x4) p) (i 1)
      else if (i 0).val = 1 then ∑ p : Fin 8192, x0 (ix2 p (i 1))
      else if (i 0).val = 2 then ∑ p : Fin 8192, val_main_v70 (F := Ideal) x0 x1 x2 x3 x4 x5 (ix2 p (i 1)) else 0 := by
  have h8 : (i 0).val < 8 := (i 0).isLt
  pointwise [val_main_v79]
  by_cases h0 : (i 0).val = 0
  · rw [dif_pos (by omega), if_pos h0, dgain_at]
    exact Finset.sum_congr rfl fun p _ => mul_comm _ _
  rw [dif_neg (by omega), if_neg h0]
  by_cases h1 : (i 0).val = 1
  · rw [dif_pos (by omega), if_pos h1, dshift_at]; rfl
  rw [dif_neg (by omega), if_neg h1]
  by_cases h2 : (i 0).val = 2
  · rw [dif_pos (by omega), if_pos h2, dbias_at]; rfl
  rw [dif_neg (by omega), if_neg h2, val_main_v78_apply, val_main_cst_20_apply]
  exact Ideal.ofBits_zero_f32

end Cert.MixLnRef

end
-- ==== Proof.MixLnValue.lean ====
/-
  The output projection's and normalisation's gradient (`mix_ln_bwd`): what the kernel's arrays hold after the run, block by block.
-/
module

public import proofs.«01_k».proof.Proof.MixLnRef
public import proofs.«01_k».proof.Proof.Gen.MixLnIdeal.Frame
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.MixLnValue

open Cert.MixLnIdeal Cert.MixLnIdeal.Gen Cert.Norm

variable (m : (ℓ : Loc nD τ sig) → Buf (Elt Ideal) ℓ)

/-- The block indices of the windows at point `t`. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] ∧ t.val < 8 :=
  (by decide +kernel : ∀ t : Fin grid0.N, _)

/-- A block's row. -/
abbrev brow (X : Vec Ideal S1024x1024 .f32) (p : Fin 1024) : Fin 1024 → EReal := fun k => X (ix2 p k)

/-- A block at an index is its row at the column. -/
theorem at_brow (X : Vec Ideal S1024x1024 .f32) (j : S1024x1024.Idx) : X j = brow X (j 0) (j 1) :=
  congrArg X (funext fun a => Fin.ext (by match a with | ⟨0, _⟩ => rfl | ⟨1, _⟩ => rfl))

/-- The centred block. -/
theorem pay_centred (r : Vec Ideal S1024x1024 .f32) (j : S1024x1024.Idx) : k0_pay7 r j = centred Nw (brow r (j 0)) (j 1) := by
  unfold centred mean
  pointwise [k0_pay7]
  exact congrArg (· - Ideal.div (∑ x : Fin 1024, r (ix2 (j 0) x)) Nw) (at_brow r j)

/-- The reciprocal of a row's deviation. -/
theorem pay_rstd (r : Vec Ideal S1024x1024 .f32) (j : S1024x1.Idx) : k0_pay8 r j = rstd Nw Ew (brow r (j 0)) := by
  unfold rstd spread mean
  pointwise [k0_pay8]
  simp only [pay_centred]
  rfl

/-- The normalised block. -/
theorem pay_hat (r : Vec Ideal S1024x1024 .f32) (j : S1024x1024.Idx) : k0_pay9 r j = hat Nw Ew (brow r (j 0)) (j 1) := by
  pointwise [k0_pay9]
  rw [pay_centred, pay_rstd]
  rfl

/-- The block's incoming gradient times the gain. -/
abbrev bdyg (dy : Vec Ideal S1024x1024 .f32) (g : Vec Ideal S1x1024 .f32) (p : Fin 1024) : Fin 1024 → EReal := fun k => dy (ix2 p k) * g (ix2 0 k)

/-- The block's input gradient, in closed form. -/
theorem pay_dr (dy r : Vec Ideal S1024x1024 .f32) (g : Vec Ideal S1x1024 .f32) (j : S1024x1024.Idx) :
    k0_pay10 dy r g j = closed Nw Ew (brow r (j 0)) (bdyg dy g (j 0)) (j 1) := by
  pointwise [k0_pay10]
  simp only [pay_hat, pay_rstd]
  rw [show dy j = dy (ix2 (j 0) (j 1)) from at_brow dy j]
  rfl

/-- The narrowed copy of a block is the block. -/
theorem pay_drb (x : FVec Ideal S1024x1024 .f32) (j : S1024x1024.Idx) : k0_pay1 x j = x j := by pointwise [k0_pay1]

/-- The block's product with the transposed projection. -/
theorem pay_dv (x : FVec Ideal S1024x1024 .f32) (w : Vec Ideal S1024x1024 .bf16) (j : S1024x1024.Idx) :
    k0_pay2 x w j = ∑ k : Fin 1024, x (ix2 (j 0) k) * w (ix2 (j 1) k) := by pointwise [k0_pay2]; simp only [pay_drb]

/-- The gain's row grows by the block's column sums. -/
theorem pay_row0 (dy : Vec Ideal S1024x1024 .f32) (h : FVec Ideal S1024x1024 .f32) (s : Vec Ideal S1x1024 .f32) (j : S1x1024.Idx) :
    k0_pay3 dy h s j = s j + ∑ p : Fin 1024, dy (ix2 p (j 1)) * h (ix2 p (j 1)) := by pointwise [k0_pay3]
/-- The shift's row grows by the block's column sums. -/
theorem pay_row1 (dy : Vec Ideal S1024x1024 .f32) (s : Vec Ideal S1x1024 .f32) (j : S1x1024.Idx) :
    k0_pay4 dy s j = s j + ∑ p : Fin 1024, dy (ix2 p (j 1)) := by pointwise [k0_pay4]
/-- The bias's row grows by the block's column sums. -/
theorem pay_row2 (x : FVec Ideal S1024x1024 .f32) (s : Vec Ideal S1x1024 .f32) (j : S1x1024.Idx) :
    k0_pay5 x s j = s j + ∑ p : Fin 1024, x (ix2 p (j 1)) := by pointwise [k0_pay5]
/-- The rows start at zero. -/
theorem pay_zero (j : S8x1024.Idx) : k0_pay6 (F := Ideal) j = 0 := by pointwise [k0_pay6]

/-- What a point leaves in the input gradient's block. -/
theorem out_dr (c : Dev nD) (t : Fin cfg0.N) : (outsAt0 m c t.val t.isLt).1 = k0_pay10 (iblk m c 0 t) (iblk m c 1 t) (iblk m c 2 t) := by
  by_cases h : t.val % 8 = 0
  · rw [outsAt0_A m c t h]; frame_out
  · rw [outsAt0_B m c t h]; frame_out

/-- What a point leaves in the narrowed input gradient's block. -/
theorem out_drb (c : Dev nD) (t : Fin cfg0.N) : (outsAt0 m c t.val t.isLt).2.1 = k0_pay1 (k0_pay10 (iblk m c 0 t) (iblk m c 1 t) (iblk m c 2 t)) := by
  by_cases h : t.val % 8 = 0
  · rw [outsAt0_A m c t h]; frame_out
  · rw [outsAt0_B m c t h]; frame_out

/-- What a point leaves in the block of the gradient through the projection. -/
theorem out_dv (c : Dev nD) (t : Fin cfg0.N) : (outsAt0 m c t.val t.isLt).2.2.1 = k0_pay2 (k0_pay10 (iblk m c 0 t) (iblk m c 1 t) (iblk m c 2 t)) (iblk m c 3 t) := by
  by_cases h : t.val % 8 = 0
  · rw [outsAt0_A m c t h]; frame_out
  · rw [outsAt0_B m c t h]; frame_out

/-- The three sums of one block, as an eight-row array. -/
def sums (dy h x : Vec Ideal S1024x1024 .f32) (j : S8x1024.Idx) : EReal :=
  if (j 0).val = 0 then ∑ p : Fin 1024, dy (ix2 p (j 1)) * h (ix2 p (j 1))
  else if (j 0).val = 1 then ∑ p : Fin 1024, dy (ix2 p (j 1))
  else if (j 0).val = 2 then ∑ p : Fin 1024, x (ix2 p (j 1)) else 0

section Rows

variable {κ : Kind} {sp : Space} (v : View sig κ sp S8x1024 .f32) (f : v.ty.Contents (Elt Ideal))

/-- Three rows stored over earlier contents, read at an index. -/
theorem read_rows (w0 w1 w2 : Vec Ideal S1x1024 .f32) (i0 i1 i2) (L : List (View.Piece (Elt Ideal) S8x1024 .f32)) (j : S8x1024.Idx) :
    v.read (Elt Ideal) (v.writes (Elt Ideal) f ((⟨Rect.unit (s := S8x1024) ![2, 0] S1x1024.size i2, w2⟩ : View.Piece (Elt Ideal) S8x1024 .f32)
      :: ⟨Rect.unit (s := S8x1024) ![1, 0] S1x1024.size i1, w1⟩ :: ⟨Rect.unit (s := S8x1024) ![0, 0] S1x1024.size i0, w0⟩ :: L)) j
      = if (j 0).val = 0 then w0 (ix2 0 (j 1)) else if (j 0).val = 1 then w1 (ix2 0 (j 1)) else if (j 0).val = 2 then w2 (ix2 0 (j 1))
        else v.read (Elt Ideal) (v.writes (Elt Ideal) f L) j := by
  by_cases h2 : (j 0).val = 2
  · rw [if_neg (by omega), if_neg (by omega), if_pos h2]
    exact View.read_writes_cons_rows_of_mem v f i2 w2 _ j (ix2 0 (j 1)) rfl h2 rfl
  refine (View.read_writes_cons_rows_of_not_mem v f i2 w2 _ j rfl (W := 1) rfl (by omega)).trans ?_
  by_cases h1 : (j 0).val = 1
  · rw [if_neg (by omega), if_pos h1]
    exact View.read_writes_cons_rows_of_mem v f i1 w1 _ j (ix2 0 (j 1)) rfl h1 rfl
  refine (View.read_writes_cons_rows_of_not_mem v f i1 w1 _ j rfl (W := 1) rfl (by omega)).trans ?_
  by_cases h0 : (j 0).val = 0
  · rw [if_pos h0]
    exact View.read_writes_cons_rows_of_mem v f i0 w0 _ j (ix2 0 (j 1)) rfl (by rw [h0]; rfl) rfl
  rw [if_neg h0, if_neg h1, if_neg h2]
  exact View.read_writes_cons_rows_of_not_mem v f i0 w0 _ j rfl (W := 1) rfl (by omega)

end Rows

/-- One row of an array, read through its rectangle. -/
theorem ld_row (X : Vec Ideal S8x1024 .f32) (o : ℕ) (inb) (j : S8x1024.Idx) (h : (j 0).val = o) :
    View.ld X (Rect.unit (s := S8x1024) ![o, 0] S1x1024.size inb) (ix2 0 (j 1)) = X j := by
  refine congrArg X (funext fun a => Fin.ext ?_)
  match a with
  | ⟨0, _⟩ => show o + 1 * 0 = (j 0).val; omega
  | ⟨1, _⟩ => show 0 + 1 * (j 1).val = (j 1).val; omega

/-- What a later point leaves in the sums' array. -/
theorem out_s_B (c : Dev nD) (t : Fin cfg0.N) (h : ¬ t.val % 8 = 0) (j : S8x1024.Idx) : (outsAt0 m c t.val t.isLt).2.2.2 j
    = (outsAt0 m c (t.val - 1) (Nat.lt_of_le_of_lt (Nat.sub_le _ _) t.isLt)).2.2.2 j
      + sums (iblk m c 0 t) (k0_pay9 (iblk m c 1 t)) (k0_pay10 (iblk m c 0 t) (iblk m c 1 t) (iblk m c 2 t)) j := by
  rw [outsAt0_B m c t h]; frame_out
  refine (read_rows _ _ _ _ _ _ _ _ [] j).trans ?_
  unfold sums
  split_ifs with h0 h1 h2
  · rw [pay_row0]; exact congrArg (· + _) (ld_row _ 0 _ j h0)
  · rw [pay_row1]; exact congrArg (· + _) (ld_row _ 1 _ j h1)
  · rw [pay_row2]; exact congrArg (· + _) (ld_row _ 2 _ j h2)
  · rw [add_zero]
    exact congrFun (Memref.IsWhole.read_unread _ _) j

/-- What a first point leaves in the sums' array. -/
theorem out_s_A (c : Dev nD) (t : Fin cfg0.N) (h : t.val % 8 = 0) (j : S8x1024.Idx) : (outsAt0 m c t.val t.isLt).2.2.2 j
    = 0 + sums (iblk m c 0 t) (k0_pay9 (iblk m c 1 t)) (k0_pay10 (iblk m c 0 t) (iblk m c 1 t) (iblk m c 2 t)) j := by
  rw [outsAt0_A m c t h]; frame_out
  rw [← View.read_writes_junk_eq_canon (ms0_7 t).view]
  refine (read_rows _ _ _ _ _ _ _ _ _ j).trans ?_
  unfold sums
  split_ifs with h0 h1 h2
  · rw [pay_row0, View.readCov_fill _ _ _ _ _ (by decide)]; exact congrArg (· + _) (pay_zero _)
  · rw [pay_row1, View.readCov_skip _ _ _ _ _ (by decide), View.readCov_fill _ _ _ _ _ (by decide)]; exact congrArg (· + _) (pay_zero _)
  · rw [pay_row2, View.readCov_skip _ _ _ _ _ (by decide), View.readCov_skip _ _ _ _ _ (by decide), View.readCov_fill _ _ _ _ _ (by decide)]; exact congrArg (· + _) (pay_zero _)
  · rw [add_zero, View.read_writes_junk_eq_canon, View.canon_cons_unit_lit _ _ _ (by decide)]; exact pay_zero j

/-- The bias spread over the rows, once through a vector and once at once. -/
theorem host_R (x1 x2 : FVec Ideal S8192x1024 .f32) (x3 : FVec Ideal S1024x1024 .f32) (x4 : FVec Ideal S1x1024 .f32) :
    (addf x1 (addf (Host.dotGeneral dot_S8192x1024_S1024x1024_S8192x1024_1_0_0_1_n_n none x2 x3 : FVec Ideal S8192x1024 .f32)
      (broadcastInDim S8192x1024 ![0, 1] bcast_S1x1024_S8192x1024_0_1 x4)) : FVec Ideal S8192x1024 .f32) = MixLnRef.R x1 x2 x3 x4 := by
  funext i
  refine Eq.trans ?_ (Cert.MixLnRefIdeal.Read.val_main_v7_apply (F := Ideal) x1 x2 x3 x4 i).symm
  refine congrArg (x1 i + ·) ?_
  refine Eq.trans ?_ (Cert.MixLnRefIdeal.Read.val_main_v6_apply (F := Ideal) x2 x3 x4 i).symm
  refine congrArg (Cert.MixLnRefIdeal.Read.val_main_v3 (F := Ideal) x2 x3 i + ·) ?_
  rw [Cert.MixLnRefIdeal.Read.val_main_v5_apply, Cert.MixLnRefIdeal.Read.val_main_v4_apply, Cert.MixLnRefIdeal.Read.val_main_v0_apply]
  pointwise
  refine congrArg x4 (funext fun a => Fin.ext ?_)
  match a with
  | ⟨0, _⟩ => rfl
  | ⟨1, _⟩ => exact (Nat.mod_eq_of_lt (i 1).isLt).symm

/-- The layer's input that the host code prepares is the reference's. -/
theorem V_r (c : Dev nD) : (V m c main_v3 : FVec Ideal S8192x1024 .f32) = MixLnRef.R (m ((c : Thread nD τ).loc main_arg1)) (m ((c : Thread nD τ).loc main_arg2)) (m ((c : Thread nD τ).loc main_arg3)) (m ((c : Thread nD τ).loc main_arg4)) := by
  entry_read
  exact host_R _ _ _ _

/-- A row of the gradient's block is a row of the gradient. -/
theorem dyg_blk (c : Dev nD) (t : Fin cfg0.N) (p : Fin 1024) (q : Fin 8192) (h : q.val = t.val * 1024 + p.val) :
    bdyg (iblk m c 0 t) (iblk m c 2 t) p = MixLnRef.dyg (m ((c : Thread nD τ).loc main_arg0)) (m ((c : Thread nD τ).loc main_arg5)) q := by
  funext k
  unfold bdyg MixLnRef.dyg
  blk_point [iblk, V, idx t]

/-- A row of the input's block is a row of the input. -/
theorem r_blk (c : Dev nD) (t : Fin cfg0.N) (p : Fin 1024) (q : Fin 8192) (h : q.val = t.val * 1024 + p.val) :
    brow (iblk m c 1 t) p = MixLnRef.row (MixLnRef.R (m ((c : Thread nD τ).loc main_arg1)) (m ((c : Thread nD τ).loc main_arg2)) (m ((c : Thread nD τ).loc main_arg3)) (m ((c : Thread nD τ).loc main_arg4))) q := by
  rw [← V_r m c]
  funext k
  unfold brow MixLnRef.row
  blk_ext [iblk, idx t]

variable (hfin : ∀ (c : Dev nD) (q : Fin 8192), ∃ d : Fin 1024 → ℝ,
  MixLnRef.dyg (m ((c : Thread nD τ).loc main_arg0)) (m ((c : Thread nD τ).loc main_arg5)) q = fun k => (d k : EReal))

include hfin

/-- The input gradient's block is a block of the reference's. -/
theorem dr_blk (c : Dev nD) (t : Fin cfg0.N) (j : S1024x1024.Idx) (i : S8192x1024.Idx) (h0 : (i 0).val = t.val * 1024 + (j 0).val) (h1 : (i 1).val = (j 1).val) :
    k0_pay10 (iblk m c 0 t) (iblk m c 1 t) (iblk m c 2 t) j
      = Cert.MixLnRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (pay_dr _ _ _ j).trans ?_
  rw [dyg_blk m c t (j 0) (i 0) h0, r_blk m c t (j 0) (i 0) h0, show (j 1 : Fin 1024) = i 1 from Fin.ext h1.symm]
  exact (MixLnRef.dr_closed _ _ _ _ _ _ i (hfin c (i 0))).symm

/-- The first result after the run. -/
theorem final_dr (c : Dev nD) : (dats m 0 c).arrAt 4 (cfgs 0).N
    = Cert.MixLnRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t hf y => ?_
  blk_simp
  rw [after0_4, out_dr]
  refine dr_blk m hfin c t y _ ?_ ?_
  all_goals blk_simp [idx t]

/-- The second result after the run. -/
theorem final_drb (c : Dev nD) : (dats m 0 c).arrAt 5 (cfgs 0).N
    = Cert.MixLnRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5, out_drb, pay_drb]
  refine dr_blk m hfin c t y _ ?_ ?_
  all_goals blk_simp [idx t]

/-- The third result after the run. -/
theorem final_dv (c : Dev nD) : (dats m 0 c).arrAt 6 (cfgs 0).N
    = Cert.MixLnRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out_dv]
  refine ((pay_dv _ _ y).trans (Finset.sum_congr rfl fun k _ => ?_)).trans (MixLnRef.dv_at _ _ _ _ _ _ _).symm
  refine congrArg₂ (· * ·) (dr_blk m hfin c t _ _ ?_ ?_) ?_
  · blk_simp [idx t]
  · rfl
  · blk_point [iblk, V, idx t]

/-- The fourth result after the run. -/
theorem final_s (c : Dev nD) : (dats m 0 c).arrAt 7 (cfgs 0).N
    = Cert.MixLnRefIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, Pipeline.eq_sum_fin_of_reset_step_apply_of_flush (fun n h => (outsAt0 m c n h).2.2.2) 8 (fun _ => 0)
    (fun p j => sums (iblk m c 0 p) (k0_pay9 (iblk m c 1 p)) (k0_pay10 (iblk m c 0 p) (iblk m c 1 p) (iblk m c 2 p)) j)
    (fun t h j => out_s_A m c t h j) (fun t h j => out_s_B m c t h j) t ((flush0_7 t).mp hf) _, zero_add]
  have ht : t.val < 8 := lt_of_lt_of_eq t.isLt (show cfg0.N = 8 from N_0)
  have hE : (win0_7.blk t).view.emb y = ix2 (y 0) (y 1) := by blk_ext [idx t]
  rw [hE]
  refine Eq.trans ?_ (MixLnRef.sums_at _ _ _ _ _ _ _).symm
  unfold sums
  show (∑ s : Fin 8, if (y 0).val = 0 then _ else if (y 0).val = 1 then _ else if (y 0).val = 2 then _ else (0 : EReal))
    = if (y 0).val = 0 then _ else if (y 0).val = 1 then _ else if (y 0).val = 2 then _ else _
  split_ifs with h0 h1 h2
  · refine Fin.sum_mul_add_congr fun s p hl => ?_
    refine congrArg₂ (· * ·) ?_ ?_
    · blk_point [iblk, V, idx t, idx ⟨_, Pipeline.run_point_lt_of_flush t ((flush0_7 t).mp hf) s⟩]
    · refine (pay_hat _ _).trans ?_
      exact congrArg (fun r => hat Nw Ew r (y 1 : Fin 1024)) (r_blk m c _ p ⟨_, hl⟩ (by
        show s.val * 1024 + p.val = (8 * (t.val / 8) + s.val) * 1024 + p.val; omega))
  · refine Fin.sum_mul_add_congr fun s p hl => ?_
    blk_point [iblk, V, idx t, idx ⟨_, Pipeline.run_point_lt_of_flush t ((flush0_7 t).mp hf) s⟩]
  · refine Fin.sum_mul_add_congr fun s p hl => ?_
    refine dr_blk m hfin c _ _ _ ?_ ?_
    · show s.val * 1024 + p.val = (8 * (t.val / 8) + s.val) * 1024 + p.val
      omega
    · rfl
  · exact Finset.sum_const_zero

end Cert.MixLnValue

end
-- ==== Proof.MixLnClaims.lean ====
/-
  The claims about the backward pass of the normalised residual and the projection behind it. The precondition says that the
  incoming gradient times the gain is finite; it is read here as a row of real numbers, under which the kernel's expression for
  the gradient is the chain rule's.
-/
module

public import proofs.«01_k».proof.Defs
public import proofs.«01_k».proof.Proof.MixLnValue
public import proofs.«01_k».proof.Proof.Gen.MixLn.Frame
public import Idealize.ShloMosaic.Lib.Claim

@[expose] public section

set_option maxRecDepth 16384

noncomputable section

open Idealize.ShloMosaic Idealize.ShloMosaic.TcCoe Idealize.SL.Sem

namespace Cert.MixLnClaims

/-- A number whose absolute value is below infinity is real. -/
theorem real_of_abs_lt (x : EReal) (h : max x (-x) < ⊤) : ∃ r : ℝ, x = (r : EReal) := by
  rw [max_lt_iff] at h
  induction x using EReal.rec with
  | bot => simp at h
  | top => simp at h
  | coe r => exact ⟨r, rfl⟩

variable [hPre : Cert.Pre_finite_products.Facts]

/-- Under the precondition each row of the incoming gradient times the gain is a row of reals. -/
theorem real_rows (x0 x1 x2 : FVec Ideal Cert.Pre_finite_products.S8192x1024 .f32) (x3 : FVec Ideal Cert.Pre_finite_products.S1024x1024 .f32)
    (x4 x5 : FVec Ideal Cert.Pre_finite_products.S1x1024 .f32) (h : Cert.Pre_finite_products.fn (F := Ideal) x0 x1 x2 x3 x4 x5 = fun _ => 1#1)
    (q : Fin 8192) : ∃ d : Fin 1024 → ℝ, MixLnRef.dyg x0 x5 q = fun k => (d k : EReal) := by
  have hk : ∀ k : Fin 1024, ∃ r : ℝ, x0 (ix2 q k) * x5 (ix2 0 k) = (r : EReal) := fun k => by
    refine real_of_abs_lt _ ?_
    have e := congrFun h (ix2 q k)
    have htop : Ideal.ofBits .f32 0x7F800000#32 = ⊤ := by simp [Ideal.ofBits, Ideal.ieee]
    have hb : broadcastInDim Cert.Pre_finite_products.S8192x1024 ![0, 1] hPre.bcast_S1x1024_S8192x1024_0_1 x5 (ix2 q k) = x5 (ix2 0 k) :=
      congrArg x5 (funext fun a => Fin.ext (by match a with | ⟨0, _⟩ => rfl | ⟨1, _⟩ => rfl))
    change BitVec.ofBool (decide (max (x0 (ix2 q k) * broadcastInDim Cert.Pre_finite_products.S8192x1024 ![0, 1] hPre.bcast_S1x1024_S8192x1024_0_1 x5 (ix2 q k))
      (-(x0 (ix2 q k) * broadcastInDim Cert.Pre_finite_products.S8192x1024 ![0, 1] hPre.bcast_S1x1024_S8192x1024_0_1 x5 (ix2 q k))) < Ideal.ofBits .f32 0x7F800000#32)) = 1#1 at e
    rw [hb, htop] at e
    by_contra hn
    rw [decide_eq_false hn] at e
    exact absurd e (by decide)
  choose d hd using hk
  exact ⟨d, funext hd⟩

/-- The kernel runs and leaves its arguments and the semaphores as they were. -/
theorem frame_kernel : Cert.quiescent_MixLn := fun m ρ _ => Cert.MixLn.Gen.frame m ρ
/-- So does its idealization. -/
theorem frame_ideal : Cert.quiescent_MixLnIdeal := fun m ρ _ => Cert.MixLnIdeal.Gen.frame m ρ
/-- So does its idealization from the memories of the precondition. -/
theorem frame_ideal_pre : Cert.quiescent_MixLnIdeal_pre_finite_products := fun m ρ _ => Cert.MixLnIdeal.Gen.frame m ρ
/-- So does the reference. -/
theorem frame_ref : Cert.quiescent_MixLnRefIdeal := fun m ρ _ =>
  (θ_run Cert.MixLnRefIdeal.defs _ _).mono (fun r h => ⟨fun c => (h c).2.2.2.2, sem_eq_zero_of_no_sems (by decide) r.2⟩)
    (Cert.MixLnRefIdeal.Value.run (F := Ideal) m ρ)
/-- So does the reference from the memories of the precondition. -/
theorem frame_ref_pre : Cert.quiescent_MixLnRefIdeal_pre_finite_products := fun m ρ _ => frame_ref m ρ trivial
/-- Where the arguments agree, a function of the reference's arguments is the same function of the kernel's. -/
theorem ref_end {β : Type _} (m : (ℓ : Loc Cert.MixLnIdeal.nD Cert.MixLnIdeal.τ Cert.MixLnIdeal.sig) → Buf (Elt Ideal) ℓ)
    (m' : (ℓ : Loc Cert.MixLnRefIdeal.nD Cert.MixLnRefIdeal.τ Cert.MixLnRefIdeal.sig) → Buf (Elt Ideal) ℓ) (c : Dev Cert.MixLnIdeal.nD)
    (f : FVec Ideal Cert.MixLnRefIdeal.S8192x1024 .f32 → FVec Ideal Cert.MixLnRefIdeal.S8192x1024 .f32 → FVec Ideal Cert.MixLnRefIdeal.S8192x1024 .f32
      → FVec Ideal Cert.MixLnRefIdeal.S1024x1024 .f32 → FVec Ideal Cert.MixLnRefIdeal.S1x1024 .f32 → FVec Ideal Cert.MixLnRefIdeal.S1x1024 .f32 → β)
    (x : β) {y : β} (hx : x = f (m' (c.tc.loc Cert.MixLnRefIdeal.main_arg0)) (m' (c.tc.loc Cert.MixLnRefIdeal.main_arg1))
      (m' (c.tc.loc Cert.MixLnRefIdeal.main_arg2)) (m' (c.tc.loc Cert.MixLnRefIdeal.main_arg3)) (m' (c.tc.loc Cert.MixLnRefIdeal.main_arg4))
      (m' (c.tc.loc Cert.MixLnRefIdeal.main_arg5)))
    (h : m' (c.tc.loc Cert.MixLnRefIdeal.main_arg0) = m (c.tc.loc Cert.MixLnIdeal.main_arg0)
      ∧ m' (c.tc.loc Cert.MixLnRefIdeal.main_arg1) = m (c.tc.loc Cert.MixLnIdeal.main_arg1)
      ∧ m' (c.tc.loc Cert.MixLnRefIdeal.main_arg2) = m (c.tc.loc Cert.MixLnIdeal.main_arg2)
      ∧ m' (c.tc.loc Cert.MixLnRefIdeal.main_arg3) = m (c.tc.loc Cert.MixLnIdeal.main_arg3)
      ∧ m' (c.tc.loc Cert.MixLnRefIdeal.main_arg4) = m (c.tc.loc Cert.MixLnIdeal.main_arg4)
      ∧ m' (c.tc.loc Cert.MixLnRefIdeal.main_arg5) = m (c.tc.loc Cert.MixLnIdeal.main_arg5))
    (hy : y = f (m (c.tc.loc Cert.MixLnIdeal.main_arg0)) (m (c.tc.loc Cert.MixLnIdeal.main_arg1)) (m (c.tc.loc Cert.MixLnIdeal.main_arg2))
      (m (c.tc.loc Cert.MixLnIdeal.main_arg3)) (m (c.tc.loc Cert.MixLnIdeal.main_arg4)) (m (c.tc.loc Cert.MixLnIdeal.main_arg5))) : x = y := by
  obtain ⟨h0, h1, h2, h3, h4, h5⟩ := h
  rw [hx, hy]
  exact congr (congr (congr (congr (congr (congrArg f h0) h1) h2) h3) h4) h5

/-- The kernel and the reference end with the same four arrays. -/
theorem value : Cert.algebraic_MixLnIdeal_MixLnRefIdeal_pre_finite_products := by
  pair_intro
  · run_from Cert.MixLnIdeal.Gen.run_main m g
  · run_from Cert.MixLnRefIdeal.Value.run (F := Ideal) m' g'
    · exact ref_end m m' c (Cert.MixLnRefIdeal.Read.val_main_v70 (F := Ideal)) _ (Cert.MixLnRefIdeal.Read.val_main_v70_eq m' c) (hagree c) (Cert.MixLnValue.final_dr m (fun c q => real_rows _ _ _ _ _ _ (hpre c) q) c)
    · exact ref_end m m' c (Cert.MixLnRefIdeal.Read.val_main_v80 (F := Ideal)) _ (Cert.MixLnRefIdeal.Read.val_main_v80_eq m' c) (hagree c) (Cert.MixLnValue.final_drb m (fun c q => real_rows _ _ _ _ _ _ (hpre c) q) c)
    · exact ref_end m m' c (Cert.MixLnRefIdeal.Read.val_main_v74 (F := Ideal)) _ (Cert.MixLnRefIdeal.Read.val_main_v74_eq m' c) (hagree c) (Cert.MixLnValue.final_dv m (fun c q => real_rows _ _ _ _ _ _ (hpre c) q) c)
    · exact ref_end m m' c (Cert.MixLnRefIdeal.Read.val_main_v79 (F := Ideal)) _ (Cert.MixLnRefIdeal.Read.val_main_v79_eq m' c) (hagree c) (Cert.MixLnValue.final_s m (fun c q => real_rows _ _ _ _ _ _ (hpre c) q) c)

end Cert.MixLnClaims

end
-- ==== Proof.FfnFwdValue.lean ====
/-
  The feed-forward layer's forward pass (`ffn_fwd`): what the kernel's arrays hold after the run is the hidden layer before its
  activation, the layer's input to the normalisation, its normalisation and the narrowed copy of it.
-/
module

public import proofs.«01_k».proof.Proof.NormAlgebra
public import proofs.«01_k».proof.Proof.Gen.FfnFwdIdeal.Frame
public import proofs.«01_k».proof.Proof.Gen.FfnFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnFwdRef

open Cert.FfnFwdRefIdeal Cert.FfnFwdRefIdeal.Read Cert.Norm

variable (x0 : FVec Ideal S8192x1024 .f32) (x1 : FVec Ideal S1024x4096 .f32) (x2 : FVec Ideal S4096x1024 .f32) (x3 x4 : FVec Ideal S1x1024 .f32)

/-- Row `p` of a matrix. -/
abbrev row (X : FVec Ideal S8192x1024 .f32) (p : Fin 8192) : Fin 1024 → EReal := fun k => X (ix2 p k)

/-- A matrix at an index is its row at the column. -/
theorem at_row (X : FVec Ideal S8192x1024 .f32) (i : S8192x1024.Idx) : X i = row X (i 0) (i 1) :=
  congrArg X (funext fun a => Fin.ext (by match a with | ⟨0, _⟩ => rfl | ⟨1, _⟩ => rfl))

/-- The hidden layer before its activation. -/
abbrev Z : FVec Ideal S8192x4096 .f32 := val_main_v0 (F := Ideal) x0 x1

/-- The hidden layer at an index. -/
theorem z_at (i : S8192x4096.Idx) : Z x0 x1 i = ∑ k : Fin 1024, x0 (ix2 (i 0) k) * x1 (ix2 k (i 1)) := by
  unfold Z
  rw [val_main_v0_apply]
  refine Finset.sum_congr rfl fun k _ => congrArg₂ (· * ·) (at_row x0 _) (congrArg x1 (funext fun a => Fin.ext ?_))
  match a with
  | ⟨0, _⟩ => rfl
  | ⟨1, _⟩ => rfl

/-- The normalised layer's input: the scaled residual plus the second product. -/
abbrev R : FVec Ideal S8192x1024 .f32 := val_main_v6 (F := Ideal) x0 x1 x2

/-- The layer's input at an index. -/
theorem r_at (i : S8192x1024.Idx) : R x0 x1 x2 i = Ideal.ofBits .f32 0x3FD744FD#32 * x0 (ix2 (i 0) (i 1))
    + ∑ l : Fin 4096, max (Z x0 x1 (ix2 (i 0) l)) 0 * max (Z x0 x1 (ix2 (i 0) l)) 0 * x2 (ix2 l (i 1)) := by
  unfold R
  rw [val_main_v6_apply, val_main_v2_apply, val_main_v1_apply, val_main_cst_apply, val_main_v5_apply]
  refine congrArg₂ (· + ·) (congrArg (_ * ·) (at_row x0 i)) (Finset.sum_congr rfl fun l _ => ?_)
  rw [val_main_v4_apply, val_main_v3_apply, val_main_call0_v0_apply, val_main_call0_cst_apply]
  refine congrArg₂ (· * ·) ?_ (congrArg x2 (funext fun a => Fin.ext (by match a with | ⟨0, _⟩ => rfl | ⟨1, _⟩ => rfl)))
  show max _ (Ideal.ofBits .f32 0x00000000#32) * max _ (Ideal.ofBits .f32 0x00000000#32) = _
  rw [Ideal.ofBits_zero_f32]
  refine congrArg (fun z => max z 0 * max z 0) (congrArg (Z x0 x1) (funext fun a => Fin.ext (by match a with | ⟨0, _⟩ => rfl | ⟨1, _⟩ => rfl)))

/-- The reference's row mean. -/
theorem mean_at (i : S8192x1.Idx) : val_main_v12 (F := Ideal) x0 x1 x2 i = mean Nw (row (R x0 x1 x2) (i 0)) := by
  rw [val_main_v12_apply, val_main_v10_apply, val_main_v9_apply, val_main_v11_apply, val_main_cst_1_apply, val_main_cst_0_apply]
  show Ideal.div (Ideal.ofBits .f32 0x00000000#32 + _) _ = Ideal.div _ _
  rw [Ideal.ofBits_zero_f32, zero_add]
  exact congrArg (Ideal.div · _) (Finset.sum_congr rfl fun k _ => at_row _ _)

/-- The reference's centred row. -/
theorem centred_at (i : S8192x1024.Idx) : val_main_v14 (F := Ideal) x0 x1 x2 i = centred Nw (row (R x0 x1 x2) (i 0)) (i 1) := by
  rw [val_main_v14_apply, val_main_v13_apply, mean_at]
  exact congrArg (· - mean Nw (row (R x0 x1 x2) (i 0))) (at_row (R x0 x1 x2) i)

/-- The centred row where the reference writes it a second time. -/
theorem centred_at' (i : S8192x1024.Idx) : val_main_v21 (F := Ideal) x0 x1 x2 i = centred Nw (row (R x0 x1 x2) (i 0)) (i 1) := by
  rw [val_main_v21_apply, val_main_v20_apply, mean_at]
  exact congrArg (· - mean Nw (row (R x0 x1 x2) (i 0))) (at_row (R x0 x1 x2) i)

/-- The reference's variance with the small constant added. -/
theorem spread_at (i : S8192x1.Idx) : val_main_v23 (F := Ideal) x0 x1 x2 i = spread Nw Ew (row (R x0 x1 x2) (i 0)) := by
  rw [val_main_v23_apply, val_main_v19_apply, val_main_v17_apply, val_main_v16_apply, val_main_v18_apply, val_main_v22_apply,
    val_main_cst_2_apply, val_main_cst_3_apply, val_main_cst_4_apply]
  show Ideal.div (Ideal.ofBits .f32 0x00000000#32 + _) _ + _ = Ideal.div _ _ + _
  rw [Ideal.ofBits_zero_f32, zero_add]
  refine congrArg (Ideal.div · _ + _) (Finset.sum_congr rfl fun k _ => ?_)
  rw [val_main_v15_apply, centred_at]; rfl

/-- The reference's normalised row. -/
theorem hat_at (i : S8192x1024.Idx) : val_main_v26 (F := Ideal) x0 x1 x2 i = hat Nw Ew (row (R x0 x1 x2) (i 0)) (i 1) := by
  rw [val_main_v26_apply, val_main_v25_apply, centred_at', val_main_v24_apply, spread_at]; rfl

/-- The gain, copied to every row. -/
theorem gain_at (i : S8192x1024.Idx) : val_main_v28 (F := Ideal) x3 i = x3 (ix2 0 (i 1)) := by
  rw [val_main_v28_apply, val_main_v27_apply, val_main_v7_apply]
  refine congrArg x3 (funext fun a => Fin.ext ?_)
  match a with
  | ⟨0, _⟩ => rfl
  | ⟨1, _⟩ => exact Nat.mod_eq_of_lt (i 1).isLt

/-- The shift, copied to every row. -/
theorem shift_at (i : S8192x1024.Idx) : val_main_v31 (F := Ideal) x4 i = x4 (ix2 0 (i 1)) := by
  rw [val_main_v31_apply, val_main_v30_apply, val_main_v8_apply]
  refine congrArg x4 (funext fun a => Fin.ext ?_)
  match a with
  | ⟨0, _⟩ => rfl
  | ⟨1, _⟩ => exact Nat.mod_eq_of_lt (i 1).isLt

/-- The layer's output is the affine image of its normalised row. -/
theorem y_at (i : S8192x1024.Idx) : val_main_v32 (F := Ideal) x0 x1 x2 x3 x4 i = affine Nw Ew (row (R x0 x1 x2) (i 0)) (fun k => x3 (ix2 0 k)) (fun k => x4 (ix2 0 k)) (i 1) := by
  rw [val_main_v32_apply, val_main_v29_apply, hat_at, gain_at, shift_at]; rfl

end Cert.FfnFwdRef

namespace Cert.FfnFwdValue

open Cert.FfnFwdIdeal Cert.FfnFwdIdeal.Gen Cert.Norm

variable (m : (ℓ : Loc nD τ sig) → Buf (Elt Ideal) ℓ)

/-- The block indices of the windows at point `t`. -/
theorem idx : ∀ t : Fin cfg0.N, win0_0.index t = ![t.val / 4, 0] ∧ win0_1.index t = ![t.val % 4, 0, 0] ∧ win0_2.index t = ![t.val % 4, 0]
    ∧ win0_3.index t = ![0, 0] ∧ win0_4.index t = ![0, 0] ∧ win0_5.index t = ![t.val / 4, t.val % 4] ∧ win0_6.index t = ![t.val / 4, 0]
    ∧ win0_7.index t = ![t.val / 4, 0] ∧ win0_8.index t = ![t.val / 4, 0] ∧ t.val / 4 < 16 :=
  (by decide +kernel : ∀ t : Fin grid0.N, _)

/-- A block's row. -/
abbrev brow (X : Vec Ideal S512x1024 .f32) (p : Fin 512) : Fin 1024 → EReal := fun k => X (ix2 p k)

/-- A block at an index is its row at the column. -/
theorem at_brow (X : Vec Ideal S512x1024 .f32) (j : S512x1024.Idx) : X j = brow X (j 0) (j 1) :=
  congrArg X (funext fun a => Fin.ext (by match a with | ⟨0, _⟩ => rfl | ⟨1, _⟩ => rfl))

/-- The accumulator is cleared to zero. -/
theorem pay_zero (j : S512x1024.Idx) : k0_pay1 (F := Ideal) j = 0 := by pointwise [k0_pay1]

/-- The narrowed copy of the input's block is the block. -/
theorem pay_xb (x : Vec Ideal S512x1024 .f32) (j : S512x1024.Idx) : k0_pay2 x j = x j := by pointwise [k0_pay2]

/-- The hidden layer, block by block. -/
theorem pay_z (a : Vec Ideal S512x1024 .bf16) (w : Vec Ideal S1x1024x1024 .bf16) (j : S512x1024.Idx) :
    k0_pay3 a w j = ∑ k : Fin 1024, a (ix2 (j 0) k) * w (ix3 0 k (j 1)) := by pointwise [k0_pay3]

/-- The narrowed copy of the hidden block is the block. -/
theorem pay_zb (a : Vec Ideal S512x1024 .bf16) (w : Vec Ideal S1x1024x1024 .bf16) (j : S512x1024.Idx) :
    k0_pay4 a w j = k0_pay3 a w j := by pointwise [k0_pay4]

/-- A point adds the product of the activated hidden block and the second matrix's block. -/
theorem pay_acc (a : Vec Ideal S512x1024 .bf16) (w : Vec Ideal S1x1024x1024 .bf16) (acc : Vec Ideal S512x1024 .f32) (w2 : Vec Ideal S1024x1024 .bf16) (j : S512x1024.Idx) :
    k0_pay5 a w acc w2 j = acc j + ∑ l : Fin 1024, max (k0_pay3 a w (ix2 (j 0) l)) 0 * max (k0_pay3 a w (ix2 (j 0) l)) 0 * w2 (ix2 l (j 1)) := by
  unfold k0_pay5
  generalize k0_pay3 a w = z
  pointwise

/-- The layer's input, block by block. -/
theorem pay_r (x acc : Vec Ideal S512x1024 .f32) (j : S512x1024.Idx) :
    k0_pay6 x acc j = Ideal.ofBits .f32 0x3FD744FD#32 * x (ix2 (j 0) (j 1)) + acc (ix2 (j 0) (j 1)) := by
  rw [← show x j = x (ix2 (j 0) (j 1)) from at_brow x j, ← show acc j = acc (ix2 (j 0) (j 1)) from at_brow acc j]
  pointwise [k0_pay6]

/-- The layer's output, block by block. -/
theorem pay_y (x acc : Vec Ideal S512x1024 .f32) (g h : Vec Ideal S1x1024 .f32) (j : S512x1024.Idx) :
    k0_pay7 x acc g h j = affine Nw Ew (brow (k0_pay6 x acc) (j 0)) (fun k => g (ix2 0 k)) (fun k => h (ix2 0 k)) (j 1) := by
  unfold k0_pay7
  generalize k0_pay6 x acc = r
  unfold affine hat rstd spread centred mean
  pointwise
  rw [show r j = r (ix2 (j 0) (j 1)) from at_brow r j]

/-- The narrowed copy of the output's block is the block. -/
theorem pay_yb (x acc : Vec Ideal S512x1024 .f32) (g h : Vec Ideal S1x1024 .f32) (j : S512x1024.Idx) :
    k0_pay8 x acc g h j = k0_pay7 x acc g h j := by pointwise [k0_pay8]

/-- Two points of one row block read the same block of the input. -/
theorem x_run (c : Dev nD) (t t' : Fin cfg0.N) (h : t.val / 4 = t'.val / 4) : (iblk m c 0 t : Vec Ideal S512x1024 .f32) = iblk m c 0 t' := by
  funext j
  blk_ext [iblk, idx t, idx t']

/-- A first point of a row block keeps a narrow copy of the input's block. -/
theorem xb_first (c : Dev nD) (t : Fin cfg0.N) (h0 : t.val % 4 = 0) : (outsAt0 m c t.val t.isLt).2.2.2.2.2 = k0_pay2 (iblk m c 0 t) := by
  rw [outsAt0_A m c t h0 (by omega)]; frame_out

/-- A later point keeps the copy as it was. -/
theorem xb_keep (c : Dev nD) (t : Fin cfg0.N) (h0 : ¬ t.val % 4 = 0) : (outsAt0 m c t.val t.isLt).2.2.2.2.2
    = (outsAt0 m c (t.val - 1) (Nat.lt_of_le_of_lt (Nat.sub_le _ _) t.isLt)).2.2.2.2.2 := by
  by_cases h3 : t.val % 4 = 3
  · rw [outsAt0_C m c t h0 h3]; dsimp only [sout0_C_1]
  · rw [outsAt0_B m c t h0 h3]; dsimp only [sout0_B_1]

/-- The kept narrow copy is the one of the current row block. -/
theorem xb_eq (c : Dev nD) : ∀ (n : ℕ) (h : n < cfg0.N), (outsAt0 m c n h).2.2.2.2.2 = k0_pay2 (iblk m c 0 ⟨n, h⟩) := by
  intro n
  induction n with
  | zero => exact fun h => xb_first m c ⟨0, h⟩ rfl
  | succ n ih =>
    intro h
    by_cases h0 : (n + 1) % 4 = 0
    · exact xb_first m c ⟨n + 1, h⟩ h0
    · exact (xb_keep m c ⟨n + 1, h⟩ h0).trans ((ih (Nat.lt_of_succ_lt h)).trans
        (congrArg k0_pay2 (x_run m c ⟨n, Nat.lt_of_succ_lt h⟩ ⟨n + 1, h⟩ (by show n / 4 = (n + 1) / 4; omega))))

/-- The copy kept from the point before is the one of the current row block. -/
theorem xb_prev (c : Dev nD) (t : Fin cfg0.N) (h0 : ¬ t.val % 4 = 0) :
    (outsAt0 m c (t.val - 1) (Nat.lt_of_le_of_lt (Nat.sub_le _ _) t.isLt)).2.2.2.2.2 = k0_pay2 (iblk m c 0 t) :=
  (xb_eq m c _ _).trans (congrArg k0_pay2 (x_run m c _ t (by show (t.val - 1) / 4 = t.val / 4; omega)))

/-- What a point leaves in the hidden layer's block. -/
theorem out_z (c : Dev nD) (t : Fin cfg0.N) : (outsAt0 m c t.val t.isLt).1 = k0_pay4 (k0_pay2 (iblk m c 0 t)) (iblk m c 1 t) := by
  by_cases h0 : t.val % 4 = 0
  · rw [outsAt0_A m c t h0 (by omega)]; frame_out
  · rw [← xb_prev m c t h0]
    by_cases h3 : t.val % 4 = 3
    · rw [outsAt0_C m c t h0 h3]; frame_out; simp only [read_unread_whole]
    · rw [outsAt0_B m c t h0 h3]; frame_out; simp only [read_unread_whole]

/-- What a point adds to the accumulator. -/
def part (x : Vec Ideal S512x1024 .f32) (w : Vec Ideal S1x1024x1024 .bf16) (w2 : Vec Ideal S1024x1024 .bf16) (j : S512x1024.Idx) : EReal :=
  ∑ l : Fin 1024, max (k0_pay3 (k0_pay2 x) w (ix2 (j 0) l)) 0 * max (k0_pay3 (k0_pay2 x) w (ix2 (j 0) l)) 0 * w2 (ix2 l (j 1))

/-- A first point of a row block leaves its own contribution in the accumulator. -/
theorem acc_first (c : Dev nD) (t : Fin cfg0.N) (h0 : t.val % 4 = 0) (j : S512x1024.Idx) :
    (outsAt0 m c t.val t.isLt).2.2.2.2.1 j = 0 + part (iblk m c 0 t) (iblk m c 1 t) (iblk m c 2 t) j := by
  rw [outsAt0_A m c t h0 (by omega)]; frame_out
  rw [pay_acc, pay_zero]; rfl

/-- A later point adds its contribution to the accumulator. -/
theorem acc_step (c : Dev nD) (t : Fin cfg0.N) (h0 : ¬ t.val % 4 = 0) (j : S512x1024.Idx) : (outsAt0 m c t.val t.isLt).2.2.2.2.1 j
    = (outsAt0 m c (t.val - 1) (Nat.lt_of_le_of_lt (Nat.sub_le _ _) t.isLt)).2.2.2.2.1 j + part (iblk m c 0 t) (iblk m c 1 t) (iblk m c 2 t) j := by
  unfold part
  rw [← xb_prev m c t h0]
  by_cases h3 : t.val % 4 = 3
  · rw [outsAt0_C m c t h0 h3]; frame_out; simp only [read_unread_whole]; rw [pay_acc]
  · rw [outsAt0_B m c t h0 h3]; frame_out; simp only [read_unread_whole]; rw [pay_acc]

/-- What a last point leaves in the second output's block. -/
theorem out_r (c : Dev nD) (t : Fin cfg0.N) (h3 : t.val % 4 = 3) : (outsAt0 m c t.val t.isLt).2.1
    = k0_pay6 (iblk m c 0 t) (outsAt0 m c t.val t.isLt).2.2.2.2.1 := by
  rw [outsAt0_C m c t (by omega) h3]; frame_out

/-- What a last point leaves in the third output's block. -/
theorem out_y (c : Dev nD) (t : Fin cfg0.N) (h3 : t.val % 4 = 3) : (outsAt0 m c t.val t.isLt).2.2.1
    = k0_pay7 (iblk m c 0 t) (outsAt0 m c t.val t.isLt).2.2.2.2.1 (iblk m c 3 t) (iblk m c 4 t) := by
  rw [outsAt0_C m c t (by omega) h3]; frame_out

/-- What a last point leaves in the fourth output's block. -/
theorem out_yb (c : Dev nD) (t : Fin cfg0.N) (h3 : t.val % 4 = 3) : (outsAt0 m c t.val t.isLt).2.2.2.1
    = k0_pay8 (iblk m c 0 t) (outsAt0 m c t.val t.isLt).2.2.2.2.1 (iblk m c 3 t) (iblk m c 4 t) := by
  rw [outsAt0_C m c t (by omega) h3]; frame_out

/-- The hidden layer's block is a block of the reference's. -/
theorem z_blk (c : Dev nD) (t : Fin cfg0.N) (j : S512x1024.Idx) (i : S8192x4096.Idx) (h0 : (i 0).val = t.val / 4 * 512 + (j 0).val) (h1 : (i 1).val = t.val % 4 * 1024 + (j 1).val) :
    k0_pay3 (k0_pay2 (iblk m c 0 t)) (iblk m c 1 t) j = FfnFwdRef.Z (m ((c : Thread nD τ).loc main_arg0)) (m ((c : Thread nD τ).loc main_arg1)) i := by
  rw [FfnFwdRef.z_at]
  refine (pay_z _ _ j).trans (Finset.sum_congr rfl fun k _ => ?_)
  rw [pay_xb]
  blk_point [iblk, V, idx t]

/-- The accumulator after a row block's last point is the second product's block. -/
theorem acc_at (c : Dev nD) (t : Fin cfg0.N) (h3 : t.val % 4 = 3) (j : S512x1024.Idx) (i : S8192x1024.Idx) (h0 : (i 0).val = t.val / 4 * 512 + (j 0).val) (h1 : (i 1).val = (j 1).val) :
    (outsAt0 m c t.val t.isLt).2.2.2.2.1 j = ∑ l : Fin 4096, max (FfnFwdRef.Z (m ((c : Thread nD τ).loc main_arg0)) (m ((c : Thread nD τ).loc main_arg1)) (ix2 (i 0) l)) 0
      * max (FfnFwdRef.Z (m ((c : Thread nD τ).loc main_arg0)) (m ((c : Thread nD τ).loc main_arg1)) (ix2 (i 0) l)) 0 * (m ((c : Thread nD τ).loc main_arg2) : FVec Ideal S4096x1024 .f32) (ix2 l (i 1)) := by
  rw [Pipeline.eq_sum_fin_of_reset_step_apply_of_flush (fun n h => (outsAt0 m c n h).2.2.2.2.1) 4 (fun _ => 0)
    (fun p j => part (iblk m c 0 p) (iblk m c 1 p) (iblk m c 2 p) j)
    (fun t h j => acc_first m c t h j) (fun t h j => acc_step m c t h j) t h3 _, zero_add]
  unfold part
  refine Fin.sum_mul_add_congr fun s k hl => ?_
  refine congrArg₂ (· * ·) (congrArg (fun z => max z 0 * max z 0) (z_blk m c _ _ _ ?_ ?_)) ?_
  · show (i 0).val = (4 * (t.val / 4) + s.val) / 4 * 512 + (j 0).val
    omega
  · show s.val * 1024 + k.val = (4 * (t.val / 4) + s.val) % 4 * 1024 + k.val
    omega
  · blk_point [iblk, V, idx t, idx ⟨_, Pipeline.run_point_lt_of_flush t h3 s⟩]

/-- The layer's input's block is a block of the reference's. -/
theorem r_blk (c : Dev nD) (t : Fin cfg0.N) (h3 : t.val % 4 = 3) (j : S512x1024.Idx) (i : S8192x1024.Idx) (h0 : (i 0).val = t.val / 4 * 512 + (j 0).val) (h1 : (i 1).val = (j 1).val) :
    k0_pay6 (iblk m c 0 t) (outsAt0 m c t.val t.isLt).2.2.2.2.1 j = FfnFwdRef.R (m ((c : Thread nD τ).loc main_arg0)) (m ((c : Thread nD τ).loc main_arg1)) (m ((c : Thread nD τ).loc main_arg2)) i := by
  rw [FfnFwdRef.r_at]
  refine (pay_r _ _ j).trans ?_
  refine congrArg₂ (· + ·) (congrArg (_ * ·) ?_) (acc_at m c t h3 _ i h0 h1)
  blk_point [iblk, V, idx t]

/-- The layer's output's block is a block of the reference's. -/
theorem y_blk (c : Dev nD) (t : Fin cfg0.N) (h3 : t.val % 4 = 3) (j : S512x1024.Idx) (i : S8192x1024.Idx) (h0 : (i 0).val = t.val / 4 * 512 + (j 0).val) (h1 : (i 1).val = (j 1).val) :
    k0_pay7 (iblk m c 0 t) (outsAt0 m c t.val t.isLt).2.2.2.2.1 (iblk m c 3 t) (iblk m c 4 t) j
      = Cert.FfnFwdRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  rw [FfnFwdRef.y_at, show (i 1 : Fin 1024) = j 1 from Fin.ext h1]
  refine (pay_y _ _ _ _ j).trans ?_
  have e0 : brow (k0_pay6 (iblk m c 0 t) (outsAt0 m c t.val t.isLt).2.2.2.2.1) (j 0)
      = FfnFwdRef.row (FfnFwdRef.R (m ((c : Thread nD τ).loc main_arg0)) (m ((c : Thread nD τ).loc main_arg1)) (m ((c : Thread nD τ).loc main_arg2))) (i 0) :=
    funext fun k => r_blk m c t h3 (ix2 (j 0) k) (ix2 (i 0) k) h0 rfl
  have e1 : (fun k : Fin 1024 => iblk m c 3 t (ix2 0 k)) = fun k => (m ((c : Thread nD τ).loc main_arg3) : FVec Ideal S1x1024 .f32) (ix2 0 k) :=
    funext fun k => by blk_point [iblk, V, idx t]
  have e2 : (fun k : Fin 1024 => iblk m c 4 t (ix2 0 k)) = fun k => (m ((c : Thread nD τ).loc main_arg4) : FVec Ideal S1x1024 .f32) (ix2 0 k) :=
    funext fun k => by blk_point [iblk, V, idx t]
  exact congrFun (congr (congr (congrArg (affine Nw Ew) e0) e1) e2) (j 1)

/-- The first result after the run. -/
theorem final_z (c : Dev nD) : (dats m 0 c).arrAt 5 (cfgs 0).N
    = Cert.FfnFwdRefIdeal.Read.val_main_v33 (F := Ideal) (m ((c : Thread nD τ).loc main_arg0)) (m ((c : Thread nD τ).loc main_arg1)) := by
  refine (dats m 0 c).arrAt_eq_of_covers 5 _ (by decide +kernel) fun t hf y => ?_
  blk_simp
  rw [after0_5, out_z, pay_zb]
  refine (z_blk m c t y _ ?_ ?_).trans (Cert.FfnFwdRefIdeal.Read.val_main_v33_apply (F := Ideal) _ _ _).symm
  all_goals blk_simp [idx t]

/-- The second result after the run. -/
theorem final_r (c : Dev nD) : (dats m 0 c).arrAt 6 (cfgs 0).N
    = Cert.FfnFwdRefIdeal.Read.val_main_v6 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out_r m c t ((flush0_6 t).mp hf)]
  refine r_blk m c t ((flush0_6 t).mp hf) y _ ?_ ?_
  all_goals blk_simp [idx t]

/-- The third result after the run. -/
theorem final_y (c : Dev nD) : (dats m 0 c).arrAt 7 (cfgs 0).N
    = Cert.FfnFwdRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out_y m c t ((flush0_7 t).mp hf)]
  refine y_blk m c t ((flush0_7 t).mp hf) y _ ?_ ?_
  all_goals blk_simp [idx t]

/-- The fourth result after the run. -/
theorem final_yb (c : Dev nD) : (dats m 0 c).arrAt 8 (cfgs 0).N
    = Cert.FfnFwdRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, out_yb m c t ((flush0_8 t).mp hf), pay_yb]
  refine (y_blk m c t ((flush0_8 t).mp hf) y _ ?_ ?_).trans (Cert.FfnFwdRefIdeal.Read.val_main_v34_apply (F := Ideal) _ _ _ _ _ _).symm
  all_goals blk_simp [idx t]

end Cert.FfnFwdValue

end
-- ==== Proof.AInValue.lean ====
/-
  The gated mixer's input projection (`a_in_proj`): what the kernel's array holds after the run is the product of the
  layer's input and the projection, the columns in four groups.
-/
module

public import proofs.«01_k».proof.Proof.Gen.AInIdeal.Frame
public import proofs.«01_k».proof.Proof.Gen.AInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AInValue

open Cert.AInIdeal Cert.AInIdeal.Gen

variable (m : (ℓ : Loc nD τ sig) → Buf (Elt Ideal) ℓ)

/-- The reference's term over the arguments. -/
abbrev REF (X : FVec Ideal S8192x1024 .f32) (W : FVec Ideal S1024x4096 .f32) : FVec Ideal S4x8192x1024 .f32 :=
  Cert.AInRefIdeal.Read.val_main_v2 (F := Ideal) X W

/-- The block indices of the windows at point `t`. -/
theorem idx : ∀ t : Fin cfg0.N, win0_0.index t = ![t.val % 8, 0] ∧ win0_1.index t = ![t.val / 8, 0, 0]
    ∧ win0_2.index t = ![t.val / 8, 0, 0] ∧ win0_3.index t = ![t.val / 8, t.val % 8, 0] ∧ t.val / 8 < 4 :=
  (by decide +kernel : ∀ t : Fin grid0.N, _)

/-- A point writes the product of its two blocks with the bias row added. -/
theorem pay (a : Vec Ideal S1024x1024 .bf16) (w : Vec Ideal S1x1024x1024 .bf16) (b : Vec Ideal S1x1x1024 .f32) (j : S1x1024x1024.Idx) :
    k0_pay1 a w b j = (∑ k : Fin 1024, a (ix2 (j 1) k) * w (ix3 0 k (j 2))) + b (ix3 0 0 (j 2)) := by
  pointwise [k0_pay1]

/-- The reference at an index, the column `n` of the projection named. -/
theorem ref_at (X : FVec Ideal S8192x1024 .f32) (W : FVec Ideal S1024x4096 .f32) (i : S4x8192x1024.Idx) (n : Fin 4096)
    (hn : n.val = (i 0).val * 1024 + (i 2).val) : REF X W i = ∑ k : Fin 1024, X (ix2 (i 1) k) * W (ix2 k n) := by
  have h0 : (i 0).val < 4 := (i 0).isLt
  have h2 : (i 2).val < 1024 := (i 2).isLt
  unfold REF
  rw [Cert.AInRefIdeal.Read.val_main_v2_apply, Cert.AInRefIdeal.Read.val_main_v1_apply]
  refine (Cert.AInRefIdeal.Read.val_main_v0_apply X W _).trans (Finset.sum_congr rfl fun k _ => ?_)
  refine congrArg₂ (· * ·) (congrArg X (funext fun a => Fin.ext ?_)) (congrArg W (funext fun a => Fin.ext ?_))
  · match a with
    | ⟨0, _⟩ => show (((i 1).val * 4 + (i 0).val) * 1024 + (i 2).val) / 4096 = (i 1).val; omega
    | ⟨1, _⟩ => rfl
  · match a with
    | ⟨0, _⟩ => rfl
    | ⟨1, _⟩ => show (((i 1).val * 4 + (i 0).val) * 1024 + (i 2).val) % 4096 = n.val; omega

/-- The kernel's array after the run is the reference's term. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp
  rw [after0_3]
  frame_out
  have ht := (idx t).2.2.2.2
  have h2 : (y 2).val < 1024 := (y 2).isLt
  rw [ref_at _ _ _ ⟨t.val / 8 * 1024 + (y 2).val, by omega⟩ (by blk_simp [idx t])]
  refine (pay _ _ _ _).trans ?_
  rw [show iblk m c 2 t (ix3 0 0 (y 2)) = (0 : EReal) by
    blk_point [iblk, V, idx t]]
  rw [add_zero]
  refine Finset.sum_congr rfl fun k _ => ?_
  blk_point [iblk, V, idx t]

end Cert.AInValue

end
-- ==== Proof.BInValue.lean ====
/-
  The convolution mixer's input projection (`b_pw1`): what the kernel's array holds after the run is the product of the
  layer's input and the projection plus the bias, the columns in two groups.
-/
module

public import proofs.«01_k».proof.Proof.Gen.BInIdeal.Frame
public import proofs.«01_k».proof.Proof.Gen.BInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BInValue

open Cert.BInIdeal Cert.BInIdeal.Gen

variable (m : (ℓ : Loc nD τ sig) → Buf (Elt Ideal) ℓ)

/-- The reference's term over the arguments. -/
abbrev REF (X : FVec Ideal S8192x1024 .f32) (W : FVec Ideal S1024x2048 .f32) (B : FVec Ideal S1x2048 .f32) : FVec Ideal S2x8192x1024 .f32 :=
  Cert.BInRefIdeal.Read.val_main_v6 (F := Ideal) X W B

/-- The block indices of the windows at point `t`. -/
theorem idx : ∀ t : Fin cfg0.N, win0_0.index t = ![t.val % 8, 0] ∧ win0_1.index t = ![t.val / 8, 0, 0]
    ∧ win0_2.index t = ![t.val / 8, 0, 0] ∧ win0_3.index t = ![t.val / 8, t.val % 8, 0] ∧ t.val / 8 < 2 :=
  (by decide +kernel : ∀ t : Fin grid0.N, _)

/-- A point writes the product of its two blocks with the bias row added. -/
theorem pay (a : Vec Ideal S1024x1024 .bf16) (w : Vec Ideal S1x1024x1024 .bf16) (b : Vec Ideal S1x1x1024 .f32) (j : S1x1024x1024.Idx) :
    k0_pay1 a w b j = (∑ k : Fin 1024, a (ix2 (j 1) k) * w (ix3 0 k (j 2))) + b (ix3 0 0 (j 2)) := by
  pointwise [k0_pay1]

/-- The reference at an index, the column `n` of the projection named. -/
theorem ref_at (X : FVec Ideal S8192x1024 .f32) (W : FVec Ideal S1024x2048 .f32) (B : FVec Ideal S1x2048 .f32) (i : S2x8192x1024.Idx) (n : Fin 2048)
    (hn : n.val = (i 0).val * 1024 + (i 2).val) : REF X W B i = (∑ k : Fin 1024, X (ix2 (i 1) k) * W (ix2 k n)) + B (ix2 0 n) := by
  have h0 : (i 0).val < 2 := (i 0).isLt
  have h2 : (i 2).val < 1024 := (i 2).isLt
  unfold REF
  rw [Cert.BInRefIdeal.Read.val_main_v6_apply, Cert.BInRefIdeal.Read.val_main_v5_apply, Cert.BInRefIdeal.Read.val_main_v4_apply,
    Cert.BInRefIdeal.Read.val_main_v3_apply, Cert.BInRefIdeal.Read.val_main_v2_apply, Cert.BInRefIdeal.Read.val_main_v1_apply]
  refine congrArg₂ (· + ·) (Eq.trans (Cert.BInRefIdeal.Read.val_main_v0_apply X W _) (Finset.sum_congr rfl fun k _ => ?_)) (congrArg B (funext fun a => Fin.ext ?_))
  · refine congrArg₂ (· * ·) (congrArg X (funext fun a => Fin.ext ?_)) (congrArg W (funext fun a => Fin.ext ?_))
    · match a with
      | ⟨0, _⟩ => show (((i 1).val * 2 + (i 0).val) * 1024 + (i 2).val) / 2048 = (i 1).val; omega
      | ⟨1, _⟩ => rfl
    · match a with
      | ⟨0, _⟩ => rfl
      | ⟨1, _⟩ => show (((i 1).val * 2 + (i 0).val) * 1024 + (i 2).val) % 2048 = n.val; omega
  · match a with
    | ⟨0, _⟩ => rfl
    | ⟨1, _⟩ => show (((i 1).val * 2 + (i 0).val) * 1024 + (i 2).val) % 2048 % 2048 = n.val; omega

/-- The kernel's array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have ht := (idx t).2.2.2.2
  have h2 : (y 2).val < 1024 := (y 2).isLt
  rw [ref_at _ _ _ _ ⟨t.val / 8 * 1024 + (y 2).val, by omega⟩ (by blk_simp [idx t])]
  refine (pay _ _ _ _).trans ?_
  refine congrArg₂ (· + ·) (Finset.sum_congr rfl fun k _ => ?_) ?_
  all_goals blk_point [iblk, V, idx t]

end Cert.BInValue

end
-- ==== Proof.MixOutValue.lean ====
/-
  The convolution mixer's output projection with the normalised residual (`mix_out_ln`): what the kernel's arrays hold after the
  run is the layer's input, its normalisation and the narrowed copy of it.
-/
module

public import proofs.«01_k».proof.Proof.NormAlgebra
public import proofs.«01_k».proof.Proof.Gen.MixOutIdeal.Frame
public import proofs.«01_k».proof.Proof.Gen.MixOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixOutRef

open Cert.MixOutRefIdeal Cert.MixOutRefIdeal.Read Cert.Norm

variable (x0 x1 : FVec Ideal S8192x1024 .f32) (x2 : FVec Ideal S1024x1024 .f32) (x3 x4 x5 : FVec Ideal S1x1024 .f32)

/-- Row `p` of a matrix. -/
abbrev row (X : FVec Ideal S8192x1024 .f32) (p : Fin 8192) : Fin 1024 → EReal := fun k => X (ix2 p k)

/-- A matrix at an index is its row at the column. -/
theorem at_row (X : FVec Ideal S8192x1024 .f32) (i : S8192x1024.Idx) : X i = row X (i 0) (i 1) :=
  congrArg X (funext fun a => Fin.ext (by match a with | ⟨0, _⟩ => rfl | ⟨1, _⟩ => rfl))

/-- The normalised layer's input: the scaled residual plus the projected mixer output. -/
abbrev R : FVec Ideal S8192x1024 .f32 := val_main_v7 (F := Ideal) x0 x1 x2 x3

/-- The layer's input at an index. -/
theorem r_at (i : S8192x1024.Idx) : R x0 x1 x2 x3 i
    = Ideal.ofBits .f32 0x3FD744FD#32 * x0 (ix2 (i 0) (i 1)) + ((∑ k : Fin 1024, x1 (ix2 (i 0) k) * x2 (ix2 k (i 1))) + x3 (ix2 0 (i 1))) := by
  unfold R
  rw [val_main_v7_apply, val_main_v1_apply, val_main_v0_apply, val_main_cst_apply, val_main_v6_apply, val_main_v2_apply, val_main_v5_apply, val_main_v4_apply, val_main_v3_apply]
  refine congrArg₂ (· + ·) (congrArg (_ * ·) (at_row x0 i)) (congrArg₂ (· + ·) (Finset.sum_congr rfl fun k _ => congrArg₂ (· * ·) (at_row x1 _) (congrArg x2 (funext fun a => Fin.ext ?_))) (congrArg x3 (funext fun a => Fin.ext ?_)))
  · match a with
    | ⟨0, _⟩ => rfl
    | ⟨1, _⟩ => rfl
  · match a with
    | ⟨0, _⟩ => rfl
    | ⟨1, _⟩ => exact Nat.mod_eq_of_lt (i 1).isLt

/-- The reference's row mean. -/
theorem mean_at (i : S8192x1.Idx) : val_main_v13 (F := Ideal) x0 x1 x2 x3 i = mean Nw (row (R x0 x1 x2 x3) (i 0)) := by
  rw [val_main_v13_apply, val_main_v11_apply, val_main_v10_apply, val_main_v12_apply, val_main_cst_1_apply, val_main_cst_0_apply]
  show Ideal.div (Ideal.ofBits .f32 0x00000000#32 + _) _ = Ideal.div _ _
  rw [Ideal.ofBits_zero_f32, zero_add]
  exact congrArg (Ideal.div · _) (Finset.sum_congr rfl fun k _ => at_row _ _)

/-- The reference's centred row. -/
theorem centred_at (i : S8192x1024.Idx) : val_main_v15 (F := Ideal) x0 x1 x2 x3 i = centred Nw (row (R x0 x1 x2 x3) (i 0)) (i 1) := by
  rw [val_main_v15_apply, val_main_v14_apply, mean_at]
  exact congrArg (· - mean Nw (row (R x0 x1 x2 x3) (i 0))) (at_row (R x0 x1 x2 x3) i)

/-- The centred row where the reference writes it a second time. -/
theorem centred_at' (i : S8192x1024.Idx) : val_main_v22 (F := Ideal) x0 x1 x2 x3 i = centred Nw (row (R x0 x1 x2 x3) (i 0)) (i 1) := by
  rw [val_main_v22_apply, val_main_v21_apply, mean_at]
  exact congrArg (· - mean Nw (row (R x0 x1 x2 x3) (i 0))) (at_row (R x0 x1 x2 x3) i)

/-- The reference's variance with the small constant added. -/
theorem spread_at (i : S8192x1.Idx) : val_main_v24 (F := Ideal) x0 x1 x2 x3 i = spread Nw Ew (row (R x0 x1 x2 x3) (i 0)) := by
  rw [val_main_v24_apply, val_main_v20_apply, val_main_v18_apply, val_main_v17_apply, val_main_v19_apply, val_main_v23_apply,
    val_main_cst_2_apply, val_main_cst_3_apply, val_main_cst_4_apply]
  show Ideal.div (Ideal.ofBits .f32 0x00000000#32 + _) _ + _ = Ideal.div _ _ + _
  rw [Ideal.ofBits_zero_f32, zero_add]
  refine congrArg (Ideal.div · _ + _) (Finset.sum_congr rfl fun k _ => ?_)
  rw [val_main_v16_apply, centred_at]; rfl

/-- The reference's normalised row. -/
theorem hat_at (i : S8192x1024.Idx) : val_main_v27 (F := Ideal) x0 x1 x2 x3 i = hat Nw Ew (row (R x0 x1 x2 x3) (i 0)) (i 1) := by
  rw [val_main_v27_apply, val_main_v26_apply, centred_at', val_main_v25_apply, spread_at]; rfl

/-- The gain, copied to every row. -/
theorem gain_at (i : S8192x1024.Idx) : val_main_v29 (F := Ideal) x4 i = x4 (ix2 0 (i 1)) := by
  rw [val_main_v29_apply, val_main_v28_apply, val_main_v8_apply]
  refine congrArg x4 (funext fun a => Fin.ext ?_)
  match a with
  | ⟨0, _⟩ => rfl
  | ⟨1, _⟩ => exact Nat.mod_eq_of_lt (i 1).isLt

/-- The shift, copied to every row. -/
theorem shift_at (i : S8192x1024.Idx) : val_main_v32 (F := Ideal) x5 i = x5 (ix2 0 (i 1)) := by
  rw [val_main_v32_apply, val_main_v31_apply, val_main_v9_apply]
  refine congrArg x5 (funext fun a => Fin.ext ?_)
  match a with
  | ⟨0, _⟩ => rfl
  | ⟨1, _⟩ => exact Nat.mod_eq_of_lt (i 1).isLt

/-- The layer's output is the affine image of its normalised row. -/
theorem y_at (i : S8192x1024.Idx) : val_main_v33 (F := Ideal) x0 x1 x2 x3 x4 x5 i = affine Nw Ew (row (R x0 x1 x2 x3) (i 0)) (fun k => x4 (ix2 0 k)) (fun k => x5 (ix2 0 k)) (i 1) := by
  rw [val_main_v33_apply, val_main_v30_apply, hat_at, gain_at, shift_at]; rfl

end Cert.MixOutRef

namespace Cert.MixOutValue

open Cert.MixOutIdeal Cert.MixOutIdeal.Gen Cert.Norm

variable (m : (ℓ : Loc nD τ sig) → Buf (Elt Ideal) ℓ)

/-- The block indices of the windows at point `t`. -/
theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- A block's row. -/
abbrev brow (X : Vec Ideal S1024x1024 .f32) (p : Fin 1024) : Fin 1024 → EReal := fun k => X (ix2 p k)

/-- A block at an index is its row at the column. -/
theorem at_brow (X : Vec Ideal S1024x1024 .f32) (j : S1024x1024.Idx) : X j = brow X (j 0) (j 1) :=
  congrArg X (funext fun a => Fin.ext (by match a with | ⟨0, _⟩ => rfl | ⟨1, _⟩ => rfl))

/-- The layer's input, block by block. -/
theorem pay_r (x : Vec Ideal S1024x1024 .f32) (v w : Vec Ideal S1024x1024 .bf16) (b : Vec Ideal S1x1024 .f32) (j : S1024x1024.Idx) :
    k0_pay2 x v w b j = Ideal.ofBits .f32 0x3FD744FD#32 * x (ix2 (j 0) (j 1)) + ((∑ k : Fin 1024, v (ix2 (j 0) k) * w (ix2 k (j 1))) + b (ix2 0 (j 1))) := by
  rw [← add_assoc, ← show x j = x (ix2 (j 0) (j 1)) from at_brow x j]
  pointwise [k0_pay2]

/-- The layer's output, block by block. -/
theorem pay_y (x : Vec Ideal S1024x1024 .f32) (v w : Vec Ideal S1024x1024 .bf16) (b g h : Vec Ideal S1x1024 .f32) (j : S1024x1024.Idx) :
    k0_pay3 x v w b g h j = affine Nw Ew (brow (k0_pay2 x v w b) (j 0)) (fun k => g (ix2 0 k)) (fun k => h (ix2 0 k)) (j 1) := by
  unfold k0_pay3
  generalize k0_pay2 x v w b = r
  unfold affine hat rstd spread centred mean
  pointwise
  rw [show r j = r (ix2 (j 0) (j 1)) from at_brow r j]

/-- The layer's input's block is a block of the reference's. -/
theorem r_blk (c : Dev nD) (t : Fin cfg0.N) (j : S1024x1024.Idx) (i : S8192x1024.Idx) (h0 : (i 0).val = t.val * 1024 + (j 0).val) (h1 : (i 1).val = (j 1).val) :
    k0_pay2 (iblk m c 3 t) (iblk m c 0 t) (iblk m c 1 t) (iblk m c 2 t) j
      = MixOutRef.R (m ((c : Thread nD τ).loc main_arg0)) (m ((c : Thread nD τ).loc main_arg1)) (m ((c : Thread nD τ).loc main_arg2)) (m ((c : Thread nD τ).loc main_arg3)) i := by
  rw [MixOutRef.r_at]
  refine (pay_r _ _ _ _ j).trans ?_
  refine congrArg₂ (· + ·) (congrArg (_ * ·) ?_) (congrArg₂ (· + ·) (Finset.sum_congr rfl fun k _ => ?_) ?_)
  all_goals blk_point [iblk, V, idx t]

/-- The layer's output's block is a block of the reference's. -/
theorem y_blk (c : Dev nD) (t : Fin cfg0.N) (j : S1024x1024.Idx) (i : S8192x1024.Idx) (h0 : (i 0).val = t.val * 1024 + (j 0).val) (h1 : (i 1).val = (j 1).val) :
    k0_pay3 (iblk m c 3 t) (iblk m c 0 t) (iblk m c 1 t) (iblk m c 2 t) (iblk m c 4 t) (iblk m c 5 t) j
      = Cert.MixOutRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  rw [MixOutRef.y_at, show (i 1 : Fin 1024) = j 1 from Fin.ext h1]
  refine (pay_y _ _ _ _ _ _ j).trans ?_
  have e0 : brow (k0_pay2 (iblk m c 3 t) (iblk m c 0 t) (iblk m c 1 t) (iblk m c 2 t)) (j 0)
      = MixOutRef.row (MixOutRef.R (m ((c : Thread nD τ).loc main_arg0)) (m ((c : Thread nD τ).loc main_arg1)) (m ((c : Thread nD τ).loc main_arg2)) (m ((c : Thread nD τ).loc main_arg3))) (i 0) :=
    funext fun k => r_blk m c t (ix2 (j 0) k) (ix2 (i 0) k) h0 rfl
  have e1 : (fun k : Fin 1024 => iblk m c 4 t (ix2 0 k)) = fun k => (m ((c : Thread nD τ).loc main_arg4) : FVec Ideal S1x1024 .f32) (ix2 0 k) :=
    funext fun k => by blk_point [iblk, V, idx t]
  have e2 : (fun k : Fin 1024 => iblk m c 5 t (ix2 0 k)) = fun k => (m ((c : Thread nD τ).loc main_arg5) : FVec Ideal S1x1024 .f32) (ix2 0 k) :=
    funext fun k => by blk_point [iblk, V, idx t]
  exact congrFun (congr (congr (congrArg (affine Nw Ew) e0) e1) e2) (j 1)

/-- The output's payload over whole reads is the payload over the blocks. -/
theorem pay_whole (v w : Vec Ideal S1024x1024 .bf16) (b : Vec Ideal S1x1024 .f32) (x : Vec Ideal S1024x1024 .f32) (g h : Vec Ideal S1x1024 .f32) :
    k0_pay4 v w b x g h = k0_pay3 x v w b g h := by
  unfold k0_pay4
  rw [View.ld_unit_lit _ x (by decide), View.ld_unit_lit _ v (by decide), View.ld_unit_lit _ w (by decide), View.ld_unit_lit _ b (by decide),
    View.ld_unit_lit _ g (by decide), View.ld_unit_lit _ h (by decide)]

/-- What a point leaves in the second output's block. -/
theorem out_y (v w : Vec Ideal S1024x1024 .bf16) (b : Vec Ideal S1x1024 .f32) (x : Vec Ideal S1024x1024 .f32) (g h : Vec Ideal S1x1024 .f32) :
    out0_7 v w b x g h = k0_pay3 x v w b g h := by frame_out; exact pay_whole v w b x g h

/-- What a point leaves in the third output's block. -/
theorem out_yb (v w : Vec Ideal S1024x1024 .bf16) (b : Vec Ideal S1x1024 .f32) (x : Vec Ideal S1024x1024 .f32) (g h : Vec Ideal S1x1024 .f32) :
    out0_8 v w b x g h = k0_pay1 (k0_pay3 x v w b g h) := by frame_out; rw [pay_whole]

/-- The narrowed copy of a block is the block. -/
theorem pay_yb (x : FVec Ideal S1024x1024 .f32) (j : S1024x1024.Idx) : k0_pay1 x j = x j := by pointwise [k0_pay1]

/-- The first result after the run. -/
theorem final_r (c : Dev nD) : (dats m 0 c).arrAt 6 (cfgs 0).N
    = Cert.MixOutRefIdeal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine r_blk m c t y _ ?_ ?_
  all_goals blk_simp [idx t]

/-- The second result after the run. -/
theorem final_y (c : Dev nD) : (dats m 0 c).arrAt 7 (cfgs 0).N
    = Cert.MixOutRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, out_y]
  refine y_blk m c t y _ ?_ ?_
  all_goals blk_simp [idx t]

/-- The third result after the run. -/
theorem final_yb (c : Dev nD) : (dats m 0 c).arrAt 8 (cfgs 0).N
    = Cert.MixOutRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, out_yb, pay_yb]
  refine (y_blk m c t y _ ?_ ?_).trans (Cert.MixOutRefIdeal.Read.val_main_v34_apply (F := Ideal) _ _ _ _ _ _ _).symm
  all_goals blk_simp [idx t]

end Cert.MixOutValue

end
-- ==== Proof.ForwardClaims.lean ====
/-
  The claims about the products of the forward pass, the feed-forward layer's and the mixers': each closed from the kernel's run,
  the values its arrays hold after that run, and the reference's run.
-/
module

public import proofs.«01_k».proof.Defs
public import proofs.«01_k».proof.Proof.FfnFwdValue
public import proofs.«01_k».proof.Proof.Gen.FfnFwd.Frame
public import proofs.«01_k».proof.Proof.AInValue
public import proofs.«01_k».proof.Proof.Gen.AIn.Frame
public import proofs.«01_k».proof.Proof.BInValue
public import proofs.«01_k».proof.Proof.Gen.BIn.Frame
public import proofs.«01_k».proof.Proof.MixOutValue
public import proofs.«01_k».proof.Proof.Gen.MixOut.Frame
public import Idealize.ShloMosaic.Lib.Claim

@[expose] public section

set_option maxRecDepth 16384

noncomputable section

open Idealize.ShloMosaic Idealize.ShloMosaic.TcCoe Idealize.SL.Sem

namespace Cert.FfnFwdClaims

/-- The kernel runs and leaves its arguments and the semaphores as they were. -/
theorem frame_kernel : Cert.quiescent_FfnFwd := fun m ρ _ => Cert.FfnFwd.Gen.frame m ρ
/-- So does its idealization. -/
theorem frame_ideal : Cert.quiescent_FfnFwdIdeal := fun m ρ _ => Cert.FfnFwdIdeal.Gen.frame m ρ
/-- So does the reference. -/
theorem frame_ref : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)
/-- Where the arguments agree, a function of the reference's arguments is the same function of the kernel's. -/
theorem ref_end {β : Type _} (m : (ℓ : Loc Cert.FfnFwdIdeal.nD Cert.FfnFwdIdeal.τ Cert.FfnFwdIdeal.sig) → Buf (Elt Ideal) ℓ)
    (m' : (ℓ : Loc Cert.FfnFwdRefIdeal.nD Cert.FfnFwdRefIdeal.τ Cert.FfnFwdRefIdeal.sig) → Buf (Elt Ideal) ℓ) (c : Dev Cert.FfnFwdIdeal.nD)
    (f : FVec Ideal Cert.FfnFwdRefIdeal.S8192x1024 .f32 → FVec Ideal Cert.FfnFwdRefIdeal.S1024x4096 .f32 → FVec Ideal Cert.FfnFwdRefIdeal.S4096x1024 .f32 → FVec Ideal Cert.FfnFwdRefIdeal.S1x1024 .f32 → FVec Ideal Cert.FfnFwdRefIdeal.S1x1024 .f32 → β)
    (x : β) {y : β} (hx : x = f (m' (c.tc.loc Cert.FfnFwdRefIdeal.main_arg0)) (m' (c.tc.loc Cert.FfnFwdRefIdeal.main_arg1)) (m' (c.tc.loc Cert.FfnFwdRefIdeal.main_arg2)) (m' (c.tc.loc Cert.FfnFwdRefIdeal.main_arg3)) (m' (c.tc.loc Cert.FfnFwdRefIdeal.main_arg4)))
    (h : m' (c.tc.loc Cert.FfnFwdRefIdeal.main_arg0) = m (c.tc.loc Cert.FfnFwdIdeal.main_arg0)
      ∧ m' (c.tc.loc Cert.FfnFwdRefIdeal.main_arg1) = m (c.tc.loc Cert.FfnFwdIdeal.main_arg1)
      ∧ m' (c.tc.loc Cert.FfnFwdRefIdeal.main_arg2) = m (c.tc.loc Cert.FfnFwdIdeal.main_arg2)
      ∧ m' (c.tc.loc Cert.FfnFwdRefIdeal.main_arg3) = m (c.tc.loc Cert.FfnFwdIdeal.main_arg3)
      ∧ m' (c.tc.loc Cert.FfnFwdRefIdeal.main_arg4) = m (c.tc.loc Cert.FfnFwdIdeal.main_arg4))
    (hy : y = f (m (c.tc.loc Cert.FfnFwdIdeal.main_arg0)) (m (c.tc.loc Cert.FfnFwdIdeal.main_arg1)) (m (c.tc.loc Cert.FfnFwdIdeal.main_arg2)) (m (c.tc.loc Cert.FfnFwdIdeal.main_arg3)) (m (c.tc.loc Cert.FfnFwdIdeal.main_arg4))) : x = y := by
  obtain ⟨h0, h1, h2, h3, h4⟩ := h
  rw [hx, hy]
  exact congr (congr (congr (congr (congrArg f h0) h1) h2) h3) h4

/-- The kernel and the reference end with the same arrays. -/
theorem value : Cert.algebraic_FfnFwdIdeal_FfnFwdRefIdeal := by
  pair_intro
  · run_from Cert.FfnFwdIdeal.Gen.run_main m g
  · run_from Cert.FfnFwdRefIdeal.Value.run (F := Ideal) m' g'
    · exact (Cert.FfnFwdRefIdeal.Read.val_main_v33_eq (F := Ideal) _ _).trans (Cert.FfnFwdValue.final_z m c).symm
    · exact (Cert.FfnFwdRefIdeal.Read.val_main_v6_eq (F := Ideal) _ _ _).trans (Cert.FfnFwdValue.final_r m c).symm
    · exact ref_end m m' c (Cert.FfnFwdRefIdeal.Read.val_main_v32 (F := Ideal)) _ (Cert.FfnFwdRefIdeal.Read.val_main_v32_eq m' c) (hagree c) (Cert.FfnFwdValue.final_y m c)
    · exact ref_end m m' c (Cert.FfnFwdRefIdeal.Read.val_main_v34 (F := Ideal)) _ (Cert.FfnFwdRefIdeal.Read.val_main_v34_eq m' c) (hagree c) (Cert.FfnFwdValue.final_yb m c)

end Cert.FfnFwdClaims

namespace Cert.AInClaims

/-- The kernel runs and leaves its arguments and the semaphores as they were. -/
theorem frame_kernel : Cert.quiescent_AIn := fun m ρ _ => Cert.AIn.Gen.frame m ρ
/-- So does its idealization. -/
theorem frame_ideal : Cert.quiescent_AInIdeal := fun m ρ _ => Cert.AInIdeal.Gen.frame m ρ
/-- So does the reference. -/
theorem frame_ref : Cert.quiescent_AInRefIdeal := fun m ρ _ =>
  (θ_run Cert.AInRefIdeal.defs _ _).mono (fun r h => ⟨fun c => (h c).2, sem_eq_zero_of_no_sems (by decide) r.2⟩)
    (Cert.AInRefIdeal.Value.run (F := Ideal) m ρ)
/-- The kernel and the reference end with the same array. -/
theorem value : Cert.algebraic_AInIdeal_AInRefIdeal := by
  pair_intro
  · run_from Cert.AInIdeal.Gen.run_main m g
  · run_from Cert.AInRefIdeal.Value.run (F := Ideal) m' g'
    exact (Cert.AInValue.final m c).symm

end Cert.AInClaims

namespace Cert.BInClaims

/-- The kernel runs and leaves its arguments and the semaphores as they were. -/
theorem frame_kernel : Cert.quiescent_BIn := fun m ρ _ => Cert.BIn.Gen.frame m ρ
/-- So does its idealization. -/
theorem frame_ideal : Cert.quiescent_BInIdeal := fun m ρ _ => Cert.BInIdeal.Gen.frame m ρ
/-- So does the reference. -/
theorem frame_ref : Cert.quiescent_BInRefIdeal := fun m ρ _ =>
  (θ_run Cert.BInRefIdeal.defs _ _).mono (fun r h => ⟨fun c => (h c).2, sem_eq_zero_of_no_sems (by decide) r.2⟩)
    (Cert.BInRefIdeal.Value.run (F := Ideal) m ρ)
/-- The kernel and the reference end with the same array. -/
theorem value : Cert.algebraic_BInIdeal_BInRefIdeal := by
  pair_intro
  · run_from Cert.BInIdeal.Gen.run_main m g
  · run_from Cert.BInRefIdeal.Value.run (F := Ideal) m' g'
    exact (Cert.BInValue.final m c).symm

end Cert.BInClaims

namespace Cert.MixOutClaims

/-- The kernel runs and leaves its arguments and the semaphores as they were. -/
theorem frame_kernel : Cert.quiescent_MixOut := fun m ρ _ => Cert.MixOut.Gen.frame m ρ
/-- So does its idealization. -/
theorem frame_ideal : Cert.quiescent_MixOutIdeal := fun m ρ _ => Cert.MixOutIdeal.Gen.frame m ρ
/-- So does the reference. -/
theorem frame_ref : Cert.quiescent_MixOutRefIdeal := fun m ρ _ =>
  (θ_run Cert.MixOutRefIdeal.defs _ _).mono (fun r h => ⟨fun c => (h c).2.2.2, sem_eq_zero_of_no_sems (by decide) r.2⟩)
    (Cert.MixOutRefIdeal.Value.run (F := Ideal) m ρ)
/-- Where the arguments agree, a function of the reference's arguments is the same function of the kernel's. -/
theorem ref_end {β : Type _} (m : (ℓ : Loc Cert.MixOutIdeal.nD Cert.MixOutIdeal.τ Cert.MixOutIdeal.sig) → Buf (Elt Ideal) ℓ)
    (m' : (ℓ : Loc Cert.MixOutRefIdeal.nD Cert.MixOutRefIdeal.τ Cert.MixOutRefIdeal.sig) → Buf (Elt Ideal) ℓ) (c : Dev Cert.MixOutIdeal.nD)
    (f : FVec Ideal Cert.MixOutRefIdeal.S8192x1024 .f32 → FVec Ideal Cert.MixOutRefIdeal.S8192x1024 .f32 → FVec Ideal Cert.MixOutRefIdeal.S1024x1024 .f32 → FVec Ideal Cert.MixOutRefIdeal.S1x1024 .f32 → FVec Ideal Cert.MixOutRefIdeal.S1x1024 .f32 → FVec Ideal Cert.MixOutRefIdeal.S1x1024 .f32 → β)
    (x : β) {y : β} (hx : x = f (m' (c.tc.loc Cert.MixOutRefIdeal.main_arg0)) (m' (c.tc.loc Cert.MixOutRefIdeal.main_arg1)) (m' (c.tc.loc Cert.MixOutRefIdeal.main_arg2)) (m' (c.tc.loc Cert.MixOutRefIdeal.main_arg3)) (m' (c.tc.loc Cert.MixOutRefIdeal.main_arg4)) (m' (c.tc.loc Cert.MixOutRefIdeal.main_arg5)))
    (h : m' (c.tc.loc Cert.MixOutRefIdeal.main_arg0) = m (c.tc.loc Cert.MixOutIdeal.main_arg0)
      ∧ m' (c.tc.loc Cert.MixOutRefIdeal.main_arg1) = m (c.tc.loc Cert.MixOutIdeal.main_arg1)
      ∧ m' (c.tc.loc Cert.MixOutRefIdeal.main_arg2) = m (c.tc.loc Cert.MixOutIdeal.main_arg2)
      ∧ m' (c.tc.loc Cert.MixOutRefIdeal.main_arg3) = m (c.tc.loc Cert.MixOutIdeal.main_arg3)
      ∧ m' (c.tc.loc Cert.MixOutRefIdeal.main_arg4) = m (c.tc.loc Cert.MixOutIdeal.main_arg4)
      ∧ m' (c.tc.loc Cert.MixOutRefIdeal.main_arg5) = m (c.tc.loc Cert.MixOutIdeal.main_arg5))
    (hy : y = f (m (c.tc.loc Cert.MixOutIdeal.main_arg0)) (m (c.tc.loc Cert.MixOutIdeal.main_arg1)) (m (c.tc.loc Cert.MixOutIdeal.main_arg2)) (m (c.tc.loc Cert.MixOutIdeal.main_arg3)) (m (c.tc.loc Cert.MixOutIdeal.main_arg4)) (m (c.tc.loc Cert.MixOutIdeal.main_arg5))) : x = y := by
  obtain ⟨h0, h1, h2, h3, h4, h5⟩ := h
  rw [hx, hy]
  exact congr (congr (congr (congr (congr (congrArg f h0) h1) h2) h3) h4) h5

/-- The kernel and the reference end with the same arrays. -/
theorem value : Cert.algebraic_MixOutIdeal_MixOutRefIdeal := by
  pair_intro
  · run_from Cert.MixOutIdeal.Gen.run_main m g
  · run_from Cert.MixOutRefIdeal.Value.run (F := Ideal) m' g'
    · exact (Cert.MixOutRefIdeal.Read.val_main_v7_eq (F := Ideal) _ _ _ _).trans (Cert.MixOutValue.final_r m c).symm
    · exact ref_end m m' c (Cert.MixOutRefIdeal.Read.val_main_v33 (F := Ideal)) _ (Cert.MixOutRefIdeal.Read.val_main_v33_eq m' c) (hagree c) (Cert.MixOutValue.final_y m c)
    · exact ref_end m m' c (Cert.MixOutRefIdeal.Read.val_main_v34 (F := Ideal)) _ (Cert.MixOutRefIdeal.Read.val_main_v34_eq m' c) (hagree c) (Cert.MixOutValue.final_yb m c)

end Cert.MixOutClaims

end
-- ==== Proof.FfnDxRef.lean ====
/-
  The reference of the gradient through the feed-forward block, read at an index: the rows of the chain rule's gradient at the
  normalised layer's input, and the gradients behind it.
-/
module

public import proofs.«01_k».proof.Proof.NormAlgebra
public import proofs.«01_k».proof.Proof.Gen.FfnDxRefIdeal.Read
public import Idealize.ShloMosaic.Lib.Pipeline.ValueKit

@[expose] public section

set_option maxRecDepth 16384

noncomputable section

open Idealize.ShloMosaic Idealize.ShloMosaic.TcCoe

namespace Cert.FfnDxRef

open Cert.FfnDxRefIdeal Cert.FfnDxRefIdeal.Read Cert.Norm

variable (x0 x1 : FVec Ideal S8192x1024 .f32) (x2 : FVec Ideal S1024x4096 .f32) (x3 : FVec Ideal S4096x1024 .f32) (x4 : FVec Ideal S1x1024 .f32)

/-- Row `p` of a matrix. -/
abbrev row (X : FVec Ideal S8192x1024 .f32) (p : Fin 8192) : Fin 1024 → EReal := fun k => X (ix2 p k)

/-- A matrix at an index is its row at the column. -/
theorem at_row (X : FVec Ideal S8192x1024 .f32) (i : S8192x1024.Idx) : X i = row X (i 0) (i 1) :=
  congrArg X (funext fun a => Fin.ext (by match a with | ⟨0, _⟩ => rfl | ⟨1, _⟩ => rfl))

/-- The normalised layer's input: the scaled residual plus the feed-forward output. -/
abbrev R : FVec Ideal S8192x1024 .f32 := val_main_v13 (F := Ideal) x1 x2 x3

/-- The incoming gradient times the gain, a row of it. -/
abbrev dyg (p : Fin 8192) : Fin 1024 → EReal := fun k => x0 (ix2 p k) * x4 (ix2 0 k)

/-- The reference's row mean. -/
theorem mean_at (i : S8192x1.Idx) : val_main_v17 (F := Ideal) x1 x2 x3 i = mean Nw (row (R x1 x2 x3) (i 0)) := by
  rw [val_main_v17_apply, val_main_v15_apply, val_main_v14_apply, val_main_v16_apply, val_main_cst_5_apply, val_main_cst_4_apply]
  show Ideal.div (Ideal.ofBits .f32 0x00000000#32 + _) _ = Ideal.div _ _
  rw [Ideal.ofBits_zero_f32, zero_add]
  exact congrArg (Ideal.div · _) (Finset.sum_congr rfl fun k _ => at_row _ _)

/-- The reference's centred row. -/
theorem centred_at (i : S8192x1024.Idx) : val_main_v19 (F := Ideal) x1 x2 x3 i = centred Nw (row (R x1 x2 x3) (i 0)) (i 1) := by
  rw [val_main_v19_apply, val_main_v18_apply, mean_at]
  exact congrArg (· - mean Nw (row (R x1 x2 x3) (i 0))) (at_row (R x1 x2 x3) i)

/-- The centred row where the reference writes it a second time. -/
theorem centred_at' (i : S8192x1024.Idx) : val_main_v28 (F := Ideal) x1 x2 x3 i = centred Nw (row (R x1 x2 x3) (i 0)) (i 1) := by
  rw [val_main_v28_apply, val_main_v27_apply, mean_at]
  exact congrArg (· - mean Nw (row (R x1 x2 x3) (i 0))) (at_row (R x1 x2 x3) i)

/-- The reference's variance with the small constant added. -/
theorem spread_at (i : S8192x1.Idx) : val_main_v30 (F := Ideal) x1 x2 x3 i = spread Nw Ew (row (R x1 x2 x3) (i 0)) := by
  rw [val_main_v30_apply, val_main_v26_apply, val_main_v24_apply, val_main_v23_apply, val_main_v25_apply, val_main_v29_apply,
    val_main_cst_7_apply, val_main_cst_8_apply, val_main_cst_9_apply]
  show Ideal.div (Ideal.ofBits .f32 0x00000000#32 + _) _ + _ = Ideal.div _ _ + _
  rw [Ideal.ofBits_zero_f32, zero_add]
  refine congrArg (Ideal.div · _ + _) (Finset.sum_congr rfl fun k _ => ?_)
  rw [val_main_v20_apply, centred_at]; rfl

/-- The reference's reciprocal standard deviation. -/
theorem rstd_at (i : S8192x1.Idx) : val_main_v31 (F := Ideal) x1 x2 x3 i = rstd Nw Ew (row (R x1 x2 x3) (i 0)) := by
  rw [val_main_v31_apply, spread_at]; rfl

/-- The reference's normalised row. -/
theorem hat_at (i : S8192x1024.Idx) : val_main_v36 (F := Ideal) x1 x2 x3 i = hat Nw Ew (row (R x1 x2 x3) (i 0)) (i 1) := by
  rw [val_main_v36_apply, val_main_v35_apply, centred_at', rstd_at]; rfl

/-- The incoming gradient, reshaped to the shape it has, is itself. -/
theorem dy_at (i : S8192x1024.Idx) : val_main_v43 (F := Ideal) x0 i = row x0 (i 0) (i 1) := by
  unfold val_main_v43
  rw [shapeCast_self]
  exact at_row x0 i

/-- The gain, copied to every row. -/
theorem gain_at (i : S8192x1024.Idx) : val_main_v50 (F := Ideal) x4 i = x4 (ix2 0 (i 1)) := by
  rw [val_main_v50_apply, val_main_v37_apply, val_main_v3_apply]
  refine congrArg x4 (funext fun a => Fin.ext ?_)
  match a with
  | ⟨0, _⟩ => rfl
  | ⟨1, _⟩ => exact Nat.mod_eq_of_lt (i 1).isLt

/-- The incoming gradient times the gain. -/
theorem dyg_at (i : S8192x1024.Idx) : val_main_v51 (F := Ideal) x0 x4 i = dyg x0 x4 (i 0) (i 1) := by
  rw [val_main_v51_apply, dy_at, gain_at]; rfl

/-- The part of the gradient that comes through the variance. -/
theorem via_at (i : S8192x1024.Idx) : val_main_v66 (F := Ideal) x0 x1 x2 x3 x4 i
    = viaVar Nw Ew (Ideal.ofBits .f32 0xBF000000#32) (Ideal.ofBits .f32 0x40000000#32) (row (R x1 x2 x3) (i 0)) (dyg x0 x4 (i 0)) (i 1) := by
  rw [val_main_v66_apply, val_main_v65_apply, val_main_v64_apply, Fin.sum_univ_one, val_main_v63_apply, val_main_v62_apply, val_main_v58_apply,
    val_main_v55_apply, val_main_v54_apply, val_main_v34_apply, val_main_v32_apply, spread_at, rstd_at, val_main_v33_apply, val_main_v22_apply,
    val_main_v21_apply, centred_at, val_main_cst_18_apply, val_main_cst_17_apply, val_main_cst_15_apply, val_main_cst_10_apply, val_main_cst_6_apply]
  show (Ideal.ofBits .f32 0x00000000#32 + Ideal.div ((Ideal.ofBits .f32 0x00000000#32 + _) * (_ * Ideal.div _ _)) _) * (_ * _) = Ideal.div (_ * (_ * Ideal.div _ _)) _ * (_ * _)
  rw [Ideal.ofBits_zero_f32, zero_add, zero_add]
  refine congrArg (fun s => Ideal.div (s * _) _ * _) (Finset.sum_congr rfl fun k _ => ?_)
  rw [val_main_v53_apply, centred_at', dyg_at]
  have hp : (idx_main_v55 (idx_main_v64 (idx_main_v65 i) 0) 0 : Fin 8192) = i 0 := Fin.ext (Nat.mul_one _)
  show centred Nw (row (R x1 x2 x3) (idx_main_v55 (idx_main_v64 (idx_main_v65 i) 0) 0)) k
    * dyg x0 x4 (idx_main_v55 (idx_main_v64 (idx_main_v65 i) 0) 0) k = _
  rw [hp]

/-- The gradient at the normalised layer's input is the chain rule's expression. -/
theorem dr_at (i : S8192x1024.Idx) : val_main_v76 (F := Ideal) x0 x1 x2 x3 x4 i
    = chain Nw Ew (Ideal.ofBits .f32 0xBF000000#32) (Ideal.ofBits .f32 0x40000000#32) (row (R x1 x2 x3) (i 0)) (dyg x0 x4 (i 0)) (i 1) := by
  rw [val_main_v76_apply, val_main_v70_apply, val_main_v57_apply, val_main_v56_apply, rstd_at, dyg_at, via_at, val_main_v75_apply, val_main_v74_apply,
    Fin.sum_univ_one, val_main_v73_apply, val_main_v72_apply, val_main_v71_apply, val_main_v61_apply, val_main_v60_apply, val_main_v69_apply,
    val_main_v68_apply, val_main_cst_21_apply, val_main_cst_20_apply, val_main_cst_19_apply, val_main_cst_16_apply]
  show _ * _ + _ + (Ideal.ofBits .f32 0x00000000#32 + Ideal.div ((Ideal.ofBits .f32 0x00000000#32 + _) + (Ideal.ofBits .f32 0x00000000#32 + _)) _)
    = _ * _ + _ + Ideal.div (_ + _) _
  rw [Ideal.ofBits_zero_f32, zero_add, zero_add, zero_add]
  refine congrArg₂ (fun s s' => _ + Ideal.div (s + s') _) (Finset.sum_congr rfl fun k _ => ?_) (Finset.sum_congr rfl fun k _ => ?_)
  · rw [val_main_v59_apply, val_main_v57_apply, val_main_v56_apply, rstd_at, dyg_at]
    have hp : (idx_main_v61 (idx_main_v74 (idx_main_v75 i) 0) 0 : Fin 8192) = i 0 := Fin.ext (Nat.mul_one _)
    show -(dyg x0 x4 (idx_main_v61 (idx_main_v74 (idx_main_v75 i) 0) 0) k
      * rstd Nw Ew (row (R x1 x2 x3) (idx_main_v61 (idx_main_v74 (idx_main_v75 i) 0) 0))) = _
    rw [hp]
  · rw [val_main_v67_apply, via_at]
    have hp : (idx_main_v69 (idx_main_v74 (idx_main_v75 i) 0) 0 : Fin 8192) = i 0 := Fin.ext (Nat.mul_one _)
    show -(viaVar Nw Ew _ _ (row (R x1 x2 x3) (idx_main_v69 (idx_main_v74 (idx_main_v75 i) 0) 0))
      (dyg x0 x4 (idx_main_v69 (idx_main_v74 (idx_main_v75 i) 0) 0)) k) = _
    rw [hp]

/-- With a real incoming gradient the reference's input gradient is the closed form of it. -/
theorem dr_closed (i : S8192x1024.Idx) (hd : ∃ d : Fin 1024 → ℝ, dyg x0 x4 (i 0) = fun k => (d k : EReal)) :
    val_main_v76 (F := Ideal) x0 x1 x2 x3 x4 i = closed Nw Ew (row (R x1 x2 x3) (i 0)) (dyg x0 x4 (i 0)) (i 1) := by
  obtain ⟨d, hd⟩ := hd
  obtain ⟨e, he, hE⟩ := Ew_pos
  rw [dr_at, hd, half_eq, two_eq, hE, Nw_eq]
  exact (closed_eq_chain 1024 (by norm_num) (by norm_num) e he _ d _).symm

/-- The gradient of the gain. -/
theorem dgain_at (i : S1x1024.Idx) : val_main_v85 (F := Ideal) x0 x1 x2 x3 i
    = ∑ p : Fin 8192, hat Nw Ew (row (R x1 x2 x3) p) (i 1) * x0 (ix2 p (i 1)) := by
  rw [val_main_v85_apply, val_main_v52_apply, Fin.sum_univ_one, val_main_v49_apply, val_main_v48_apply, val_main_cst_14_apply, val_main_cst_13_apply]
  show Ideal.ofBits .f32 0x00000000#32 + (Ideal.ofBits .f32 0x00000000#32 + _) = _
  rw [Ideal.ofBits_zero_f32, zero_add, zero_add]
  refine Finset.sum_congr rfl fun p _ => ?_
  rw [val_main_v47_apply, hat_at, dy_at]
  have hq : (idx_main_v49 (idx_main_v52 (idx_main_v85 i) 0) 0 : Fin 1024) = i 1 := Fin.ext (by show 0 * 1024 + (i 1).val = (i 1).val; omega)
  show hat Nw Ew (row (R x1 x2 x3) p) (idx_main_v49 (idx_main_v52 (idx_main_v85 i) 0) 0)
    * x0 (ix2 p (idx_main_v49 (idx_main_v52 (idx_main_v85 i) 0) 0)) = _
  rw [hq]

/-- The gradient of the shift. -/
theorem dshift_at (i : S1x1024.Idx) : val_main_v86 (F := Ideal) x0 i = ∑ p : Fin 8192, x0 (ix2 p (i 1)) := by
  rw [val_main_v86_apply, val_main_v46_apply, Fin.sum_univ_one, val_main_v45_apply, val_main_v44_apply, val_main_cst_12_apply, val_main_cst_11_apply]
  show Ideal.ofBits .f32 0x00000000#32 + (Ideal.ofBits .f32 0x00000000#32 + _) = _
  rw [Ideal.ofBits_zero_f32, zero_add, zero_add]
  have hq : (idx_main_v45 (idx_main_v46 (idx_main_v86 i) 0) 0 : Fin 1024) = i 1 := Fin.ext (by show 0 * 1024 + (i 1).val = (i 1).val; omega)
  refine Finset.sum_congr rfl fun p _ => (at_row x0 _).trans ?_
  show x0 (ix2 p (idx_main_v45 (idx_main_v46 (idx_main_v86 i) 0) 0)) = _
  rw [hq]

/-- The hidden layer before its activation. -/
abbrev Z : FVec Ideal S8192x4096 .f32 := val_main_v2 (F := Ideal) x1 x2

/-- Twice the activated number times a factor is zero where the number is not positive. -/
theorem gate (s z : EReal) : (if 0 < z then s * (Ideal.ofBits .f32 0x40000000#32 * max z 0) else 0) = s * (Ideal.ofBits .f32 0x40000000#32 * max z 0) := by
  by_cases h : 0 < z
  · rw [if_pos h]
  · rw [if_neg h, max_eq_right (not_lt.mp h), mul_zero, mul_zero]

/-- The gradient at the hidden layer. -/
theorem dz_at (i : S8192x4096.Idx) : val_main_v80 (F := Ideal) x0 x1 x2 x3 x4 i
    = (∑ k : Fin 1024, val_main_v76 (F := Ideal) x0 x1 x2 x3 x4 (ix2 (i 0) k) * x3 (ix2 (i 1) k))
      * (Ideal.ofBits .f32 0x40000000#32 * max (Z x1 x2 i) 0) := by
  rw [val_main_v80_apply, val_main_v7_apply, val_main_v6_apply, val_main_cst_1_apply, val_main_v78_apply, val_main_v77_apply, val_main_v11_apply,
    val_main_v10_apply, val_main_cst_3_apply, val_main_v5_apply, val_main_call0_v0_apply, val_main_call0_cst_apply, val_main_v79_apply, val_main_cst_22_apply]
  have hs : (∑ k : Fin 1024, val_main_v76 (F := Ideal) x0 x1 x2 x3 x4 (lidx_main_v77 i k) * x3 (ridx_main_v77 i k))
      = ∑ k : Fin 1024, val_main_v76 (F := Ideal) x0 x1 x2 x3 x4 (ix2 (i 0) k) * x3 (ix2 (i 1) k) :=
    Finset.sum_congr rfl fun k _ => congrArg₂ (· * ·) (at_row _ _) (congrArg x3 (funext fun a => Fin.ext (by match a with | ⟨0, _⟩ => rfl | ⟨1, _⟩ => rfl)))
  rw [hs]
  generalize (∑ k : Fin 1024, val_main_v76 (F := Ideal) x0 x1 x2 x3 x4 (ix2 (i 0) k) * x3 (ix2 (i 1) k)) = s
  show (if BitVec.ofBool (decide (Ideal.ofBits .f32 0x00000000#32 < Z x1 x2 i)) = 1#1
    then s * (Ideal.ofBits .f32 0x40000000#32 * max (Z x1 x2 i) (Ideal.ofBits .f32 0x00000000#32)) else Ideal.ofBits .f32 0x00000000#32) = _
  rw [Ideal.ofBits_zero_f32, ← gate s (Z x1 x2 i)]
  by_cases h : (0 : EReal) < Z x1 x2 i
  · rw [decide_eq_true h, if_pos h]; rfl
  · rw [decide_eq_false h, if_neg h]; rfl

/-- The gradient at the block's input. -/
theorem dx_at (i : S8192x1024.Idx) : val_main_v84 (F := Ideal) x0 x1 x2 x3 x4 i
    = (∑ l : Fin 4096, val_main_v80 (F := Ideal) x0 x1 x2 x3 x4 (ix2 (i 0) l) * x2 (ix2 (i 1) l))
      + Ideal.ofBits .f32 0x3FD744FD#32 * val_main_v76 (F := Ideal) x0 x1 x2 x3 x4 i := by
  rw [val_main_v84_apply, val_main_v81_apply, val_main_v83_apply, val_main_v82_apply, val_main_cst_23_apply]
  refine congrArg (· + _) (Finset.sum_congr rfl fun l _ => congrArg₂ (· * ·)
    (congrArg (val_main_v80 (F := Ideal) x0 x1 x2 x3 x4) (funext fun a => Fin.ext ?_)) (congrArg x2 (funext fun a => Fin.ext ?_)))
  all_goals match a with
    | ⟨0, _⟩ => rfl
    | ⟨1, _⟩ => rfl

/-- The row groups of the last result. -/
theorem sums_at (i : S8x1024.Idx) : val_main_v88 (F := Ideal) x0 x1 x2 x3 i
    = if (i 0).val = 0 then ∑ p : Fin 8192, x0 (ix2 p (i 1)) * hat Nw Ew (row (R x1 x2 x3) p) (i 1)
      else if (i 0).val = 1 then ∑ p : Fin 8192, x0 (ix2 p (i 1)) else 0 := by
  have h8 : (i 0).val < 8 := (i 0).isLt
  pointwise [val_main_v88]
  by_cases h0 : (i 0).val = 0
  · rw [dif_pos (by omega), if_pos h0, dgain_at]
    exact Finset.sum_congr rfl fun p _ => mul_comm _ _
  rw [dif_neg (by omega), if_neg h0]
  by_cases h1 : (i 0).val = 1
  · rw [dif_pos (by omega), if_pos h1, dshift_at]; rfl
  rw [dif_neg (by omega), if_neg h1, val_main_v87_apply, val_main_cst_24_apply]
  exact Ideal.ofBits_zero_f32

end Cert.FfnDxRef

end
-- ==== Proof.FfnDxRun.lean ====
/-
  The gradient through the feed-forward block (`ffn_bwd_dx`): one run of the kernel's body on any buffers, with what every buffer holds after it.
-/
module

public import proofs.«01_k».proof.Proof.Gen.FfnDxIdeal.Frame
public import proofs.«01_k».proof.Proof.Gen.FfnDxIdeal.Skeleton
public import Idealize.ShloMosaic.Lib.Pipeline.ReadBack
public import Idealize.ShloMosaic.Lib.Pipeline.TableIdle
public import Idealize.ShloMosaic.Lib.WritesUnit
public import Idealize.ShloMosaic.Lib.ValueIdxCore
public import Idealize.ShloMosaic.Lib.Pipeline.ValueKit

@[expose] public section

set_option maxRecDepth 16384

noncomputable section

namespace Cert.FfnDxRun

open Cert.FfnDxIdeal Cert.FfnDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of the whole buffer, read back. -/
theorem read_whole {κ : Kind} {sp : Space} {S : Shape} {e : EltTy} (v : View sig κ sp S e) (f : v.ty.Contents (Elt F)) {off : Fin S.rank → ℕ}
    (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w :=
  funext fun y => View.read_writes_cons_unit_of_mem v f inb w L y y rfl fun a => by rw [h a, Nat.zero_add]

/-- Two rows stored over earlier contents, read back. -/
theorem read_rows {κ : Kind} {sp : Space} (v : View sig κ sp S8x1024 .f32) (f : v.ty.Contents (Elt F)) (w0 w1 : Vec F S1x1024 .f32) (i0 i1) (L : List (View.Piece (Elt F) S8x1024 .f32)) :
    v.read (Elt F) (v.writes (Elt F) f ((⟨Rect.unit (s := S8x1024) ![1, 0] (no_index S1x1024.size) i1, w1⟩ : View.Piece (Elt F) S8x1024 .f32)
      :: ⟨Rect.unit (s := S8x1024) ![0, 0] (no_index S1x1024.size) i0, w0⟩ :: L))
      = fun j => if (j 0).val = 0 then w0 (ix2 0 (j 1)) else if (j 0).val = 1 then w1 (ix2 0 (j 1)) else v.read (Elt F) (v.writes (Elt F) f L) j := by
  funext j
  by_cases h1 : (j 0).val = 1
  · rw [if_neg (by omega), if_pos h1]
    exact View.read_writes_cons_rows_of_mem v f i1 w1 _ j (ix2 0 (j 1)) rfl h1 rfl
  refine (View.read_writes_cons_rows_of_not_mem v f i1 w1 _ j rfl (W := 1) rfl (by omega)).trans ?_
  by_cases h0 : (j 0).val = 0
  · rw [if_pos h0]
    exact View.read_writes_cons_rows_of_mem v f i0 w0 _ j (ix2 0 (j 1)) rfl (by rw [h0]; rfl) rfl
  rw [if_neg h0, if_neg h1]
  exact View.read_writes_cons_rows_of_not_mem v f i0 w0 _ j rfl (W := 1) rfl (by omega)

/-- The sums' array with its first two rows replaced by what the body stores into them. -/
def rows (s : Vec F S8x1024 .f32) (dy r : Vec F S512x1024 .f32) : Vec F S8x1024 .f32 := fun j =>
  if (j 0).val = 0 then k0_pay10 dy (k0_pay4 r) (View.ld s (Rect.unit (s := S8x1024) ![0, 0] S1x1024.size inb_S8x1024_S1x1024_0_0)) (ix2 0 (j 1))
  else if (j 0).val = 1 then k0_pay11 dy (View.ld s (Rect.unit (s := S8x1024) ![1, 0] S1x1024.size inb_S8x1024_S1x1024_1_0)) (ix2 0 (j 1))
  else s j

/-- The narrowed input gradient the point works with. -/
def drbN (i : grid0.Coords) (dy r : Vec F S512x1024 .f32) (g : Vec F S1x1024 .f32) (b : Vec F S512x1024 .bf16) : Vec F S512x1024 .bf16 :=
  if k0_cond2 i = 1#1 then k0_pay7 dy r g else b
/-- The input gradient the point works with. -/
def drsN (i : grid0.Coords) (dy r : Vec F S512x1024 .f32) (g : Vec F S1x1024 .f32) (b : Vec F S512x1024 .f32) : Vec F S512x1024 .f32 :=
  if k0_cond2 i = 1#1 then k0_pay6 dy r g else b
/-- The accumulator after the point. -/
def accN (i : grid0.Coords) (d z : Vec F S512x1024 .bf16) (w1 : Vec F S1x1024x1024 .bf16) (w2 : Vec F S1024x1024 .bf16) (a : Vec F S512x1024 .f32) : Vec F S512x1024 .f32 :=
  k0_pay13 d w2 z (if k0_cond2 i = 1#1 then k0_pay9 else a) w1
/-- The sums' array after the point. -/
def sumN (i : grid0.Coords) (dy r : Vec F S512x1024 .f32) (s : Vec F S8x1024 .f32) : Vec F S8x1024 .f32 :=
  if k0_cond2 i = 1#1 then rows (if k0_cond1 i = 1#1 then k0_pay8 else s) dy r else s

set_option maxHeartbeats 4000000 in
/-- The body at one grid point, in whichever of its cases: what each output block and each kept buffer holds after it. -/
theorem run (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x1024x1024 .bf16) (harg6 : arg6.IsWhole) (arg7 : Memref sig .tc .vmem S1024x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S8x1024 .f32) (harg11 : arg11.IsWhole) (arg12 : Memref sig .tc .vmem S512x1024 .f32) (harg12 : arg12.IsWhole) (arg13 : Memref sig .tc .vmem S512x1024 .f32) (harg13 : arg13.IsWhole)
    (h12 : k0_cond1 i = 1#1 → k0_cond2 i = 1#1) (h23 : k0_cond2 i = 1#1 → ¬ k0_cond3 i = 1#1)
    (x0 x1 : Vec F S512x1024 .f32) (x2 : Vec F S1x1024 .f32) (x3 : Vec F S512x1024 .bf16) (x4 : Vec F S1x1024x1024 .bf16) (x5 : Vec F S1024x1024 .bf16)
    (x6 : Vec F S512x1024 .bf16) (x7 : Vec F S512x1024 .f32) (x8 : Vec F S512x1024 .bf16) (x9 : Vec F S8x1024 .f32) (xs0 xs1 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs0 ∗ owns (c : Thread nD τ) arg13 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay12 (drbN i x0 x1 x2 x8) x5 x3)
            ∗ owns (c : Thread nD τ) arg9 fullShare (if k0_cond3 i = 1#1 then k0_pay1 (drsN i x0 x1 x2 xs0) (accN i (drbN i x0 x1 x2 x8) x3 x4 x5 xs1) else x7)
            ∗ owns (c : Thread nD τ) arg10 fullShare (drbN i x0 x1 x2 x8)
            ∗ owns (c : Thread nD τ) arg11 fullShare (sumN i x0 x1 x9)
            ∗ owns (c : Thread nD τ) arg12 fullShare (drsN i x0 x1 x2 xs0)
            ∗ owns (c : Thread nD τ) arg13 fullShare (accN i (drbN i x0 x1 x2 x8) x3 x4 x5 xs1)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13) K := by
  by_cases h1 : k0_cond1 i = 1#1 <;> by_cases h2 : k0_cond2 i = 1#1 <;> by_cases h3 : k0_cond3 i = 1#1
  all_goals try first | exact absurd h3 (h23 h2) | exact absurd (h12 h1) h2
  all_goals
    unfold drbN drsN accN sumN
    simp only [h1, h2, h3, reduceIte]
    simp only [cc0_ffn_bwd_dx_eq_skeleton]; unfold cc0_ffn_bwd_dx_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | sl_exact h1 | sl_exact h2 | sl_exact h3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    clear hf0 hf1 hf2 hf3 hf4 hf5
    isplitl [H6]
    · iexists _; isplitr
      swap; · iexact H6
      ipureintro
      sl_unfold_run_names
      simp (disch := decide) only [read_whole, View.ld_unit_lit', View.readCov_unit_lit', View.readCov_cons_unit_lit', View.readAt_eq_ld, Memref.IsWhole.read_unread]
      done
    isplitl [H7]
    · iexists _; isplitr
      swap; · iexact H7
      ipureintro
      sl_unfold_run_names
      simp (disch := decide) only [read_whole, View.ld_unit_lit', View.readCov_unit_lit', View.readCov_cons_unit_lit', View.readAt_eq_ld, Memref.IsWhole.read_unread]
      done
    isplitl [H8]
    · iexists _; isplitr
      swap; · iexact H8
      ipureintro
      sl_unfold_run_names
      simp (disch := decide) only [read_whole, View.ld_unit_lit', View.readCov_unit_lit', View.readCov_cons_unit_lit', View.readAt_eq_ld, Memref.IsWhole.read_unread]
      done
    isplitl [H9]
    · iexists _; isplitr
      swap; · iexact H9
      ipureintro
      sl_unfold_run_names
      simp (disch := decide) only [read_rows, read_whole, View.ld_unit_lit', View.readCov_skip, View.readCov_fill, View.readAt_eq_ld, View.writes_nil, Memref.IsWhole.read_unread]
      try rfl
      done
    isplitl [HS0]
    · iexists _; isplitr
      swap; · iexact HS0
      ipureintro
      sl_unfold_run_names
      simp (disch := decide) only [read_whole, View.ld_unit_lit', View.readCov_unit_lit', View.readCov_cons_unit_lit', View.readAt_eq_ld, Memref.IsWhole.read_unread]
      done
    iexists _; isplitr
    swap; · iexact HS1
    ipureintro
    sl_unfold_run_names
    simp (disch := decide) only [read_whole, View.ld_unit_lit', View.readCov_unit_lit', View.readCov_cons_unit_lit', View.readAt_eq_ld, Memref.IsWhole.read_unread]
    done

end Cert.FfnDxRun

end
-- ==== Proof.FfnDxFrame.lean ====
/-
  The gradient through the feed-forward block (`ffn_bwd_dx`): what the buffers hold after every grid point, the body's obligation at every
  point, the run of the program and its frame — over any values.
-/
module

public import proofs.«01_k».proof.Proof.FfnDxRun

@[expose] public section

set_option maxRecDepth 16384

noncomputable section

namespace Cert.FfnDxRun

open Cert.FfnDxIdeal Cert.FfnDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 64 points. -/
theorem lt64 (t : Fin cfg0.N) : t.val < 64 := lt_of_lt_of_eq t.isLt (show cfg0.N = 64 from N_0)

/-- The first condition holds at the first point only. -/
theorem cond1 (t : Fin cfg0.N) : k0_cond1 (grid0.coords t) = 1#1 ↔ t.val = 0 :=
  (show ∀ t : Fin grid0.N, k0_cond1 (grid0.coords t) = 1#1 ↔ t.val = 0 by decide +kernel) t
/-- The second condition holds at the first point of a row block. -/
theorem cond2 (t : Fin cfg0.N) : k0_cond2 (grid0.coords t) = 1#1 ↔ t.val % 4 = 0 :=
  (show ∀ t : Fin grid0.N, k0_cond2 (grid0.coords t) = 1#1 ↔ t.val % 4 = 0 by decide +kernel) t
/-- The third condition holds at the last point of a row block. -/
theorem cond3 (t : Fin cfg0.N) : k0_cond3 (grid0.coords t) = 1#1 ↔ t.val % 4 = 3 :=
  (show ∀ t : Fin grid0.N, k0_cond3 (grid0.coords t) = 1#1 ↔ t.val % 4 = 3 by decide +kernel) t
/-- The input gradient's block is left alone except at the last point of a row block. -/
theorem idle7 (t : Fin cfg0.N) : cfg0.idle 7 (grid0.coords t) = !decide (t.val % 4 = 3) :=
  (show ∀ t : Fin grid0.N, idle0 7 (grid0.coords t) = !decide (t.val % 4 = 3) by decide +kernel) t
/-- The narrowed gradient's block is stored at the first point of a row block only. -/
theorem idle8 (t : Fin cfg0.N) : cfg0.idle 8 (grid0.coords t) = !decide (t.val % 4 = 0) :=
  (show ∀ t : Fin grid0.N, idle0 8 (grid0.coords t) = !decide (t.val % 4 = 0) by decide +kernel) t
/-- The sums' block is stored at the first point of a row block only. -/
theorem idle9 (t : Fin cfg0.N) : cfg0.idle 9 (grid0.coords t) = !decide (t.val % 4 = 0) :=
  (show ∀ t : Fin grid0.N, idle0 9 (grid0.coords t) = !decide (t.val % 4 = 0) by decide +kernel) t
/-- Where the narrowed gradient's buffer is fresh. -/
theorem fresh8 (n : ℕ) (h : n ≤ cfg0.N) : cfg0.fresh 8 n = decide (n % 4 = 0) :=
  cfg0.fresh_tab 8 (fun n => decide (n % 4 = 0)) rfl (fun t => by
    have hf := flush0_8 t
    rw [idle8 t, Bool.eq_iff_iff]
    simp only [decide_eq_true_eq, Bool.or_eq_true, Bool.and_eq_true, Bool.not_eq_true', decide_eq_false_iff_not, hf]
    omega) n h
/-- Where the sums' buffer is fresh. -/
theorem fresh9 (n : ℕ) (h : n ≤ cfg0.N) : cfg0.fresh 9 n = decide (n % 64 = 0) :=
  cfg0.fresh_tab 9 (fun n => decide (n % 64 = 0)) rfl (fun t => by
    have hf := flush0_9 t
    rw [idle9 t, Bool.eq_iff_iff]
    simp only [decide_eq_true_eq, Bool.or_eq_true, Bool.and_eq_true, Bool.not_eq_true', decide_eq_false_iff_not, hf]
    omega) n h

/-! ## What the buffers hold after a point -/

/-- The first point of `t`'s row block. -/
def head (t : Fin cfg0.N) : Fin cfg0.N := ⟨4 * (t.val / 4), by have := t.isLt; omega⟩
/-- The point before. -/
abbrev prev (t : Fin cfg0.N) : Fin cfg0.N := ⟨t.val - 1, Nat.lt_of_le_of_lt (Nat.sub_le _ _) t.isLt⟩
/-- The first point of a row block is its own head. -/
theorem head_self (t : Fin cfg0.N) (h : t.val % 4 = 0) : head t = t := Fin.ext (show 4 * (t.val / 4) = t.val by omega)
/-- Any other point has the head of the point before. -/
theorem head_prev (t : Fin cfg0.N) (h : t.val % 4 ≠ 0) : head t = head (prev t) :=
  Fin.ext (show 4 * (t.val / 4) = 4 * ((t.val - 1) / 4) by omega)

/-- The narrowed input gradient of `t`'s row block. -/
def drbAt (c : Dev nD) (t : Fin cfg0.N) : Vec F S512x1024 .bf16 := k0_pay7 (iblk m c 0 (head t)) (iblk m c 1 (head t)) (iblk m c 2 (head t))
/-- The input gradient of `t`'s row block. -/
def drsAt (c : Dev nD) (t : Fin cfg0.N) : Vec F S512x1024 .f32 := k0_pay6 (iblk m c 0 (head t)) (iblk m c 1 (head t)) (iblk m c 2 (head t))
/-- The accumulator after point `n`. -/
def accAt (c : Dev nD) : (n : ℕ) → n < cfg0.N → Vec F S512x1024 .f32
  | 0, h => k0_pay13 (drbAt m c ⟨0, h⟩) (iblk m c 5 ⟨0, h⟩) (iblk m c 3 ⟨0, h⟩) k0_pay9 (iblk m c 4 ⟨0, h⟩)
  | n + 1, h => k0_pay13 (drbAt m c ⟨n + 1, h⟩) (iblk m c 5 ⟨n + 1, h⟩) (iblk m c 3 ⟨n + 1, h⟩)
      (if (n + 1) % 4 = 0 then k0_pay9 else accAt c n (Nat.lt_of_succ_lt h)) (iblk m c 4 ⟨n + 1, h⟩)
/-- The sums' array after point `n`. -/
def sumAt (c : Dev nD) : (n : ℕ) → n < cfg0.N → Vec F S8x1024 .f32
  | 0, h => rows k0_pay8 (iblk m c 0 ⟨0, h⟩) (iblk m c 1 ⟨0, h⟩)
  | n + 1, h => if (n + 1) % 4 = 0 then rows (sumAt c n (Nat.lt_of_succ_lt h)) (iblk m c 0 ⟨n + 1, h⟩) (iblk m c 1 ⟨n + 1, h⟩)
      else sumAt c n (Nat.lt_of_succ_lt h)

/-- The narrowed gradient after a point: stored at the block's first point, kept at the others. -/
theorem drbN_eq (c : Dev nD) (t : Fin cfg0.N) (x : Vec F S512x1024 .bf16) (hx : t.val % 4 ≠ 0 → x = drbAt m c (prev t)) :
    drbN (grid0.coords t) (iblk m c 0 t) (iblk m c 1 t) (iblk m c 2 t) x = drbAt m c t := by
  unfold drbN
  by_cases h : t.val % 4 = 0
  · rw [if_pos ((cond2 t).mpr h)]; unfold drbAt; rw [head_self t h]
  · rw [if_neg (fun k => h ((cond2 t).mp k)), hx h]; unfold drbAt; rw [head_prev t h]
/-- The gradient after a point: stored at the block's first point, kept at the others. -/
theorem drsN_eq (c : Dev nD) (t : Fin cfg0.N) (x : Vec F S512x1024 .f32) (hx : t.val % 4 ≠ 0 → x = drsAt m c (prev t)) :
    drsN (grid0.coords t) (iblk m c 0 t) (iblk m c 1 t) (iblk m c 2 t) x = drsAt m c t := by
  unfold drsN
  by_cases h : t.val % 4 = 0
  · rw [if_pos ((cond2 t).mpr h)]; unfold drsAt; rw [head_self t h]
  · rw [if_neg (fun k => h ((cond2 t).mp k)), hx h]; unfold drsAt; rw [head_prev t h]
/-- The accumulator after a point: from zeros at the block's first point, from what the point before left at the others. -/
theorem accN_eq (c : Dev nD) (t : Fin cfg0.N) (x : Vec F S512x1024 .f32) (hx : t.val % 4 ≠ 0 → x = accAt m c (prev t).val (prev t).isLt) :
    accN (grid0.coords t) (drbAt m c t) (iblk m c 3 t) (iblk m c 4 t) (iblk m c 5 t) x = accAt m c t.val t.isLt := by
  unfold accN
  obtain ⟨n, hn⟩ := t
  cases n with
  | zero => rw [if_pos ((cond2 _).mpr rfl)]; rfl
  | succ n =>
    by_cases h : (n + 1) % 4 = 0
    · rw [if_pos ((cond2 _).mpr h), accAt, if_pos h]
    · rw [if_neg (fun k => h ((cond2 _).mp k)), accAt, if_neg h, hx h]; rfl
/-- The sums after a point: from zeros at the first point, from what the point before left at the others. -/
theorem sumN_eq (c : Dev nD) (t : Fin cfg0.N) (x : Vec F S8x1024 .f32) (hx : t.val ≠ 0 → x = sumAt m c (prev t).val (prev t).isLt) :
    sumN (grid0.coords t) (iblk m c 0 t) (iblk m c 1 t) x = sumAt m c t.val t.isLt := by
  unfold sumN
  obtain ⟨n, hn⟩ := t
  cases n with
  | zero => rw [if_pos ((cond2 _).mpr rfl), if_pos ((cond1 _).mpr rfl)]; rfl
  | succ n =>
    rw [if_neg (fun k => Nat.succ_ne_zero n ((cond1 _).mp k)), hx (Nat.succ_ne_zero n)]
    by_cases h : (n + 1) % 4 = 0
    · rw [if_pos ((cond2 _).mpr h), sumAt, if_pos h]; rfl
    · rw [if_neg (fun k => h ((cond2 _).mp k)), sumAt, if_neg h]; rfl
/-- The sums are kept at every point that is no block's first. -/
theorem sumAt_kept (c : Dev nD) (t : Fin cfg0.N) (h : t.val % 4 ≠ 0) : sumAt m c t.val t.isLt = sumAt m c (prev t).val (prev t).isLt := by
  obtain ⟨n, hn⟩ := t
  cases n with
  | zero => exact absurd rfl h
  | succ n => rw [sumAt, if_neg h]; rfl

/-! ## The proof data -/

/-- The scratch that holds the input gradient between points. -/
abbrev sc0 : Memref sig .tc .vmem S512x1024 .f32 := Memref.whole cc0_scratch0
/-- The scratch that accumulates over a row block's points. -/
abbrev sc1 : Memref sig .tc .vmem S512x1024 .f32 := Memref.whole cc0_scratch1

/-- Between points: the two scratch buffers, after the first point at what the point before left, and the generator register. -/
def Phi (c : Dev nD) (n : ℕ) (h : n ≤ cfg0.N) : sProp 𝕄 :=
  iprop(∃ a b : Vec F S512x1024 .f32, ⌜∀ hz : n ≠ 0, a = drsAt m c ⟨n - 1, by omega⟩ ∧ b = accAt m c (n - 1) (by omega)⌝
    ∗ owns (c : Thread nD τ) sc0 fullShare a ∗ owns (c : Thread nD τ) sc1 fullShare b ∗ (∃ r, prngReg c r))

/-- What the launch hands over, with the two scratch buffers as owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The pipeline's proof data: the arrays as the region finds them, each input's buffer at its block, each output's at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay12 (drbAt m c t) (iblk m c 5 t) (iblk m c 3 t)
    | ⟨7, _⟩ => k0_pay1 (drsAt m c t) (accAt m c t.val t.isLt)
    | ⟨8, _⟩ => drbAt m c t
    | ⟨9, _⟩ => sumAt m c t.val t.isLt
  Φ t := Phi m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves in window 0's buffer. -/
theorem after_0 (c : Dev nD) (t : Fin cfg0.N) : (dats m 0 c).after 0 t = iblk m c 0 t := by dsimp only [dats]
/-- What the body leaves in window 1's buffer. -/
theorem after_1 (c : Dev nD) (t : Fin cfg0.N) : (dats m 0 c).after 1 t = iblk m c 1 t := by dsimp only [dats]
/-- What the body leaves in window 2's buffer. -/
theorem after_2 (c : Dev nD) (t : Fin cfg0.N) : (dats m 0 c).after 2 t = iblk m c 2 t := by dsimp only [dats]
/-- What the body leaves in window 3's buffer. -/
theorem after_3 (c : Dev nD) (t : Fin cfg0.N) : (dats m 0 c).after 3 t = iblk m c 3 t := by dsimp only [dats]
/-- What the body leaves in window 4's buffer. -/
theorem after_4 (c : Dev nD) (t : Fin cfg0.N) : (dats m 0 c).after 4 t = iblk m c 4 t := by dsimp only [dats]
/-- What the body leaves in window 5's buffer. -/
theorem after_5 (c : Dev nD) (t : Fin cfg0.N) : (dats m 0 c).after 5 t = iblk m c 5 t := by dsimp only [dats]
/-- What the body leaves in window 6's buffer. -/
theorem after_6 (c : Dev nD) (t : Fin cfg0.N) : (dats m 0 c).after 6 t = k0_pay12 (drbAt m c t) (iblk m c 5 t) (iblk m c 3 t) := by dsimp only [dats]
/-- What the body leaves in window 7's buffer. -/
theorem after_7 (c : Dev nD) (t : Fin cfg0.N) : (dats m 0 c).after 7 t = k0_pay1 (drsAt m c t) (accAt m c t.val t.isLt) := by dsimp only [dats]
/-- What the body leaves in window 8's buffer. -/
theorem after_8 (c : Dev nD) (t : Fin cfg0.N) : (dats m 0 c).after 8 t = drbAt m c t := by dsimp only [dats]
/-- What the body leaves in window 9's buffer. -/
theorem after_9 (c : Dev nD) (t : Fin cfg0.N) : (dats m 0 c).after 9 t = sumAt m c t.val t.isLt := by dsimp only [dats]
/-- Window 0's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block at every point. -/
theorem before_1 (c : Dev nD) (t : Fin cfg0.N) (d) : (dats m 0 c).before 1 t d = iblk m c 1 t :=
  before0_1_of m (dats m 0 c) (A_eq m c 1) (after_1 m c) t d
/-- Window 2's buffer holds its block at every point. -/
theorem before_2 (c : Dev nD) (t : Fin cfg0.N) (d) : (dats m 0 c).before 2 t d = iblk m c 2 t :=
  before0_2_of m (dats m 0 c) (A_eq m c 2) (after_2 m c) t d
/-- Window 3's buffer holds its block at every point. -/
theorem before_3 (c : Dev nD) (t : Fin cfg0.N) (d) : (dats m 0 c).before 3 t d = iblk m c 3 t :=
  before0_3_of m (dats m 0 c) (A_eq m c 3) (after_3 m c) t d
/-- Window 4's buffer holds its block at every point. -/
theorem before_4 (c : Dev nD) (t : Fin cfg0.N) (d) : (dats m 0 c).before 4 t d = iblk m c 4 t :=
  before0_4_of m (dats m 0 c) (A_eq m c 4) (after_4 m c) t d
/-- Window 5's buffer holds its block at every point. -/
theorem before_5 (c : Dev nD) (t : Fin cfg0.N) (d) : (dats m 0 c).before 5 t d = iblk m c 5 t :=
  before0_5_of m (dats m 0 c) (A_eq m c 5) (after_5 m c) t d
/-- Past a block's first point the narrowed gradient's buffer holds what the point before left. -/
theorem before_8 (c : Dev nD) (t : Fin cfg0.N) (d) (h : t.val % 4 ≠ 0) : (dats m 0 c).before 8 t d = drbAt m c (prev t) := by
  refine ((dats m 0 c).before_out_traj 8 rfl (fun _ _ => rfl) (fun u hu hi hf => ?_) t.val t rfl d).trans ?_
  · rw [after_8, after_8]
    have hi' : (!decide (u.val % 4 = 0)) = true := (idle8 u).symm.trans hi
    simp only [Bool.not_eq_true', decide_eq_false_iff_not] at hi'
    unfold drbAt; rw [head_prev u hi']
  · rw [fresh8 t.val (le_of_lt t.isLt), if_neg (by simpa using h), after_8]
/-- Past the first point the sums' buffer holds what the point before left. -/
theorem before_9 (c : Dev nD) (t : Fin cfg0.N) (d) (h : t.val ≠ 0) : (dats m 0 c).before 9 t d = sumAt m c (prev t).val (prev t).isLt := by
  refine ((dats m 0 c).before_out_traj 9 rfl (fun _ _ => rfl) (fun u hu hi hf => ?_) t.val t rfl d).trans ?_
  · rw [after_9, after_9]
    have hi' : (!decide (u.val % 4 = 0)) = true := (idle9 u).symm.trans hi
    simp only [Bool.not_eq_true', decide_eq_false_iff_not] at hi'
    exact sumAt_kept m c u hi'
  · have := lt64 t
    rw [fresh9 t.val (le_of_lt t.isLt), if_neg (by simp only [decide_eq_true_eq]; omega), after_9]

/-! ## The body's obligation -/

/-- Window 0's staging buffer at point `t`. -/
abbrev ms_0 (t : Fin cfg0.N) : Memref sig .tc .vmem S512x1024 .f32 := win0_0.stage (cfg0.slots t 0)
/-- It is a whole buffer. -/
abbrev hs_0 (t : Fin cfg0.N) : (ms_0 t).IsWhole := hstage0_0 ((cfg0.slots t 0).cast nbuf0_0)
/-- Window 1's staging buffer at point `t`. -/
abbrev ms_1 (t : Fin cfg0.N) : Memref sig .tc .vmem S512x1024 .f32 := win0_1.stage (cfg0.slots t 1)
/-- It is a whole buffer. -/
abbrev hs_1 (t : Fin cfg0.N) : (ms_1 t).IsWhole := hstage0_1 ((cfg0.slots t 1).cast nbuf0_1)
/-- Window 2's staging buffer at point `t`. -/
abbrev ms_2 (t : Fin cfg0.N) : Memref sig .tc .vmem S1x1024 .f32 := win0_2.stage (cfg0.slots t 2)
/-- It is a whole buffer. -/
abbrev hs_2 (t : Fin cfg0.N) : (ms_2 t).IsWhole := hstage0_2 ((cfg0.slots t 2).cast nbuf0_2)
/-- Window 3's staging buffer at point `t`. -/
abbrev ms_3 (t : Fin cfg0.N) : Memref sig .tc .vmem S512x1024 .bf16 := win0_3.stage (cfg0.slots t 3)
/-- It is a whole buffer. -/
abbrev hs_3 (t : Fin cfg0.N) : (ms_3 t).IsWhole := hstage0_3 ((cfg0.slots t 3).cast nbuf0_3)
/-- Window 4's staging buffer at point `t`. -/
abbrev ms_4 (t : Fin cfg0.N) : Memref sig .tc .vmem S1x1024x1024 .bf16 := win0_4.stage (cfg0.slots t 4)
/-- It is a whole buffer. -/
abbrev hs_4 (t : Fin cfg0.N) : (ms_4 t).IsWhole := hstage0_4 ((cfg0.slots t 4).cast nbuf0_4)
/-- Window 5's staging buffer at point `t`. -/
abbrev ms_5 (t : Fin cfg0.N) : Memref sig .tc .vmem S1024x1024 .bf16 := win0_5.stage (cfg0.slots t 5)
/-- It is a whole buffer. -/
abbrev hs_5 (t : Fin cfg0.N) : (ms_5 t).IsWhole := hstage0_5 ((cfg0.slots t 5).cast nbuf0_5)
/-- Window 6's staging buffer at point `t`. -/
abbrev ms_6 (t : Fin cfg0.N) : Memref sig .tc .vmem S512x1024 .bf16 := win0_6.stage (cfg0.slots t 6)
/-- It is a whole buffer. -/
abbrev hs_6 (t : Fin cfg0.N) : (ms_6 t).IsWhole := hstage0_6 ((cfg0.slots t 6).cast nbuf0_6)
/-- Window 7's staging buffer at point `t`. -/
abbrev ms_7 (t : Fin cfg0.N) : Memref sig .tc .vmem S512x1024 .f32 := win0_7.stage (cfg0.slots t 7)
/-- It is a whole buffer. -/
abbrev hs_7 (t : Fin cfg0.N) : (ms_7 t).IsWhole := hstage0_7 ((cfg0.slots t 7).cast nbuf0_7)
/-- Window 8's staging buffer at point `t`. -/
abbrev ms_8 (t : Fin cfg0.N) : Memref sig .tc .vmem S512x1024 .bf16 := win0_8.stage (cfg0.slots t 8)
/-- It is a whole buffer. -/
abbrev hs_8 (t : Fin cfg0.N) : (ms_8 t).IsWhole := hstage0_8 ((cfg0.slots t 8).cast nbuf0_8)
/-- Window 9's staging buffer at point `t`. -/
abbrev ms_9 (t : Fin cfg0.N) : Memref sig .tc .vmem S8x1024 .f32 := win0_9.stage (cfg0.slots t 9)
/-- It is a whole buffer. -/
abbrev hs_9 (t : Fin cfg0.N) : (ms_9 t).IsWhole := hstage0_9 ((cfg0.slots t 9).cast nbuf0_9)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The input gradient's buffer is handed back as the pipeline asks. -/
theorem leaves_7 (c : Dev nD) (t : Fin cfg0.N) (d) :
    owns (c : Thread nD τ) (ms_7 t) fullShare (if k0_cond3 (grid0.coords t) = 1#1 then k0_pay1 (drsAt m c t) (accAt m c t.val t.isLt) else (dats m 0 c).before 7 t d)
      ⊢ (dats m 0 c).leavesExact 7 t := by
  by_cases h : t.val % 4 = 3
  · rw [if_pos ((cond3 t).mpr h), show (dats m 0 c).leavesExact 7 t = owns (c : Thread nD τ) (ms_7 t) fullShare ((dats m 0 c).after 7 t) from by
      unfold Dat.leavesExact; rw [show cfg0.idle 7 (cfg0.grid.coords t) = false from (idle7 t).trans (by simp [h])], after_7]
  · rw [if_neg (fun k => h ((cond3 t).mp k)), Dat.leavesExact_idle (dats m 0 c) 7 t ((idle7 t).trans (by simp [h])) (eq_false_of_ne_true fun k => h ((flush0_7 t).mp k))]
    iintro H; iexists _; iexact H
/-- The narrowed gradient's buffer is handed back as the pipeline asks. -/
theorem leaves_8 (c : Dev nD) (t : Fin cfg0.N) (d : (cfg0.win 8).block.Idx → Elt F (cfg0.win 8).elt) :
    owns (c : Thread nD τ) (ms_8 t) fullShare (drbAt m c t) ⊢ (dats m 0 c).leavesExact 8 t := by
  by_cases h : t.val % 4 = 0
  · rw [show (dats m 0 c).leavesExact 8 t = owns (c : Thread nD τ) (ms_8 t) fullShare ((dats m 0 c).after 8 t) from by
      unfold Dat.leavesExact; rw [show cfg0.idle 8 (cfg0.grid.coords t) = false from (idle8 t).trans (by simp [h])], after_8]
  by_cases h3 : t.val % 4 = 3
  · rw [show (dats m 0 c).leavesExact 8 t = owns (c : Thread nD τ) (ms_8 t) fullShare ((dats m 0 c).after 8 t) from by
      unfold Dat.leavesExact; rw [show cfg0.idle 8 (cfg0.grid.coords t) = true from (idle8 t).trans (by simp [h]), (flush0_8 t).mpr h3], after_8]
  · rw [Dat.leavesExact_idle (dats m 0 c) 8 t ((idle8 t).trans (by simp [h])) (eq_false_of_ne_true fun k => h3 ((flush0_8 t).mp k))]
    iintro H; iexists d
    rw [before_8 m c t d h, show drbAt m c (prev t) = drbAt m c t from by unfold drbAt; rw [head_prev t h]]
    iexact H
/-- The sums' buffer is handed back as the pipeline asks. -/
theorem leaves_9 (c : Dev nD) (t : Fin cfg0.N) (d : (cfg0.win 9).block.Idx → Elt F (cfg0.win 9).elt) :
    owns (c : Thread nD τ) (ms_9 t) fullShare (sumAt m c t.val t.isLt) ⊢ (dats m 0 c).leavesExact 9 t := by
  by_cases h : t.val % 4 = 0
  · rw [show (dats m 0 c).leavesExact 9 t = owns (c : Thread nD τ) (ms_9 t) fullShare ((dats m 0 c).after 9 t) from by
      unfold Dat.leavesExact; rw [show cfg0.idle 9 (cfg0.grid.coords t) = false from (idle9 t).trans (by simp [h])], after_9]
  by_cases h3 : t.val % 64 = 63
  · rw [show (dats m 0 c).leavesExact 9 t = owns (c : Thread nD τ) (ms_9 t) fullShare ((dats m 0 c).after 9 t) from by
      unfold Dat.leavesExact; rw [show cfg0.idle 9 (cfg0.grid.coords t) = true from (idle9 t).trans (by simp [h]), (flush0_9 t).mpr h3], after_9]
  · rw [Dat.leavesExact_idle (dats m 0 c) 9 t ((idle9 t).trans (by simp [h])) (eq_false_of_ne_true fun k => h3 ((flush0_9 t).mp k))]
    iintro H; iexists d
    rw [before_9 m c t d (fun k => h (by rw [k])), ← sumAt_kept m c t h]
    iexact H

set_option maxHeartbeats 4000000 in
/-- The body at any point: the inputs' buffers hold their blocks, so the run applies, and what it leaves is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = Phi m c (t.val + 1) t.isLt from rfl,
    show (dats m 0 c).Φ t.castSucc = Phi m c t.val (le_of_lt t.isLt) from rfl]

  rw [show (dats m 0 c).leavesExact 0 t = owns (c : Thread nD τ) (ms_0 t) fullShare ((dats m 0 c).after 0 t) from by
      unfold Dat.leavesExact; rw [show cfg0.idle 0 (cfg0.grid.coords t) = false from rfl], after_0]
  rw [show (dats m 0 c).leavesExact 1 t = owns (c : Thread nD τ) (ms_1 t) fullShare ((dats m 0 c).after 1 t) from by
      unfold Dat.leavesExact; rw [show cfg0.idle 1 (cfg0.grid.coords t) = false from rfl], after_1]
  rw [show (dats m 0 c).leavesExact 2 t = owns (c : Thread nD τ) (ms_2 t) fullShare ((dats m 0 c).after 2 t) from by
      unfold Dat.leavesExact; rw [show cfg0.idle 2 (cfg0.grid.coords t) = false from rfl], after_2]
  rw [show (dats m 0 c).leavesExact 3 t = owns (c : Thread nD τ) (ms_3 t) fullShare ((dats m 0 c).after 3 t) from by
      unfold Dat.leavesExact; rw [show cfg0.idle 3 (cfg0.grid.coords t) = false from rfl], after_3]
  rw [show (dats m 0 c).leavesExact 4 t = owns (c : Thread nD τ) (ms_4 t) fullShare ((dats m 0 c).after 4 t) from by
      unfold Dat.leavesExact; rw [show cfg0.idle 4 (cfg0.grid.coords t) = false from rfl], after_4]
  rw [show (dats m 0 c).leavesExact 5 t = owns (c : Thread nD τ) (ms_5 t) fullShare ((dats m 0 c).after 5 t) from by
      unfold Dat.leavesExact; rw [show cfg0.idle 5 (cfg0.grid.coords t) = false from rfl], after_5]
  rw [show (dats m 0 c).leavesExact 6 t = owns (c : Thread nD τ) (ms_6 t) fullShare ((dats m 0 c).after 6 t) from by
      unfold Dat.leavesExact; rw [show cfg0.idle 6 (cfg0.grid.coords t) = false from rfl], after_6]
  unfold Phi
  iintro ⟨⟨%a, %b, %hab, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have R := run c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) sc0 (Memref.isWhole_whole _) sc1 (Memref.isWhole_whole _)
    (fun h => (cond2 t).mpr (by rw [(cond1 t).mp h])) (fun h2 h3 => by have := (cond2 t).mp h2; have := (cond3 t).mp h3; omega)
    (iblk m c 0 t) (iblk m c 1 t) (iblk m c 2 t) (iblk m c 3 t) (iblk m c 4 t) (iblk m c 5 t)
    ((dats m 0 c).before 6 t d6) ((dats m 0 c).before 7 t d7) ((dats m 0 c).before 8 t d8) ((dats m 0 c).before 9 t d9) a b Set.univ
  rw [drbN_eq m c t _ (fun h => before_8 m c t d8 h), drsN_eq m c t a (fun h => (hab (fun k => h (by rw [k]))).1),
    accN_eq m c t b (fun h => (hab (fun k => h (by rw [k]))).2), sumN_eq m c t _ (fun h => before_9 m c t d9 h)] at R
  iapply (R _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · iexists (drsAt m c t), (accAt m c t.val t.isLt)
    isplitr; · ipureintro; exact fun _ => ⟨rfl, rfl⟩
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_7 m c t d7); iexact H7
  isplitl [H8]; · iapply (leaves_8 m c t d8); iexact H8
  iapply (leaves_9 m c t d9); iexact H9

/-- The body table's row at point `t`. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Phi m c 0 (Nat.zero_le _) from rfl, PhiA_eq]
  unfold Phi
  iintro ⟨⟨⟨%a, HS0⟩, ⟨%b, HS1⟩⟩, Hg⟩
  iexists a, b
  isplitr; · ipureintro; exact fun hz => absurd rfl hz
  isplitl [HS0]; · iexact HS0
  isplitl [HS1]; · iexact HS1
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = Phi m c cfg0.N le_rfl from rfl, PhiA_eq]
  unfold Phi
  iintro ⟨%a, %b, -, HS0, HS1, Hg⟩
  isplitl [HS0 HS1]
  · isplitl [HS0]
    · iexists a; iexact HS0
    iexists b; iexact HS1
  iexact Hg

/-! ## The run and the frame -/

set_option backward.isDefEq.respectTransparency.types false in
/-- The run of the program: it ends, with every array at what the proof data computes and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program runs to its end, its argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnDxRun

end
-- ==== Proof.FfnDxValue.lean ====
/-
  The gradient through the feed-forward block (`ffn_bwd_dx`): what the kernel's arrays hold after the run is the gradient at the hidden
  layer, at the block's input, at the normalised layer's input, and the two column sums.
-/
module

public import proofs.«01_k».proof.Proof.FfnDxRef
public import proofs.«01_k».proof.Proof.FfnDxFrame
public import proofs.«01_k».proof.Proof.FfnFwdValue
public import proofs.«01_k».proof.Proof.MixLnValue

@[expose] public section

set_option maxRecDepth 16384

noncomputable section

open Idealize.ShloMosaic Idealize.ShloMosaic.TcCoe Idealize.SL.Sem
open Idealize.ShloMosaic.Pipeline (Dat)

namespace Cert.FfnDxValue

open Cert.FfnDxIdeal Cert.FfnDxIdeal.Gen Cert.FfnDxRun Cert.Norm
open Cert.FfnFwdValue (brow at_brow)

variable (m : (ℓ : Loc nD τ sig) → Buf (Elt Ideal) ℓ)

/-- The block indices of the windows at point `t`. -/
theorem idx : ∀ t : Fin cfg0.N, win0_0.index t = ![t.val / 4, 0] ∧ win0_1.index t = ![t.val / 4, 0] ∧ win0_2.index t = ![0, 0]
    ∧ win0_3.index t = ![t.val / 4, t.val % 4] ∧ win0_4.index t = ![t.val % 4, 0, 0] ∧ win0_5.index t = ![t.val % 4, 0]
    ∧ win0_6.index t = ![t.val / 4, t.val % 4] ∧ win0_7.index t = ![t.val / 4, 0] ∧ win0_8.index t = ![t.val / 4, 0]
    ∧ win0_9.index t = ![0, 0] ∧ t.val / 4 < 16 :=
  (by decide +kernel : ∀ t : Fin grid0.N, _)

/-- The centred block. -/
theorem pay_centred (r : Vec Ideal S512x1024 .f32) (j : S512x1024.Idx) : k0_pay2 r j = centred Nw (brow r (j 0)) (j 1) := by
  unfold centred mean
  pointwise [k0_pay2]
  exact congrArg (· - Ideal.div (∑ x : Fin 1024, r (ix2 (j 0) x)) Nw) (at_brow r j)

/-- The reciprocal of a row's deviation. -/
theorem pay_rstd (r : Vec Ideal S512x1024 .f32) (j : S512x1.Idx) : k0_pay3 r j = rstd Nw Ew (brow r (j 0)) := by
  unfold rstd spread mean
  pointwise [k0_pay3]
  simp only [pay_centred]
  rfl

/-- The normalised block. -/
theorem pay_hat (r : Vec Ideal S512x1024 .f32) (j : S512x1024.Idx) : k0_pay4 r j = hat Nw Ew (brow r (j 0)) (j 1) := by
  pointwise [k0_pay4]
  rw [pay_centred, pay_rstd]
  rfl

/-- The block's incoming gradient times the gain. -/
abbrev bdyg (dy : Vec Ideal S512x1024 .f32) (g : Vec Ideal S1x1024 .f32) (p : Fin 512) : Fin 1024 → EReal := fun k => dy (ix2 p k) * g (ix2 0 k)

/-- The block's gradient at the normalised layer's input, in closed form. -/
theorem pay_dr (dy r : Vec Ideal S512x1024 .f32) (g : Vec Ideal S1x1024 .f32) (j : S512x1024.Idx) :
    k0_pay5 dy r g j = closed Nw Ew (brow r (j 0)) (bdyg dy g (j 0)) (j 1) := by
  pointwise [k0_pay5]
  simp only [pay_hat, pay_rstd]
  rw [show dy j = dy (ix2 (j 0) (j 1)) from at_brow dy j]
  rfl

/-- The kept copy of the gradient's block is the block. -/
theorem pay_drs (dy r : Vec Ideal S512x1024 .f32) (g : Vec Ideal S1x1024 .f32) (j : S512x1024.Idx) : k0_pay6 dy r g j = k0_pay5 dy r g j := by
  unfold k0_pay6
  generalize k0_pay5 dy r g = x
  pointwise
/-- The narrowed copy of the gradient's block is the block. -/
theorem pay_drb (dy r : Vec Ideal S512x1024 .f32) (g : Vec Ideal S1x1024 .f32) (j : S512x1024.Idx) : k0_pay7 dy r g j = k0_pay5 dy r g j := by
  unfold k0_pay7
  generalize k0_pay5 dy r g = x
  pointwise
/-- The sums start at zero. -/
theorem pay_zero8 (j : S8x1024.Idx) : k0_pay8 (F := Ideal) j = 0 := by pointwise [k0_pay8]
/-- The accumulator starts at zero. -/
theorem pay_zero9 (j : S512x1024.Idx) : k0_pay9 (F := Ideal) j = 0 := by pointwise [k0_pay9]
/-- The gain's row grows by the block's column sums. -/
theorem pay_row0 (dy h : Vec Ideal S512x1024 .f32) (s : Vec Ideal S1x1024 .f32) (j : S1x1024.Idx) :
    k0_pay10 dy h s j = s j + ∑ p : Fin 512, dy (ix2 p (j 1)) * h (ix2 p (j 1)) := by pointwise [k0_pay10]
/-- The shift's row grows by the block's column sums. -/
theorem pay_row1 (dy : Vec Ideal S512x1024 .f32) (s : Vec Ideal S1x1024 .f32) (j : S1x1024.Idx) :
    k0_pay11 dy s j = s j + ∑ p : Fin 512, dy (ix2 p (j 1)) := by pointwise [k0_pay11]
/-- The gradient at the hidden layer, block by block. -/
theorem pay_dz (d : Vec Ideal S512x1024 .bf16) (w : Vec Ideal S1024x1024 .bf16) (z : Vec Ideal S512x1024 .bf16) (j : S512x1024.Idx) :
    k0_pay12 d w z j = (∑ k : Fin 1024, d (ix2 (j 0) k) * w (ix2 (j 1) k)) * (Ideal.ofBits .f32 0x40000000#32 * max (z j) 0) := by
  pointwise [k0_pay12]
/-- A point adds the product of the hidden layer's gradient and the first matrix's transposed block. -/
theorem pay_acc (d : Vec Ideal S512x1024 .bf16) (w2 : Vec Ideal S1024x1024 .bf16) (z : Vec Ideal S512x1024 .bf16) (a : Vec Ideal S512x1024 .f32)
    (w1 : Vec Ideal S1x1024x1024 .bf16) (j : S512x1024.Idx) :
    k0_pay13 d w2 z a w1 j = a j + ∑ l : Fin 1024, k0_pay12 d w2 z (ix2 (j 0) l) * w1 (ix3 0 (j 1) l) := by
  unfold k0_pay13
  generalize k0_pay12 d w2 z = x
  pointwise
/-- The gradient at the block's input: the scaled gradient of the residual plus the accumulated product. -/
theorem pay_dx (r a : Vec Ideal S512x1024 .f32) (j : S512x1024.Idx) : k0_pay1 r a j = Ideal.ofBits .f32 0x3FD744FD#32 * r j + a j := by
  pointwise [k0_pay1]

/-- The two sums of one block, as an eight-row array. -/
def sums (dy h : Vec Ideal S512x1024 .f32) (j : S8x1024.Idx) : EReal :=
  if (j 0).val = 0 then ∑ p : Fin 512, dy (ix2 p (j 1)) * h (ix2 p (j 1))
  else if (j 0).val = 1 then ∑ p : Fin 512, dy (ix2 p (j 1)) else 0

/-- The body adds one block's sums to the array it finds. -/
theorem rows_at (s : Vec Ideal S8x1024 .f32) (dy r : Vec Ideal S512x1024 .f32) (j : S8x1024.Idx) : rows s dy r j = s j + sums dy (k0_pay4 r) j := by
  unfold rows sums
  split_ifs with h0 h1
  · rw [pay_row0]; exact congrArg (· + _) (Cert.MixLnValue.ld_row s 0 _ j h0)
  · rw [pay_row1]; exact congrArg (· + _) (Cert.MixLnValue.ld_row s 1 _ j h1)
  · rw [add_zero]

/-- The sums of the `n`-th row block. -/
def term (c : Dev nD) (n : ℕ) (j : S8x1024.Idx) : EReal :=
  if h : 4 * n < cfg0.N then sums (iblk m c 0 ⟨4 * n, h⟩) (k0_pay4 (iblk m c 1 ⟨4 * n, h⟩)) j else 0

/-- A row block's first point adds the block's sums to what the point before left. -/
theorem sum_step (c : Dev nD) (n : ℕ) (h : 4 * (n + 1) < cfg0.N) (j : S8x1024.Idx) :
    sumAt m c (4 * (n + 1)) h j = sumAt m c (4 * n + 3) (Nat.lt_of_succ_lt h) j + term m c (n + 1) j := by
  unfold term
  rw [dif_pos h]
  show sumAt m c (4 * n + 3 + 1) h j = _
  rw [sumAt, if_pos (by omega), rows_at]
  rfl

/-- The other points of a row block keep the sums. -/
theorem sum_keep (c : Dev nD) (n k : ℕ) (hk : k < 3) (h : 4 * n + k + 1 < cfg0.N) :
    sumAt m c (4 * n + k + 1) h = sumAt m c (4 * n + k) (Nat.lt_of_succ_lt h) := by
  rw [sumAt, if_neg (by omega)]

/-- A row block's last point leaves what its first point left. -/
theorem sum_last (c : Dev nD) (n : ℕ) (h : 4 * n + 3 < cfg0.N) : sumAt m c (4 * n + 3) h = sumAt m c (4 * n) (by omega) :=
  (sum_keep m c n 2 (by omega) h).trans ((sum_keep m c n 1 (by omega) _).trans (sum_keep m c n 0 (by omega) _))

/-- The sums after a row block's first point are those of the row blocks so far. -/
theorem sum_at (c : Dev nD) (j : S8x1024.Idx) : ∀ (n : ℕ) (h : 4 * n < cfg0.N), sumAt m c (4 * n) h j = ∑ s ∈ Finset.range (n + 1), term m c s j := by
  intro n
  induction n with
  | zero =>
    intro h
    rw [Finset.sum_range_one]
    unfold term
    rw [dif_pos h]
    show rows k0_pay8 _ _ j = _
    rw [rows_at, pay_zero8, zero_add]
  | succ n ih =>
    intro h
    rw [sum_step, sum_last, ih, Finset.sum_range_succ _ (n + 1)]

/-- The layer's input that the host code prepares is the reference's. -/
theorem V_r (c : Dev nD) : (V m c main_v6 : FVec Ideal S8192x1024 .f32) = FfnDxRef.R (m ((c : Thread nD τ).loc main_arg1)) (m ((c : Thread nD τ).loc main_arg2)) (m ((c : Thread nD τ).loc main_arg3)) := by
  entry_read
  rfl

/-- The hidden layer that the host code prepares is the reference's. -/
theorem V_z (c : Dev nD) (i : S8192x4096.Idx) : (V m c main_v10 : FVec Ideal S8192x4096 .bf16) i = FfnDxRef.Z (m ((c : Thread nD τ).loc main_arg1)) (m ((c : Thread nD τ).loc main_arg2)) i := by
  entry_read
  rfl

/-- A row of the gradient's block is a row of the gradient. -/
theorem dyg_blk (c : Dev nD) (t : Fin cfg0.N) (p : Fin 512) (q : Fin 8192) (h : q.val = t.val / 4 * 512 + p.val) :
    bdyg (iblk m c 0 t) (iblk m c 2 t) p = FfnDxRef.dyg (m ((c : Thread nD τ).loc main_arg0)) (m ((c : Thread nD τ).loc main_arg4)) q := by
  funext k
  unfold bdyg FfnDxRef.dyg
  blk_point [iblk, V, idx t]

/-- A row of the input's block is a row of the input. -/
theorem r_blk (c : Dev nD) (t : Fin cfg0.N) (p : Fin 512) (q : Fin 8192) (h : q.val = t.val / 4 * 512 + p.val) :
    brow (iblk m c 1 t) p = FfnDxRef.row (FfnDxRef.R (m ((c : Thread nD τ).loc main_arg1)) (m ((c : Thread nD τ).loc main_arg2)) (m ((c : Thread nD τ).loc main_arg3))) q := by
  rw [← V_r m c]
  funext k
  unfold brow FfnDxRef.row
  blk_ext [iblk, idx t]

/-- The hidden layer's block is a block of the reference's. -/
theorem z_blk (c : Dev nD) (t : Fin cfg0.N) (j : S512x1024.Idx) (i : S8192x4096.Idx) (h0 : (i 0).val = t.val / 4 * 512 + (j 0).val) (h1 : (i 1).val = t.val % 4 * 1024 + (j 1).val) :
    (iblk m c 3 t : Vec Ideal S512x1024 .bf16) j = FfnDxRef.Z (m ((c : Thread nD τ).loc main_arg1)) (m ((c : Thread nD τ).loc main_arg2)) i := by
  rw [← V_z m c]
  blk_ext [iblk, idx t]

/-- The first matrix's block that the host code prepares is a block of the first matrix's columns. -/
theorem w1_blk (c : Dev nD) (t : Fin cfg0.N) (a l : Fin 1024) (i : S1024x4096.Idx) (h0 : (i 0).val = a.val) (h1 : (i 1).val = t.val % 4 * 1024 + l.val) :
    (iblk m c 4 t : Vec Ideal S1x1024x1024 .bf16) (ix3 0 a l) = (m ((c : Thread nD τ).loc main_arg2) : FVec Ideal S1024x4096 .f32) i := by
  have hE : (win0_4.blk t).view.emb (ix3 0 a l) = ix3 (⟨t.val % 4, by omega⟩ : Fin 4) a l := by blk_ext [idx t]
  have hV : ∀ k : S4x1024x1024.Idx, (V m c main_v9 : FVec Ideal S4x1024x1024 .bf16) k
      = (m ((c : Thread nD τ).loc main_arg2) : FVec Ideal S1024x4096 .f32) (ix2 (k 1) ⟨(k 0).val * 1024 + (k 2).val, by have := (k 0).isLt; have := (k 2).isLt; show _ < 4096; simp at *; omega⟩) := fun k => by
    have e : (V m c main_v9 : FVec Ideal S4x1024x1024 .bf16) = (transpose S4x1024x1024 [1, 0, 2] ((shapeCast S1024x4x1024
        ((truncf .bf16 (m ((c : Thread nD τ).loc main_arg2) : FVec Ideal S1024x4096 .f32) bitsLt_bf16_f32 : FVec Ideal S1024x4096 .bf16))
        shapeCasts_S1024x4096_S1024x4x1024 : FVec Ideal S1024x4x1024 .bf16)) transposes_S1024x4x1024_S4x1024x1024_1_0_2 : FVec Ideal S4x1024x1024 .bf16) := by
      entry_read
      rfl
    rw [e]
    pointwise
  show (V m c main_v9 : FVec Ideal S4x1024x1024 .bf16) ((win0_4.blk t).view.emb (ix3 0 a l)) = _
  rw [hE, hV]
  refine congrArg _ (funext fun b => Fin.ext ?_)
  match b with
  | ⟨0, _⟩ => exact h0.symm
  | ⟨1, _⟩ => exact h1.symm

variable (hfin : ∀ (c : Dev nD) (q : Fin 8192), ∃ d : Fin 1024 → ℝ, FfnDxRef.dyg (m ((c : Thread nD τ).loc main_arg0)) (m ((c : Thread nD τ).loc main_arg4)) q = fun k => (d k : EReal))

include hfin

/-- The block of the gradient at the normalised layer's input is a block of the reference's. -/
theorem dr_blk (c : Dev nD) (t : Fin cfg0.N) (j : S512x1024.Idx) (i : S8192x1024.Idx) (h0 : (i 0).val = t.val / 4 * 512 + (j 0).val) (h1 : (i 1).val = (j 1).val) :
    k0_pay5 (iblk m c 0 (head t)) (iblk m c 1 (head t)) (iblk m c 2 (head t)) j = Cert.FfnDxRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have e : (i 0).val = (head t).val / 4 * 512 + (j 0).val := by show _ = 4 * (t.val / 4) / 4 * 512 + _; omega
  refine (pay_dr _ _ _ j).trans ?_
  rw [dyg_blk m c (head t) (j 0) (i 0) e, r_blk m c (head t) (j 0) (i 0) e, show (j 1 : Fin 1024) = i 1 from Fin.ext h1.symm]
  exact (FfnDxRef.dr_closed _ _ _ _ _ i (hfin c (i 0))).symm

/-- The narrowed copy likewise. -/
theorem drb_blk (c : Dev nD) (t : Fin cfg0.N) (j : S512x1024.Idx) (i : S8192x1024.Idx) (h0 : (i 0).val = t.val / 4 * 512 + (j 0).val) (h1 : (i 1).val = (j 1).val) :
    drbAt m c t j = Cert.FfnDxRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i :=
  (pay_drb _ _ _ j).trans (dr_blk m hfin c t j i h0 h1)

/-- The block of the gradient at the hidden layer is a block of the reference's. -/
theorem dz_blk (c : Dev nD) (t : Fin cfg0.N) (j : S512x1024.Idx) (i : S8192x4096.Idx) (h0 : (i 0).val = t.val / 4 * 512 + (j 0).val) (h1 : (i 1).val = t.val % 4 * 1024 + (j 1).val) :
    k0_pay12 (drbAt m c t) (iblk m c 5 t) (iblk m c 3 t) j = Cert.FfnDxRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  refine (pay_dz _ _ _ j).trans (Eq.trans ?_ (FfnDxRef.dz_at _ _ _ _ _ i).symm)
  refine congrArg₂ (· * ·) (Finset.sum_congr rfl fun k _ => congrArg₂ (· * ·) (drb_blk m hfin c t _ _ h0 rfl) ?_)
    (congrArg (fun z => _ * max z 0) (z_blk m c t j i h0 h1))
  blk_point [iblk, V, idx t]

/-- What a point adds to the accumulator. -/
def part (c : Dev nD) (t : Fin cfg0.N) (j : S512x1024.Idx) : EReal :=
  ∑ l : Fin 1024, k0_pay12 (drbAt m c t) (iblk m c 5 t) (iblk m c 3 t) (ix2 (j 0) l) * (iblk m c 4 t : Vec Ideal S1x1024x1024 .bf16) (ix3 0 (j 1) l)

omit hfin in
/-- A first point of a row block leaves its own contribution. -/
theorem acc_first (c : Dev nD) (t : Fin cfg0.N) (h : t.val % 4 = 0) (j : S512x1024.Idx) : accAt m c t.val t.isLt j = 0 + part m c t j := by
  obtain ⟨n, hn⟩ := t
  cases n with
  | zero => rw [accAt, pay_acc, pay_zero9]; rfl
  | succ n => rw [accAt, if_pos h, pay_acc, pay_zero9]; rfl

omit hfin in
/-- A later point adds its contribution. -/
theorem acc_step (c : Dev nD) (t : Fin cfg0.N) (h : ¬ t.val % 4 = 0) (j : S512x1024.Idx) :
    accAt m c t.val t.isLt j = accAt m c (t.val - 1) (Nat.lt_of_le_of_lt (Nat.sub_le _ _) t.isLt) j + part m c t j := by
  obtain ⟨n, hn⟩ := t
  cases n with
  | zero => exact absurd rfl h
  | succ n => rw [accAt, if_neg h, pay_acc]; rfl

/-- The accumulator after a row block's last point is the block of the product with the first matrix. -/
theorem acc_at (c : Dev nD) (t : Fin cfg0.N) (h3 : t.val % 4 = 3) (j : S512x1024.Idx) (i : S8192x1024.Idx) (h0 : (i 0).val = t.val / 4 * 512 + (j 0).val) (h1 : (i 1).val = (j 1).val) :
    accAt m c t.val t.isLt j = ∑ l : Fin 4096, Cert.FfnDxRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (i 0) l)
      * (m ((c : Thread nD τ).loc main_arg2) : FVec Ideal S1024x4096 .f32) (ix2 (i 1) l) := by
  rw [Pipeline.eq_sum_fin_of_reset_step_apply_of_flush (fun n h => accAt m c n h) 4 (fun _ => 0) (fun p j => part m c p j)
    (fun t h j => acc_first m c t h j) (fun t h j => acc_step m c t h j) t h3 _, zero_add]
  unfold part
  refine Fin.sum_mul_add_congr fun s k hl => ?_
  refine congrArg₂ (· * ·) (dz_blk m hfin c _ _ _ ?_ ?_) ?_
  · show (i 0).val = (4 * (t.val / 4) + s.val) / 4 * 512 + (j 0).val
    omega
  · show s.val * 1024 + k.val = (4 * (t.val / 4) + s.val) % 4 * 1024 + k.val
    omega
  · refine w1_blk m c _ _ _ _ h1 ?_
    show s.val * 1024 + k.val = (4 * (t.val / 4) + s.val) % 4 * 1024 + k.val
    omega

/-- The first result after the run. -/
theorem final_dz (c : Dev nD) : (dats m 0 c).arrAt 6 (cfgs 0).N = Cert.FfnDxRefIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after_6]
  refine (dz_blk m hfin c t y _ ?_ ?_).trans (Cert.FfnDxRefIdeal.Read.val_main_v89_apply (F := Ideal) _ _ _ _ _ _).symm
  all_goals blk_simp [idx t]

/-- The second result after the run. -/
theorem final_dx (c : Dev nD) : (dats m 0 c).arrAt 7 (cfgs 0).N = Cert.FfnDxRefIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after_7]
  refine (pay_dx _ _ y).trans ?_
  refine ((congrArg₂ (fun a b => Ideal.ofBits .f32 0x3FD744FD#32 * a + b) ((pay_drs _ _ _ y).trans (dr_blk m hfin c t y _ ?_ ?_))
    (acc_at m hfin c t ((flush0_7 t).mp hf) y _ ?_ ?_)).trans (add_comm _ _)).trans (FfnDxRef.dx_at _ _ _ _ _ _).symm
  all_goals blk_simp [idx t]

/-- The third result after the run. -/
theorem final_drb (c : Dev nD) : (dats m 0 c).arrAt 8 (cfgs 0).N = Cert.FfnDxRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after_8]
  refine (drb_blk m hfin c t y _ ?_ ?_).trans (Cert.FfnDxRefIdeal.Read.val_main_v90_apply (F := Ideal) _ _ _ _ _ _).symm
  all_goals blk_simp [idx t]

omit hfin in
/-- The fourth result after the run. -/
theorem final_s (c : Dev nD) : (dats m 0 c).arrAt 9 (cfgs 0).N = Cert.FfnDxRefIdeal.Read.val_main_v88 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  have ht : t.val = 4 * 15 + 3 := by have := (flush0_9 t).mp hf; have := lt64 t; omega
  have hN : cfg0.N = 64 := N_0
  obtain ⟨n, hn⟩ := t
  subst ht
  rw [after_9]
  refine (congrFun (sum_last m c 15 hn) y).trans ((sum_at m c y 15 _).trans ?_)
  have hE : (win0_9.blk ⟨_, hn⟩).view.emb y = ix2 (y 0) (y 1) := by blk_ext [idx ⟨_, hn⟩]
  rw [hE, Finset.sum_range]
  refine Eq.trans ?_ (FfnDxRef.sums_at _ _ _ _ _).symm
  have hT : ∀ s : Fin 16, 4 * s.val < cfg0.N := fun s => by omega
  have e : ∀ s : Fin 16, term m c s.val y = sums (iblk m c 0 ⟨4 * s.val, hT s⟩) (k0_pay4 (iblk m c 1 ⟨4 * s.val, hT s⟩)) y := fun s => dif_pos (hT s)
  refine (Finset.sum_congr rfl fun s _ => e s).trans ?_
  unfold sums
  show (∑ s : Fin 16, if (y 0).val = 0 then _ else if (y 0).val = 1 then _ else (0 : EReal))
    = if (y 0).val = 0 then _ else if (y 0).val = 1 then _ else _
  split_ifs with h0 h1
  · refine Fin.sum_mul_add_congr fun s p hl => ?_
    refine congrArg₂ (· * ·) ?_ ?_
    · blk_point [iblk, V, idx ⟨_, hT s⟩]
    · refine (pay_hat _ _).trans ?_
      exact congrArg (fun r => hat Nw Ew r (y 1 : Fin 1024)) (r_blk m c _ p ⟨_, hl⟩ (by
        show s.val * 512 + p.val = 4 * s.val / 4 * 512 + p.val; omega))
  · refine Fin.sum_mul_add_congr fun s p hl => ?_
    blk_point [iblk, V, idx ⟨_, hT s⟩]
  · exact Finset.sum_const_zero

end Cert.FfnDxValue

end
-- ==== Proof.FfnDxClaims.lean ====
/-
  The claims about the gradient through the feed-forward block. The precondition says that the incoming gradient times the gain is
  finite, under which the kernel's expression for the normalisation's gradient is the chain rule's.
-/
module

public import proofs.«01_k».proof.Defs
public import proofs.«01_k».proof.Proof.FfnDxValue
public import proofs.«01_k».proof.Proof.MixLnClaims
public import proofs.«01_k».proof.Proof.Gen.FfnDx
public import Idealize.ShloMosaic.Lib.Claim

@[expose] public section

set_option maxRecDepth 16384

noncomputable section

open Idealize.ShloMosaic Idealize.ShloMosaic.TcCoe Idealize.SL.Sem

namespace Cert.FfnDxClaims

variable [hPre : Cert.Pre_finite_ffn_products.Facts]

/-- Under the precondition each row of the incoming gradient times the gain is a row of reals. -/
theorem real_rows (x0 x1 : FVec Ideal Cert.Pre_finite_ffn_products.S8192x1024 .f32) (x2 : FVec Ideal Cert.Pre_finite_ffn_products.S1024x4096 .f32) (x3 : FVec Ideal Cert.Pre_finite_ffn_products.S4096x1024 .f32)
    (x4 : FVec Ideal Cert.Pre_finite_ffn_products.S1x1024 .f32) (h : Cert.Pre_finite_ffn_products.fn (F := Ideal) x0 x1 x2 x3 x4 = fun _ => 1#1)
    (q : Fin 8192) : ∃ d : Fin 1024 → ℝ, FfnDxRef.dyg x0 x4 q = fun k => (d k : EReal) := by
  have hk : ∀ k : Fin 1024, ∃ r : ℝ, x0 (ix2 q k) * x4 (ix2 0 k) = (r : EReal) := fun k => by
    refine MixLnClaims.real_of_abs_lt _ ?_
    have e := congrFun h (ix2 q k)
    have htop : Ideal.ofBits .f32 0x7F800000#32 = ⊤ := by simp [Ideal.ofBits, Ideal.ieee]
    have hb : broadcastInDim Cert.Pre_finite_ffn_products.S8192x1024 ![0, 1] hPre.bcast_S1x1024_S8192x1024_0_1 x4 (ix2 q k) = x4 (ix2 0 k) :=
      congrArg x4 (funext fun a => Fin.ext (by match a with | ⟨0, _⟩ => rfl | ⟨1, _⟩ => rfl))
    change BitVec.ofBool (decide (max (x0 (ix2 q k) * broadcastInDim Cert.Pre_finite_ffn_products.S8192x1024 ![0, 1] hPre.bcast_S1x1024_S8192x1024_0_1 x4 (ix2 q k))
      (-(x0 (ix2 q k) * broadcastInDim Cert.Pre_finite_ffn_products.S8192x1024 ![0, 1] hPre.bcast_S1x1024_S8192x1024_0_1 x4 (ix2 q k))) < Ideal.ofBits .f32 0x7F800000#32)) = 1#1 at e
    rw [hb, htop] at e
    by_contra hn
    rw [decide_eq_false hn] at e
    exact absurd e (by decide)
  choose d hd using hk
  exact ⟨d, funext hd⟩

/-- The kernel's text and its idealization's define the same body at the machine's values. -/
theorem defs0_eq : Cert.FfnDx.defs₀ (F := Bits) = Cert.FfnDxIdeal.defs₀ (F := Bits) := by
  unfold Cert.FfnDx.defs₀ Cert.FfnDxIdeal.defs₀
  refine congrArg Defs.onTc (funext fun l => funext fun a => ?_)
  match l, a with
  | 0, (t, s) => rfl
  | ⟨_ + 1, h⟩, _ => exact absurd h (Nat.not_lt.2 (Nat.le_add_left _ _))

/-- So the two texts define the same procedures at the machine's values. -/
theorem defs_eq : Cert.FfnDx.defs (F := Bits) = Cert.FfnDxIdeal.defs (F := Bits) := by
  unfold Cert.FfnDx.defs Cert.FfnDxIdeal.defs
  exact congrArg (Pipeline.defs (Cert.FfnDxIdeal.pcfgs (F := Bits))) defs0_eq

/-- The kernel runs and leaves its arguments and the semaphores as they were: its text is the idealization's, at other values. -/
theorem frame_kernel : Cert.quiescent_FfnDx := fun m ρ _ => by
  rw [defs_eq]
  exact Cert.FfnDxRun.frame (F := Bits) m ρ
/-- So does its idealization. -/
theorem frame_ideal : Cert.quiescent_FfnDxIdeal := fun m ρ _ => Cert.FfnDxRun.frame m ρ
/-- So does its idealization from the memories of the precondition. -/
theorem frame_ideal_pre : Cert.quiescent_FfnDxIdeal_pre_finite_ffn_products := fun m ρ _ => Cert.FfnDxRun.frame m ρ
/-- So does the reference. -/
theorem frame_ref : Cert.quiescent_FfnDxRefIdeal := fun m ρ _ =>
  (θ_run Cert.FfnDxRefIdeal.defs _ _).mono (fun r h => ⟨fun c => (h c).2.2.2.2, sem_eq_zero_of_no_sems (by decide) r.2⟩)
    (Cert.FfnDxRefIdeal.Value.run (F := Ideal) m ρ)
/-- So does the reference from the memories of the precondition. -/
theorem frame_ref_pre : Cert.quiescent_FfnDxRefIdeal_pre_finite_ffn_products := fun m ρ _ => frame_ref m ρ trivial

/-- Where the arguments agree, a function of the reference's arguments is the same function of the kernel's. -/
theorem ref_end {β : Type _} (m : (ℓ : Loc Cert.FfnDxIdeal.nD Cert.FfnDxIdeal.τ Cert.FfnDxIdeal.sig) → Buf (Elt Ideal) ℓ) (m' : (ℓ : Loc Cert.FfnDxRefIdeal.nD Cert.FfnDxRefIdeal.τ Cert.FfnDxRefIdeal.sig) → Buf (Elt Ideal) ℓ) (c : Dev Cert.FfnDxIdeal.nD)
    (f : FVec Ideal Cert.FfnDxRefIdeal.S8192x1024 .f32 → FVec Ideal Cert.FfnDxRefIdeal.S8192x1024 .f32 → FVec Ideal Cert.FfnDxRefIdeal.S1024x4096 .f32 → FVec Ideal Cert.FfnDxRefIdeal.S4096x1024 .f32
      → FVec Ideal Cert.FfnDxRefIdeal.S1x1024 .f32 → β)
    (x : β) {y : β} (hx : x = f (m' (c.tc.loc Cert.FfnDxRefIdeal.main_arg0)) (m' (c.tc.loc Cert.FfnDxRefIdeal.main_arg1)) (m' (c.tc.loc Cert.FfnDxRefIdeal.main_arg2)) (m' (c.tc.loc Cert.FfnDxRefIdeal.main_arg3)) (m' (c.tc.loc Cert.FfnDxRefIdeal.main_arg4)))
    (h : m' (c.tc.loc Cert.FfnDxRefIdeal.main_arg0) = m (c.tc.loc Cert.FfnDxIdeal.main_arg0)
      ∧ m' (c.tc.loc Cert.FfnDxRefIdeal.main_arg1) = m (c.tc.loc Cert.FfnDxIdeal.main_arg1)
      ∧ m' (c.tc.loc Cert.FfnDxRefIdeal.main_arg2) = m (c.tc.loc Cert.FfnDxIdeal.main_arg2)
      ∧ m' (c.tc.loc Cert.FfnDxRefIdeal.main_arg3) = m (c.tc.loc Cert.FfnDxIdeal.main_arg3)
      ∧ m' (c.tc.loc Cert.FfnDxRefIdeal.main_arg4) = m (c.tc.loc Cert.FfnDxIdeal.main_arg4))
    (hy : y = f (m (c.tc.loc Cert.FfnDxIdeal.main_arg0)) (m (c.tc.loc Cert.FfnDxIdeal.main_arg1)) (m (c.tc.loc Cert.FfnDxIdeal.main_arg2)) (m (c.tc.loc Cert.FfnDxIdeal.main_arg3)) (m (c.tc.loc Cert.FfnDxIdeal.main_arg4))) : x = y := by
  obtain ⟨h0, h1, h2, h3, h4⟩ := h
  rw [hx, hy]
  exact congr (congr (congr (congr (congrArg f h0) h1) h2) h3) h4

/-- The reference's gradient at the inner layer is what the kernel's window 6 has written at the end. -/
theorem end_dz (m : (ℓ : Loc Cert.FfnDxIdeal.nD Cert.FfnDxIdeal.τ Cert.FfnDxIdeal.sig) → Buf (Elt Ideal) ℓ) (m' : (ℓ : Loc Cert.FfnDxRefIdeal.nD Cert.FfnDxRefIdeal.τ Cert.FfnDxRefIdeal.sig) → Buf (Elt Ideal) ℓ) (c : Dev Cert.FfnDxIdeal.nD)
    (hfin : ∀ (c : Dev Cert.FfnDxIdeal.nD) (q : Fin 8192), ∃ d : Fin 1024 → ℝ, FfnDxRef.dyg (m (c.tc.loc Cert.FfnDxIdeal.main_arg0)) (m (c.tc.loc Cert.FfnDxIdeal.main_arg4)) q = fun k => (d k : EReal))
    (h : m' (c.tc.loc Cert.FfnDxRefIdeal.main_arg0) = m (c.tc.loc Cert.FfnDxIdeal.main_arg0)
      ∧ m' (c.tc.loc Cert.FfnDxRefIdeal.main_arg1) = m (c.tc.loc Cert.FfnDxIdeal.main_arg1)
      ∧ m' (c.tc.loc Cert.FfnDxRefIdeal.main_arg2) = m (c.tc.loc Cert.FfnDxIdeal.main_arg2)
      ∧ m' (c.tc.loc Cert.FfnDxRefIdeal.main_arg3) = m (c.tc.loc Cert.FfnDxIdeal.main_arg3)
      ∧ m' (c.tc.loc Cert.FfnDxRefIdeal.main_arg4) = m (c.tc.loc Cert.FfnDxIdeal.main_arg4)) :
    Cert.FfnDxRefIdeal.Value.res_main_v89 m' c = (Cert.FfnDxRun.dats m 0 c).arrAt 6 (Cert.FfnDxIdeal.cfgs 0).N :=
  ref_end m m' c (Cert.FfnDxRefIdeal.Read.val_main_v89 (F := Ideal)) _ (Cert.FfnDxRefIdeal.Read.val_main_v89_eq m' c) h (Cert.FfnDxValue.final_dz m hfin c)

/-- The reference's gradient at the block's input is what the kernel's window 7 has written at the end. -/
theorem end_dx (m : (ℓ : Loc Cert.FfnDxIdeal.nD Cert.FfnDxIdeal.τ Cert.FfnDxIdeal.sig) → Buf (Elt Ideal) ℓ) (m' : (ℓ : Loc Cert.FfnDxRefIdeal.nD Cert.FfnDxRefIdeal.τ Cert.FfnDxRefIdeal.sig) → Buf (Elt Ideal) ℓ) (c : Dev Cert.FfnDxIdeal.nD)
    (hfin : ∀ (c : Dev Cert.FfnDxIdeal.nD) (q : Fin 8192), ∃ d : Fin 1024 → ℝ, FfnDxRef.dyg (m (c.tc.loc Cert.FfnDxIdeal.main_arg0)) (m (c.tc.loc Cert.FfnDxIdeal.main_arg4)) q = fun k => (d k : EReal))
    (h : m' (c.tc.loc Cert.FfnDxRefIdeal.main_arg0) = m (c.tc.loc Cert.FfnDxIdeal.main_arg0)
      ∧ m' (c.tc.loc Cert.FfnDxRefIdeal.main_arg1) = m (c.tc.loc Cert.FfnDxIdeal.main_arg1)
      ∧ m' (c.tc.loc Cert.FfnDxRefIdeal.main_arg2) = m (c.tc.loc Cert.FfnDxIdeal.main_arg2)
      ∧ m' (c.tc.loc Cert.FfnDxRefIdeal.main_arg3) = m (c.tc.loc Cert.FfnDxIdeal.main_arg3)
      ∧ m' (c.tc.loc Cert.FfnDxRefIdeal.main_arg4) = m (c.tc.loc Cert.FfnDxIdeal.main_arg4)) :
    Cert.FfnDxRefIdeal.Value.res_main_v84 m' c = (Cert.FfnDxRun.dats m 0 c).arrAt 7 (Cert.FfnDxIdeal.cfgs 0).N :=
  ref_end m m' c (Cert.FfnDxRefIdeal.Read.val_main_v84 (F := Ideal)) _ (Cert.FfnDxRefIdeal.Read.val_main_v84_eq m' c) h (Cert.FfnDxValue.final_dx m hfin c)

/-- The reference's rounded gradient at the residual branch is what the kernel's window 8 has written at the end. -/
theorem end_drb (m : (ℓ : Loc Cert.FfnDxIdeal.nD Cert.FfnDxIdeal.τ Cert.FfnDxIdeal.sig) → Buf (Elt Ideal) ℓ) (m' : (ℓ : Loc Cert.FfnDxRefIdeal.nD Cert.FfnDxRefIdeal.τ Cert.FfnDxRefIdeal.sig) → Buf (Elt Ideal) ℓ) (c : Dev Cert.FfnDxIdeal.nD)
    (hfin : ∀ (c : Dev Cert.FfnDxIdeal.nD) (q : Fin 8192), ∃ d : Fin 1024 → ℝ, FfnDxRef.dyg (m (c.tc.loc Cert.FfnDxIdeal.main_arg0)) (m (c.tc.loc Cert.FfnDxIdeal.main_arg4)) q = fun k => (d k : EReal))
    (h : m' (c.tc.loc Cert.FfnDxRefIdeal.main_arg0) = m (c.tc.loc Cert.FfnDxIdeal.main_arg0)
      ∧ m' (c.tc.loc Cert.FfnDxRefIdeal.main_arg1) = m (c.tc.loc Cert.FfnDxIdeal.main_arg1)
      ∧ m' (c.tc.loc Cert.FfnDxRefIdeal.main_arg2) = m (c.tc.loc Cert.FfnDxIdeal.main_arg2)
      ∧ m' (c.tc.loc Cert.FfnDxRefIdeal.main_arg3) = m (c.tc.loc Cert.FfnDxIdeal.main_arg3)
      ∧ m' (c.tc.loc Cert.FfnDxRefIdeal.main_arg4) = m (c.tc.loc Cert.FfnDxIdeal.main_arg4)) :
    Cert.FfnDxRefIdeal.Value.res_main_v90 m' c = (Cert.FfnDxRun.dats m 0 c).arrAt 8 (Cert.FfnDxIdeal.cfgs 0).N :=
  ref_end m m' c (Cert.FfnDxRefIdeal.Read.val_main_v90 (F := Ideal)) _ (Cert.FfnDxRefIdeal.Read.val_main_v90_eq m' c) h (Cert.FfnDxValue.final_drb m hfin c)

/-- The reference's array of the gain's and the shift's gradients is what the kernel's window 9 has written at the end. -/
theorem end_s (m : (ℓ : Loc Cert.FfnDxIdeal.nD Cert.FfnDxIdeal.τ Cert.FfnDxIdeal.sig) → Buf (Elt Ideal) ℓ) (m' : (ℓ : Loc Cert.FfnDxRefIdeal.nD Cert.FfnDxRefIdeal.τ Cert.FfnDxRefIdeal.sig) → Buf (Elt Ideal) ℓ) (c : Dev Cert.FfnDxIdeal.nD)
    (h : m' (c.tc.loc Cert.FfnDxRefIdeal.main_arg0) = m (c.tc.loc Cert.FfnDxIdeal.main_arg0)
      ∧ m' (c.tc.loc Cert.FfnDxRefIdeal.main_arg1) = m (c.tc.loc Cert.FfnDxIdeal.main_arg1)
      ∧ m' (c.tc.loc Cert.FfnDxRefIdeal.main_arg2) = m (c.tc.loc Cert.FfnDxIdeal.main_arg2)
      ∧ m' (c.tc.loc Cert.FfnDxRefIdeal.main_arg3) = m (c.tc.loc Cert.FfnDxIdeal.main_arg3)
      ∧ m' (c.tc.loc Cert.FfnDxRefIdeal.main_arg4) = m (c.tc.loc Cert.FfnDxIdeal.main_arg4)) :
    Cert.FfnDxRefIdeal.Value.res_main_v88 m' c = (Cert.FfnDxRun.dats m 0 c).arrAt 9 (Cert.FfnDxIdeal.cfgs 0).N :=
  ref_end m m' c (fun x0 x1 x2 x3 _ => Cert.FfnDxRefIdeal.Read.val_main_v88 (F := Ideal) x0 x1 x2 x3) _ (Cert.FfnDxRefIdeal.Read.val_main_v88_eq m' c) h (Cert.FfnDxValue.final_s m c)

/-- The kernel and the reference end with the same four arrays. -/
theorem value : Cert.algebraic_FfnDxIdeal_FfnDxRefIdeal_pre_finite_ffn_products := by
  pair_intro
  · run_from Cert.FfnDxRun.run_main m g
    · exact Cert.FfnDxIdeal.Gen.V_main_arg1 m c
    · exact Cert.FfnDxIdeal.Gen.V_main_arg2 m c
    · exact Cert.FfnDxIdeal.Gen.V_main_arg3 m c
  · have hfin : ∀ (c : Dev Cert.FfnDxIdeal.nD) (q : Fin 8192), ∃ d : Fin 1024 → ℝ, FfnDxRef.dyg (m (c.tc.loc Cert.FfnDxIdeal.main_arg0)) (m (c.tc.loc Cert.FfnDxIdeal.main_arg4)) q = fun k => (d k : EReal) := fun c q => real_rows _ _ _ _ _ (hpre c) q
    refine Idealize.ShloMosaic.θ_run_mono (Cert.FfnDxRefIdeal.Value.run (F := Ideal) m' g') ?_
    intro r hr c
    obtain ⟨h0, h1, h2, h3, ha⟩ := hr c
    exact ⟨h0.trans (end_dz m m' c hfin (hagree c)), h1.trans (end_dx m m' c hfin (hagree c)),
      h2.trans (end_drb m m' c hfin (hagree c)), h3.trans (end_s m m' c (hagree c)), ha⟩

end Cert.FfnDxClaims

end
-- ==== Proof.OptFlatClaims.lean ====
/-
  The claims about the optimiser's step of the weights that are matrices.
-/
module

public import proofs.«01_k».proof.Defs
public import proofs.«01_k».proof.Proof.Gen.OptLn.Frame
public import proofs.«01_k».proof.Proof.Gen.OptLnIdeal.Value
public import proofs.«01_k».proof.Proof.Gen.OptLnRefIdeal.Read
public import proofs.«01_k».proof.Proof.Gen.OptLb.Frame
public import proofs.«01_k».proof.Proof.Gen.OptLbIdeal.Value
public import proofs.«01_k».proof.Proof.Gen.OptLbRefIdeal.Read
public import proofs.«01_k».proof.Proof.Gen.OptBias.Frame
public import proofs.«01_k».proof.Proof.Gen.OptBiasIdeal.Value
public import proofs.«01_k».proof.Proof.Gen.OptBiasRefIdeal.Read
public import proofs.«01_k».proof.Proof.Gen.OptVec.Frame
public import proofs.«01_k».proof.Proof.Gen.OptVecIdeal.Value
public import proofs.«01_k».proof.Proof.Gen.OptVecRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## `OptLn` -/

namespace Cert.OptLnClaims

/-- The kernel runs and leaves its arguments and the semaphores as they were. -/
theorem frame_kernel : Cert.quiescent_OptLn := fun m ρ _ => Cert.OptLn.Gen.frame m ρ
/-- So does its idealization. -/
theorem frame_ideal : Cert.quiescent_OptLnIdeal := fun m ρ _ => Cert.OptLnIdeal.Gen.frame m ρ
/-- So does the reference. -/
theorem frame_ref : Cert.quiescent_OptLnRefIdeal := fun m ρ _ =>
  (θ_run Cert.OptLnRefIdeal.defs _ _).mono (fun r h => ⟨fun c => (h c).2.2.2, sem_eq_zero_of_no_sems (by decide) r.2⟩)
    (Cert.OptLnRefIdeal.Value.run (F := Ideal) m ρ)

/-- The kernel and the reference end with the same steps, first moments and second moments. -/
theorem value : Cert.algebraic_OptLnIdeal_OptLnRefIdeal := by
  pair_intro
  · run_from Cert.OptLnIdeal.Value.run m g
  · run_from Cert.OptLnRefIdeal.Value.run (F := Ideal) m' g'
    all_goals rfl

end Cert.OptLnClaims

/-! ## `OptLb` -/

namespace Cert.OptLbClaims

/-- The kernel runs and leaves its arguments and the semaphores as they were. -/
theorem frame_kernel : Cert.quiescent_OptLb := fun m ρ _ => Cert.OptLb.Gen.frame m ρ
/-- So does its idealization. -/
theorem frame_ideal : Cert.quiescent_OptLbIdeal := fun m ρ _ => Cert.OptLbIdeal.Gen.frame m ρ
/-- So does the reference. -/
theorem frame_ref : Cert.quiescent_OptLbRefIdeal := fun m ρ _ =>
  (θ_run Cert.OptLbRefIdeal.defs _ _).mono (fun r h => ⟨fun c => (h c).2.2.2, sem_eq_zero_of_no_sems (by decide) r.2⟩)
    (Cert.OptLbRefIdeal.Value.run (F := Ideal) m ρ)

/-- The kernel and the reference end with the same steps, first moments and second moments. -/
theorem value : Cert.algebraic_OptLbIdeal_OptLbRefIdeal := by
  pair_intro
  · run_from Cert.OptLbIdeal.Value.run m g
  · run_from Cert.OptLbRefIdeal.Value.run (F := Ideal) m' g'
    all_goals rfl

end Cert.OptLbClaims

/-! ## `OptBias` -/

namespace Cert.OptBiasClaims

/-- The kernel runs and leaves its arguments and the semaphores as they were. -/
theorem frame_kernel : Cert.quiescent_OptBias := fun m ρ _ => Cert.OptBias.Gen.frame m ρ
/-- So does its idealization. -/
theorem frame_ideal : Cert.quiescent_OptBiasIdeal := fun m ρ _ => Cert.OptBiasIdeal.Gen.frame m ρ
/-- So does the reference. -/
theorem frame_ref : Cert.quiescent_OptBiasRefIdeal := fun m ρ _ =>
  (θ_run Cert.OptBiasRefIdeal.defs _ _).mono (fun r h => ⟨fun c => (h c).2.2.2, sem_eq_zero_of_no_sems (by decide) r.2⟩)
    (Cert.OptBiasRefIdeal.Value.run (F := Ideal) m ρ)

/-- The kernel and the reference end with the same steps, first moments and second moments. -/
theorem value : Cert.algebraic_OptBiasIdeal_OptBiasRefIdeal := by
  pair_intro
  · run_from Cert.OptBiasIdeal.Value.run m g
  · run_from Cert.OptBiasRefIdeal.Value.run (F := Ideal) m' g'
    all_goals rfl

end Cert.OptBiasClaims

/-! ## `OptVec` -/

namespace Cert.OptVecClaims

/-- The kernel runs and leaves its arguments and the semaphores as they were. -/
theorem frame_kernel : Cert.quiescent_OptVec := fun m ρ _ => Cert.OptVec.Gen.frame m ρ
/-- So does its idealization. -/
theorem frame_ideal : Cert.quiescent_OptVecIdeal := fun m ρ _ => Cert.OptVecIdeal.Gen.frame m ρ
/-- So does the reference. -/
theorem frame_ref : Cert.quiescent_OptVecRefIdeal := fun m ρ _ =>
  (θ_run Cert.OptVecRefIdeal.defs _ _).mono (fun r h => ⟨fun c => (h c).2.2.2, sem_eq_zero_of_no_sems (by decide) r.2⟩)
    (Cert.OptVecRefIdeal.Value.run (F := Ideal) m ρ)

/-- The kernel and the reference end with the same steps, first moments and second moments. -/
theorem value : Cert.algebraic_OptVecIdeal_OptVecRefIdeal := by
  pair_intro
  · run_from Cert.OptVecIdeal.Value.run m g
  · run_from Cert.OptVecRefIdeal.Value.run (F := Ideal) m' g'
    all_goals rfl

end Cert.OptVecClaims

end
-- ==== Proof.OptStackClaims.lean ====
/-
  The claims about the optimiser's step of the weights that are stacks of matrices, which the call takes row by row.
-/
module

public import proofs.«01_k».proof.Defs
public import proofs.«01_k».proof.Proof.Gen.OptFfn.Frame
public import proofs.«01_k».proof.Proof.Gen.OptFfnIdeal.Frame
public import proofs.«01_k».proof.Proof.Gen.OptFfnRefIdeal.Read
public import proofs.«01_k».proof.Proof.Gen.OptIn.Frame
public import proofs.«01_k».proof.Proof.Gen.OptInIdeal.Frame
public import proofs.«01_k».proof.Proof.Gen.OptInRefIdeal.Read
public import proofs.«01_k».proof.Proof.Gen.OptOut.Frame
public import proofs.«01_k».proof.Proof.Gen.OptOutIdeal.Frame
public import proofs.«01_k».proof.Proof.Gen.OptOutRefIdeal.Read
public import proofs.«01_k».proof.Proof.Gen.OptPw1.Frame
public import proofs.«01_k».proof.Proof.Gen.OptPw1Ideal.Frame
public import proofs.«01_k».proof.Proof.Gen.OptPw1RefIdeal.Read
public import proofs.«01_k».proof.Proof.Gen.OptDw.Frame
public import proofs.«01_k».proof.Proof.Gen.OptDwIdeal.Frame
public import proofs.«01_k».proof.Proof.Gen.OptDwRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## One element of the step -/

namespace Cert.Adam

/-- The new first moment from the gradient and the first moment. -/
def mom (g m : EReal) : EReal := Ideal.ofBits .f32 0x3F666666#32 * m + Ideal.ofBits .f32 0x3DCCCCCD#32 * g
/-- The new second moment from the gradient and the second moment. -/
def sq (g v : EReal) : EReal := Ideal.ofBits .f32 0x3F7FBE77#32 * v + Ideal.ofBits .f32 0x3A83126F#32 * (g * g)
/-- The step from the gradient, the two moments and the weight. -/
def step (g m v w : EReal) : EReal :=
  Ideal.ofBits .f32 0xBA83126F#32 * (FloatOps.divf (F := Ideal) (φ := .f32) (FloatOps.divf (F := Ideal) (φ := .f32) (mom g m) (Ideal.ofBits .f32 0x3F26BD02#32))
    (FloatOps.sqrt (F := Ideal) (φ := .f32) (FloatOps.divf (F := Ideal) (φ := .f32) (sq g v) (Ideal.ofBits .f32 0x3C231ACC#32)) + Ideal.ofBits .f32 0x322BCC77#32)
    + Ideal.ofBits .f32 0x3C23D70A#32 * w)

/-- The step is a function of its four elements. -/
theorem step_congr {g g' m m' v v' w w' : EReal} (hg : g = g') (hm : m = m') (hv : v = v') (hw : w = w') : step g m v w = step g' m' v' w' := by
  rw [hg, hm, hv, hw]

end Cert.Adam

/-! ## `OptFfn` -/

namespace Cert.OptFfnClaims

/-- The kernel runs and leaves its arguments and the semaphores as they were. -/
theorem frame_kernel : Cert.quiescent_OptFfn := fun m ρ _ => Cert.OptFfn.Gen.frame m ρ
/-- So does its idealization. -/
theorem frame_ideal : Cert.quiescent_OptFfnIdeal := fun m ρ _ => Cert.OptFfnIdeal.Gen.frame m ρ
/-- So does the reference. -/
theorem frame_ref : Cert.quiescent_OptFfnRefIdeal := fun m ρ _ =>
  (θ_run Cert.OptFfnRefIdeal.defs _ _).mono (fun r h => ⟨fun c => (h c).2.2.2, sem_eq_zero_of_no_sems (by decide) r.2⟩)
    (Cert.OptFfnRefIdeal.Value.run (F := Ideal) m ρ)

open Cert.OptFfnIdeal Cert.OptFfnIdeal.Gen

/-- The windows move together: each one's block at point `t` is the rows of block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The stored first moment at an element. -/
theorem pay_mom (g m : Vec Ideal S256x1024 .f32) (y : S256x1024.Idx) : k0_pay2 g m y = Adam.mom (g y) (m y) := by
  pointwise [k0_pay2, k0_pay1]
  rfl
/-- The stored second moment at an element. -/
theorem pay_sq (g v : Vec Ideal S256x1024 .f32) (y : S256x1024.Idx) : k0_pay3 g v y = Adam.sq (g y) (v y) := by
  pointwise [k0_pay3, k0_pay1]
  rfl
/-- The stored step at an element. -/
theorem pay_step (g m v w : Vec Ideal S256x1024 .f32) (y : S256x1024.Idx) : k0_pay4 g m v w y = Adam.step (g y) (m y) (v y) (w y) := by
  pointwise [k0_pay4, pay_mom, pay_sq]
  rfl

variable (m : (ℓ : Loc nD τ sig) → Buf (Elt Ideal) ℓ) (c : Dev nD)

/-- The steps after the run. -/
theorem final_step : (dats m 0 c).arrAt 4 cfg0.N = Cert.OptFfnRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_step _ _ _ _ y).trans (Adam.step_congr ?_ ?_ ?_ ?_)
  all_goals blk_point [iblk, V, idx t]

/-- The first moments after the run. -/
theorem final_mom : (dats m 0 c).arrAt 5 cfg0.N = Cert.OptFfnRefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (pay_mom _ _ y).trans (congrArg₂ Adam.mom ?_ ?_)
  all_goals blk_point [iblk, V, idx t]

/-- The second moments after the run. -/
theorem final_sq : (dats m 0 c).arrAt 6 cfg0.N = Cert.OptFfnRefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine (pay_sq _ _ y).trans (congrArg₂ Adam.sq ?_ ?_)
  all_goals blk_point [iblk, V, idx t]

/-- The kernel and the reference end with the same steps, first moments and second moments. -/
theorem value : Cert.algebraic_OptFfnIdeal_OptFfnRefIdeal := by
  pair_intro
  · run_from Cert.OptFfnIdeal.Gen.run_main m g
  · run_from Cert.OptFfnRefIdeal.Value.run (F := Ideal) m' g'
    · exact (Cert.OptFfnRefIdeal.Read.val_main_v24_eq (F := Ideal) _ _ _ _).trans (final_step m c).symm
    · exact (Cert.OptFfnRefIdeal.Read.val_main_v25_eq (F := Ideal) _ _).trans (final_mom m c).symm
    · exact (Cert.OptFfnRefIdeal.Read.val_main_v26_eq (F := Ideal) _ _).trans (final_sq m c).symm

end Cert.OptFfnClaims

/-! ## `OptIn` -/

namespace Cert.OptInClaims

/-- The kernel runs and leaves its arguments and the semaphores as they were. -/
theorem frame_kernel : Cert.quiescent_OptIn := fun m ρ _ => Cert.OptIn.Gen.frame m ρ
/-- So does its idealization. -/
theorem frame_ideal : Cert.quiescent_OptInIdeal := fun m ρ _ => Cert.OptInIdeal.Gen.frame m ρ
/-- So does the reference. -/
theorem frame_ref : Cert.quiescent_OptInRefIdeal := fun m ρ _ =>
  (θ_run Cert.OptInRefIdeal.defs _ _).mono (fun r h => ⟨fun c => (h c).2.2.2, sem_eq_zero_of_no_sems (by decide) r.2⟩)
    (Cert.OptInRefIdeal.Value.run (F := Ideal) m ρ)

open Cert.OptInIdeal Cert.OptInIdeal.Gen

/-- The windows move together: each one's block at point `t` is the rows of block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The stored first moment at an element. -/
theorem pay_mom (g m : Vec Ideal S256x1024 .f32) (y : S256x1024.Idx) : k0_pay2 g m y = Adam.mom (g y) (m y) := by
  pointwise [k0_pay2, k0_pay1]
  rfl
/-- The stored second moment at an element. -/
theorem pay_sq (g v : Vec Ideal S256x1024 .f32) (y : S256x1024.Idx) : k0_pay3 g v y = Adam.sq (g y) (v y) := by
  pointwise [k0_pay3, k0_pay1]
  rfl
/-- The stored step at an element. -/
theorem pay_step (g m v w : Vec Ideal S256x1024 .f32) (y : S256x1024.Idx) : k0_pay4 g m v w y = Adam.step (g y) (m y) (v y) (w y) := by
  pointwise [k0_pay4, pay_mom, pay_sq]
  rfl

variable (m : (ℓ : Loc nD τ sig) → Buf (Elt Ideal) ℓ) (c : Dev nD)

/-- The steps after the run. -/
theorem final_step : (dats m 0 c).arrAt 4 cfg0.N = Cert.OptInRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_step _ _ _ _ y).trans (Adam.step_congr ?_ ?_ ?_ ?_)
  all_goals blk_point [iblk, V, idx t]

/-- The first moments after the run. -/
theorem final_mom : (dats m 0 c).arrAt 5 cfg0.N = Cert.OptInRefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (pay_mom _ _ y).trans (congrArg₂ Adam.mom ?_ ?_)
  all_goals blk_point [iblk, V, idx t]

/-- The second moments after the run. -/
theorem final_sq : (dats m 0 c).arrAt 6 cfg0.N = Cert.OptInRefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine (pay_sq _ _ y).trans (congrArg₂ Adam.sq ?_ ?_)
  all_goals blk_point [iblk, V, idx t]

/-- The kernel and the reference end with the same steps, first moments and second moments. -/
theorem value : Cert.algebraic_OptInIdeal_OptInRefIdeal := by
  pair_intro
  · run_from Cert.OptInIdeal.Gen.run_main m g
  · run_from Cert.OptInRefIdeal.Value.run (F := Ideal) m' g'
    · exact (Cert.OptInRefIdeal.Read.val_main_v24_eq (F := Ideal) _ _ _ _).trans (final_step m c).symm
    · exact (Cert.OptInRefIdeal.Read.val_main_v25_eq (F := Ideal) _ _).trans (final_mom m c).symm
    · exact (Cert.OptInRefIdeal.Read.val_main_v26_eq (F := Ideal) _ _).trans (final_sq m c).symm

end Cert.OptInClaims

/-! ## `OptOut` -/

namespace Cert.OptOutClaims

/-- The kernel runs and leaves its arguments and the semaphores as they were. -/
theorem frame_kernel : Cert.quiescent_OptOut := fun m ρ _ => Cert.OptOut.Gen.frame m ρ
/-- So does its idealization. -/
theorem frame_ideal : Cert.quiescent_OptOutIdeal := fun m ρ _ => Cert.OptOutIdeal.Gen.frame m ρ
/-- So does the reference. -/
theorem frame_ref : Cert.quiescent_OptOutRefIdeal := fun m ρ _ =>
  (θ_run Cert.OptOutRefIdeal.defs _ _).mono (fun r h => ⟨fun c => (h c).2.2.2, sem_eq_zero_of_no_sems (by decide) r.2⟩)
    (Cert.OptOutRefIdeal.Value.run (F := Ideal) m ρ)

open Cert.OptOutIdeal Cert.OptOutIdeal.Gen

/-- The windows move together: each one's block at point `t` is the rows of block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The stored first moment at an element. -/
theorem pay_mom (g m : Vec Ideal S256x1024 .f32) (y : S256x1024.Idx) : k0_pay2 g m y = Adam.mom (g y) (m y) := by
  pointwise [k0_pay2, k0_pay1]
  rfl
/-- The stored second moment at an element. -/
theorem pay_sq (g v : Vec Ideal S256x1024 .f32) (y : S256x1024.Idx) : k0_pay3 g v y = Adam.sq (g y) (v y) := by
  pointwise [k0_pay3, k0_pay1]
  rfl
/-- The stored step at an element. -/
theorem pay_step (g m v w : Vec Ideal S256x1024 .f32) (y : S256x1024.Idx) : k0_pay4 g m v w y = Adam.step (g y) (m y) (v y) (w y) := by
  pointwise [k0_pay4, pay_mom, pay_sq]
  rfl

variable (m : (ℓ : Loc nD τ sig) → Buf (Elt Ideal) ℓ) (c : Dev nD)

/-- The steps after the run. -/
theorem final_step : (dats m 0 c).arrAt 4 cfg0.N = Cert.OptOutRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_step _ _ _ _ y).trans (Adam.step_congr ?_ ?_ ?_ ?_)
  all_goals blk_point [iblk, V, idx t]

/-- The first moments after the run. -/
theorem final_mom : (dats m 0 c).arrAt 5 cfg0.N = Cert.OptOutRefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (pay_mom _ _ y).trans (congrArg₂ Adam.mom ?_ ?_)
  all_goals blk_point [iblk, V, idx t]

/-- The second moments after the run. -/
theorem final_sq : (dats m 0 c).arrAt 6 cfg0.N = Cert.OptOutRefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine (pay_sq _ _ y).trans (congrArg₂ Adam.sq ?_ ?_)
  all_goals blk_point [iblk, V, idx t]

/-- The kernel and the reference end with the same steps, first moments and second moments. -/
theorem value : Cert.algebraic_OptOutIdeal_OptOutRefIdeal := by
  pair_intro
  · run_from Cert.OptOutIdeal.Gen.run_main m g
  · run_from Cert.OptOutRefIdeal.Value.run (F := Ideal) m' g'
    · exact (Cert.OptOutRefIdeal.Read.val_main_v24_eq (F := Ideal) _ _ _ _).trans (final_step m c).symm
    · exact (Cert.OptOutRefIdeal.Read.val_main_v25_eq (F := Ideal) _ _).trans (final_mom m c).symm
    · exact (Cert.OptOutRefIdeal.Read.val_main_v26_eq (F := Ideal) _ _).trans (final_sq m c).symm

end Cert.OptOutClaims

/-! ## `OptPw1` -/

namespace Cert.OptPw1Claims

/-- The kernel runs and leaves its arguments and the semaphores as they were. -/
theorem frame_kernel : Cert.quiescent_OptPw1 := fun m ρ _ => Cert.OptPw1.Gen.frame m ρ
/-- So does its idealization. -/
theorem frame_ideal : Cert.quiescent_OptPw1Ideal := fun m ρ _ => Cert.OptPw1Ideal.Gen.frame m ρ
/-- So does the reference. -/
theorem frame_ref : Cert.quiescent_OptPw1RefIdeal := fun m ρ _ =>
  (θ_run Cert.OptPw1RefIdeal.defs _ _).mono (fun r h => ⟨fun c => (h c).2.2.2, sem_eq_zero_of_no_sems (by decide) r.2⟩)
    (Cert.OptPw1RefIdeal.Value.run (F := Ideal) m ρ)

open Cert.OptPw1Ideal Cert.OptPw1Ideal.Gen

/-- The windows move together: each one's block at point `t` is the rows of block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The stored first moment at an element. -/
theorem pay_mom (g m : Vec Ideal S512x512 .f32) (y : S512x512.Idx) : k0_pay2 g m y = Adam.mom (g y) (m y) := by
  pointwise [k0_pay2, k0_pay1]
  rfl
/-- The stored second moment at an element. -/
theorem pay_sq (g v : Vec Ideal S512x512 .f32) (y : S512x512.Idx) : k0_pay3 g v y = Adam.sq (g y) (v y) := by
  pointwise [k0_pay3, k0_pay1]
  rfl
/-- The stored step at an element. -/
theorem pay_step (g m v w : Vec Ideal S512x512 .f32) (y : S512x512.Idx) : k0_pay4 g m v w y = Adam.step (g y) (m y) (v y) (w y) := by
  pointwise [k0_pay4, pay_mom, pay_sq]
  rfl

variable (m : (ℓ : Loc nD τ sig) → Buf (Elt Ideal) ℓ) (c : Dev nD)

/-- The steps after the run. -/
theorem final_step : (dats m 0 c).arrAt 4 cfg0.N = Cert.OptPw1RefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_step _ _ _ _ y).trans (Adam.step_congr ?_ ?_ ?_ ?_)
  all_goals blk_point [iblk, V, idx t]

/-- The first moments after the run. -/
theorem final_mom : (dats m 0 c).arrAt 5 cfg0.N = Cert.OptPw1RefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (pay_mom _ _ y).trans (congrArg₂ Adam.mom ?_ ?_)
  all_goals blk_point [iblk, V, idx t]

/-- The second moments after the run. -/
theorem final_sq : (dats m 0 c).arrAt 6 cfg0.N = Cert.OptPw1RefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine (pay_sq _ _ y).trans (congrArg₂ Adam.sq ?_ ?_)
  all_goals blk_point [iblk, V, idx t]

/-- The kernel and the reference end with the same steps, first moments and second moments. -/
theorem value : Cert.algebraic_OptPw1Ideal_OptPw1RefIdeal := by
  pair_intro
  · run_from Cert.OptPw1Ideal.Gen.run_main m g
  · run_from Cert.OptPw1RefIdeal.Value.run (F := Ideal) m' g'
    · exact (Cert.OptPw1RefIdeal.Read.val_main_v24_eq (F := Ideal) _ _ _ _).trans (final_step m c).symm
    · exact (Cert.OptPw1RefIdeal.Read.val_main_v25_eq (F := Ideal) _ _).trans (final_mom m c).symm
    · exact (Cert.OptPw1RefIdeal.Read.val_main_v26_eq (F := Ideal) _ _).trans (final_sq m c).symm

end Cert.OptPw1Claims

/-! ## `OptDw` -/

namespace Cert.OptDwClaims

/-- The kernel runs and leaves its arguments and the semaphores as they were. -/
theorem frame_kernel : Cert.quiescent_OptDw := fun m ρ _ => Cert.OptDw.Gen.frame m ρ
/-- So does its idealization. -/
theorem frame_ideal : Cert.quiescent_OptDwIdeal := fun m ρ _ => Cert.OptDwIdeal.Gen.frame m ρ
/-- So does the reference. -/
theorem frame_ref : Cert.quiescent_OptDwRefIdeal := fun m ρ _ =>
  (θ_run Cert.OptDwRefIdeal.defs _ _).mono (fun r h => ⟨fun c => (h c).2.2.2, sem_eq_zero_of_no_sems (by decide) r.2⟩)
    (Cert.OptDwRefIdeal.Value.run (F := Ideal) m ρ)

open Cert.OptDwIdeal Cert.OptDwIdeal.Gen

/-- The windows move together: each one's block at point `t` is the rows of block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The stored first moment at an element. -/
theorem pay_mom (g m : Vec Ideal S62x256 .f32) (y : S62x256.Idx) : k0_pay2 g m y = Adam.mom (g y) (m y) := by
  pointwise [k0_pay2, k0_pay1]
  rfl
/-- The stored second moment at an element. -/
theorem pay_sq (g v : Vec Ideal S62x256 .f32) (y : S62x256.Idx) : k0_pay3 g v y = Adam.sq (g y) (v y) := by
  pointwise [k0_pay3, k0_pay1]
  rfl
/-- The stored step at an element. -/
theorem pay_step (g m v w : Vec Ideal S62x256 .f32) (y : S62x256.Idx) : k0_pay4 g m v w y = Adam.step (g y) (m y) (v y) (w y) := by
  pointwise [k0_pay4, pay_mom, pay_sq]
  rfl

variable (m : (ℓ : Loc nD τ sig) → Buf (Elt Ideal) ℓ) (c : Dev nD)

/-- The steps after the run. -/
theorem final_step : (dats m 0 c).arrAt 4 cfg0.N = Cert.OptDwRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_step _ _ _ _ y).trans (Adam.step_congr ?_ ?_ ?_ ?_)
  all_goals blk_point [iblk, V, idx t]

/-- The first moments after the run. -/
theorem final_mom : (dats m 0 c).arrAt 5 cfg0.N = Cert.OptDwRefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (pay_mom _ _ y).trans (congrArg₂ Adam.mom ?_ ?_)
  all_goals blk_point [iblk, V, idx t]

/-- The second moments after the run. -/
theorem final_sq : (dats m 0 c).arrAt 6 cfg0.N = Cert.OptDwRefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine (pay_sq _ _ y).trans (congrArg₂ Adam.sq ?_ ?_)
  all_goals blk_point [iblk, V, idx t]

/-- The kernel and the reference end with the same steps, first moments and second moments. -/
theorem value : Cert.algebraic_OptDwIdeal_OptDwRefIdeal := by
  pair_intro
  · run_from Cert.OptDwIdeal.Gen.run_main m g
  · run_from Cert.OptDwRefIdeal.Value.run (F := Ideal) m' g'
    · exact (Cert.OptDwRefIdeal.Read.val_main_v24_eq (F := Ideal) _ _ _ _).trans (final_step m c).symm
    · exact (Cert.OptDwRefIdeal.Read.val_main_v25_eq (F := Ideal) _ _).trans (final_mom m c).symm
    · exact (Cert.OptDwRefIdeal.Read.val_main_v26_eq (F := Ideal) _ _).trans (final_sq m c).symm

end Cert.OptDwClaims

end
-- ==== Proof.SumClaims.lean ====
/-
  The claims about the sums of the eight devices' pieces of a weight's gradient.
-/
module

public import proofs.«01_k».proof.Defs
public import proofs.«01_k».proof.Proof.Gen.SumSq.Frame
public import proofs.«01_k».proof.Proof.Gen.SumSqIdeal.Frame
public import proofs.«01_k».proof.Proof.Gen.SumSqRefIdeal.Read
public import proofs.«01_k».proof.Proof.Gen.SumOut.Frame
public import proofs.«01_k».proof.Proof.Gen.SumOutIdeal.Frame
public import proofs.«01_k».proof.Proof.Gen.SumOutRefIdeal.Read
public import proofs.«01_k».proof.Proof.Gen.SumPw1.Frame
public import proofs.«01_k».proof.Proof.Gen.SumPw1Ideal.Frame
public import proofs.«01_k».proof.Proof.Gen.SumPw1RefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## `SumSq` -/

namespace Cert.SumSqClaims

/-- The kernel runs and leaves its argument and the semaphores as they were. -/
theorem frame_kernel : Cert.quiescent_SumSq := fun m ρ _ => Cert.SumSq.Gen.frame m ρ
/-- So does its idealization. -/
theorem frame_ideal : Cert.quiescent_SumSqIdeal := fun m ρ _ => Cert.SumSqIdeal.Gen.frame m ρ
/-- So does the reference. -/
theorem frame_ref : Cert.quiescent_SumSqRefIdeal := fun m ρ _ =>
  (θ_run Cert.SumSqRefIdeal.defs _ _).mono (fun r h => ⟨fun c => (h c).2, sem_eq_zero_of_no_sems (by decide) r.2⟩)
    (Cert.SumSqRefIdeal.Value.run (F := Ideal) m ρ)

open Cert.SumSqIdeal Cert.SumSqIdeal.Gen

/-- The block indices of the two windows at point `t`. -/
theorem idx : ∀ t : Fin cfg0.N, win0_0.index t = ![0, t.val, 0] ∧ win0_1.index t = ![t.val, 0] :=
  (by decide +kernel : ∀ t : Fin grid0.N, _)

/-- The stored element is the sum of the eight pieces' elements. -/
theorem pay_at (a b c d e f g h : Vec Ideal S1x128x1024 .bf16) (y : S128x1024.Idx) :
    k0_pay1 a b c d e f g h y = a (ix3 0 (y 0) (y 1)) + b (ix3 0 (y 0) (y 1)) + c (ix3 0 (y 0) (y 1)) + d (ix3 0 (y 0) (y 1))
      + e (ix3 0 (y 0) (y 1)) + f (ix3 0 (y 0) (y 1)) + g (ix3 0 (y 0) (y 1)) + h (ix3 0 (y 0) (y 1)) := by
  pointwise [k0_pay1]

/-- The reference at an index. -/
theorem ref_at (X : FVec Ideal S8x1024x1024 .bf16) (i : S1024x1024.Idx) :
    Cert.SumSqRefIdeal.Read.val_main_v1 (F := Ideal) X i = X (ix3 0 (i 0) (i 1)) + X (ix3 1 (i 0) (i 1)) + X (ix3 2 (i 0) (i 1)) + X (ix3 3 (i 0) (i 1))
      + X (ix3 4 (i 0) (i 1)) + X (ix3 5 (i 0) (i 1)) + X (ix3 6 (i 0) (i 1)) + X (ix3 7 (i 0) (i 1)) := by
  rw [Cert.SumSqRefIdeal.Read.val_main_v1_apply, Fin.sum_univ_eight]
  show Ideal.ofBits .f32 0x00000000#32 + _ = _
  rw [Ideal.ofBits_zero_f32, zero_add]
  have e : ∀ k : Fin 8, Cert.SumSqRefIdeal.Read.val_main_v0 (F := Ideal) X (Cert.SumSqRefIdeal.Read.idx_main_v1 i k) = X (ix3 k (i 0) (i 1)) := fun k =>
    congrArg X (funext fun a => match a with | ⟨0, _⟩ => rfl | ⟨1, _⟩ => rfl | ⟨2, _⟩ => rfl)
  simp only [e]

variable (m : (ℓ : Loc nD τ sig) → Buf (Elt Ideal) ℓ) (c : Dev nD)

/-- The kernel's array after the run is the reference's sum. -/
theorem final : (dats m 0 c).arrAt 1 cfg0.N = Cert.SumSqRefIdeal.Read.val_main_v1 (F := Ideal) (m ((c : Thread nD τ).loc main_arg0)) := by
  refine (dats m 0 c).arrAt_eq_of_covers 1 _ (by decide +kernel) fun t hf y => ?_
  blk_simp
  rw [after0_1]
  frame_out
  rw [pay_at, ref_at]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals blk_point [iblk, V, idx t]

/-- The kernel and the reference end with the same array. -/
theorem value : Cert.algebraic_SumSqIdeal_SumSqRefIdeal := by
  pair_intro
  · run_from Cert.SumSqIdeal.Gen.run_main m g
  · refine Idealize.ShloMosaic.θ_run_mono (Cert.SumSqRefIdeal.Value.run (F := Ideal) m' g') ?_
    intro r hr c
    obtain ⟨h0, ha⟩ := hr c
    exact ⟨h0.trans ((Cert.SumSqRefIdeal.Read.val_main_v1_eq (F := Ideal) _).trans ((congrArg (Cert.SumSqRefIdeal.Read.val_main_v1 (F := Ideal)) (hagree c)).trans (final m c).symm)), ha⟩

end Cert.SumSqClaims

/-! ## `SumOut` -/

namespace Cert.SumOutClaims

/-- The kernel runs and leaves its argument and the semaphores as they were. -/
theorem frame_kernel : Cert.quiescent_SumOut := fun m ρ _ => Cert.SumOut.Gen.frame m ρ
/-- So does its idealization. -/
theorem frame_ideal : Cert.quiescent_SumOutIdeal := fun m ρ _ => Cert.SumOutIdeal.Gen.frame m ρ
/-- So does the reference. -/
theorem frame_ref : Cert.quiescent_SumOutRefIdeal := fun m ρ _ =>
  (θ_run Cert.SumOutRefIdeal.defs _ _).mono (fun r h => ⟨fun c => (h c).2, sem_eq_zero_of_no_sems (by decide) r.2⟩)
    (Cert.SumOutRefIdeal.Value.run (F := Ideal) m ρ)

open Cert.SumOutIdeal Cert.SumOutIdeal.Gen

/-- The block indices of the two windows at point `t`. -/
theorem idx : ∀ t : Fin cfg0.N, win0_0.index t = ![0, t.val, 0] ∧ win0_1.index t = ![t.val, 0] :=
  (by decide +kernel : ∀ t : Fin grid0.N, _)

/-- The stored element is the sum of the eight pieces' elements. -/
theorem pay_at (a b c d e f g h : Vec Ideal S1x128x1024 .bf16) (y : S128x1024.Idx) :
    k0_pay1 a b c d e f g h y = a (ix3 0 (y 0) (y 1)) + b (ix3 0 (y 0) (y 1)) + c (ix3 0 (y 0) (y 1)) + d (ix3 0 (y 0) (y 1))
      + e (ix3 0 (y 0) (y 1)) + f (ix3 0 (y 0) (y 1)) + g (ix3 0 (y 0) (y 1)) + h (ix3 0 (y 0) (y 1)) := by
  pointwise [k0_pay1]

/-- The reference at an index. -/
theorem ref_at (X : FVec Ideal S8x256x1024 .bf16) (i : S256x1024.Idx) :
    Cert.SumOutRefIdeal.Read.val_main_v1 (F := Ideal) X i = X (ix3 0 (i 0) (i 1)) + X (ix3 1 (i 0) (i 1)) + X (ix3 2 (i 0) (i 1)) + X (ix3 3 (i 0) (i 1))
      + X (ix3 4 (i 0) (i 1)) + X (ix3 5 (i 0) (i 1)) + X (ix3 6 (i 0) (i 1)) + X (ix3 7 (i 0) (i 1)) := by
  rw [Cert.SumOutRefIdeal.Read.val_main_v1_apply, Fin.sum_univ_eight]
  show Ideal.ofBits .f32 0x00000000#32 + _ = _
  rw [Ideal.ofBits_zero_f32, zero_add]
  have e : ∀ k : Fin 8, Cert.SumOutRefIdeal.Read.val_main_v0 (F := Ideal) X (Cert.SumOutRefIdeal.Read.idx_main_v1 i k) = X (ix3 k (i 0) (i 1)) := fun k =>
    congrArg X (funext fun a => match a with | ⟨0, _⟩ => rfl | ⟨1, _⟩ => rfl | ⟨2, _⟩ => rfl)
  simp only [e]

variable (m : (ℓ : Loc nD τ sig) → Buf (Elt Ideal) ℓ) (c : Dev nD)

/-- The kernel's array after the run is the reference's sum. -/
theorem final : (dats m 0 c).arrAt 1 cfg0.N = Cert.SumOutRefIdeal.Read.val_main_v1 (F := Ideal) (m ((c : Thread nD τ).loc main_arg0)) := by
  refine (dats m 0 c).arrAt_eq_of_covers 1 _ (by decide +kernel) fun t hf y => ?_
  blk_simp
  rw [after0_1]
  frame_out
  rw [pay_at, ref_at]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals blk_point [iblk, V, idx t]

/-- The kernel and the reference end with the same array. -/
theorem value : Cert.algebraic_SumOutIdeal_SumOutRefIdeal := by
  pair_intro
  · run_from Cert.SumOutIdeal.Gen.run_main m g
  · refine Idealize.ShloMosaic.θ_run_mono (Cert.SumOutRefIdeal.Value.run (F := Ideal) m' g') ?_
    intro r hr c
    obtain ⟨h0, ha⟩ := hr c
    exact ⟨h0.trans ((Cert.SumOutRefIdeal.Read.val_main_v1_eq (F := Ideal) _).trans ((congrArg (Cert.SumOutRefIdeal.Read.val_main_v1 (F := Ideal)) (hagree c)).trans (final m c).symm)), ha⟩

end Cert.SumOutClaims

/-! ## `SumPw1` -/

namespace Cert.SumPw1Claims

/-- The kernel runs and leaves its argument and the semaphores as they were. -/
theorem frame_kernel : Cert.quiescent_SumPw1 := fun m ρ _ => Cert.SumPw1.Gen.frame m ρ
/-- So does its idealization. -/
theorem frame_ideal : Cert.quiescent_SumPw1Ideal := fun m ρ _ => Cert.SumPw1Ideal.Gen.frame m ρ
/-- So does the reference. -/
theorem frame_ref : Cert.quiescent_SumPw1RefIdeal := fun m ρ _ =>
  (θ_run Cert.SumPw1RefIdeal.defs _ _).mono (fun r h => ⟨fun c => (h c).2, sem_eq_zero_of_no_sems (by decide) r.2⟩)
    (Cert.SumPw1RefIdeal.Value.run (F := Ideal) m ρ)

open Cert.SumPw1Ideal Cert.SumPw1Ideal.Gen

/-- The block indices of the two windows at point `t`. -/
theorem idx : ∀ t : Fin cfg0.N, win0_0.index t = ![0, t.val, 0] ∧ win0_1.index t = ![t.val, 0] :=
  (by decide +kernel : ∀ t : Fin grid0.N, _)

/-- The stored element is the sum of the eight pieces' elements. -/
theorem pay_at (a b c d e f g h : Vec Ideal S1x256x512 .bf16) (y : S256x512.Idx) :
    k0_pay1 a b c d e f g h y = a (ix3 0 (y 0) (y 1)) + b (ix3 0 (y 0) (y 1)) + c (ix3 0 (y 0) (y 1)) + d (ix3 0 (y 0) (y 1))
      + e (ix3 0 (y 0) (y 1)) + f (ix3 0 (y 0) (y 1)) + g (ix3 0 (y 0) (y 1)) + h (ix3 0 (y 0) (y 1)) := by
  pointwise [k0_pay1]

/-- The reference at an index. -/
theorem ref_at (X : FVec Ideal S8x1024x512 .bf16) (i : S1024x512.Idx) :
    Cert.SumPw1RefIdeal.Read.val_main_v1 (F := Ideal) X i = X (ix3 0 (i 0) (i 1)) + X (ix3 1 (i 0) (i 1)) + X (ix3 2 (i 0) (i 1)) + X (ix3 3 (i 0) (i 1))
      + X (ix3 4 (i 0) (i 1)) + X (ix3 5 (i 0) (i 1)) + X (ix3 6 (i 0) (i 1)) + X (ix3 7 (i 0) (i 1)) := by
  rw [Cert.SumPw1RefIdeal.Read.val_main_v1_apply, Fin.sum_univ_eight]
  show Ideal.ofBits .f32 0x00000000#32 + _ = _
  rw [Ideal.ofBits_zero_f32, zero_add]
  have e : ∀ k : Fin 8, Cert.SumPw1RefIdeal.Read.val_main_v0 (F := Ideal) X (Cert.SumPw1RefIdeal.Read.idx_main_v1 i k) = X (ix3 k (i 0) (i 1)) := fun k =>
    congrArg X (funext fun a => match a with | ⟨0, _⟩ => rfl | ⟨1, _⟩ => rfl | ⟨2, _⟩ => rfl)
  simp only [e]

variable (m : (ℓ : Loc nD τ sig) → Buf (Elt Ideal) ℓ) (c : Dev nD)

/-- The kernel's array after the run is the reference's sum. -/
theorem final : (dats m 0 c).arrAt 1 cfg0.N = Cert.SumPw1RefIdeal.Read.val_main_v1 (F := Ideal) (m ((c : Thread nD τ).loc main_arg0)) := by
  refine (dats m 0 c).arrAt_eq_of_covers 1 _ (by decide +kernel) fun t hf y => ?_
  blk_simp
  rw [after0_1]
  frame_out
  rw [pay_at, ref_at]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals blk_point [iblk, V, idx t]

/-- The kernel and the reference end with the same array. -/
theorem value : Cert.algebraic_SumPw1Ideal_SumPw1RefIdeal := by
  pair_intro
  · run_from Cert.SumPw1Ideal.Gen.run_main m g
  · refine Idealize.ShloMosaic.θ_run_mono (Cert.SumPw1RefIdeal.Value.run (F := Ideal) m' g') ?_
    intro r hr c
    obtain ⟨h0, ha⟩ := hr c
    exact ⟨h0.trans ((Cert.SumPw1RefIdeal.Read.val_main_v1_eq (F := Ideal) _).trans ((congrArg (Cert.SumPw1RefIdeal.Read.val_main_v1 (F := Ideal)) (hagree c)).trans (final m c).symm)), ha⟩

end Cert.SumPw1Claims

end
-- ==== Proof.LossValue.lean ====
/-
  The loss and its gradient at the last layer's output (`loss_grad`): what the kernel's two arrays hold after the run is the
  reference's loss of one device's rows and its derivative.
-/
module

public import proofs.«01_k».proof.Defs
public import proofs.«01_k».proof.Proof.Gen.Loss.Frame
public import proofs.«01_k».proof.Proof.Gen.LossIdeal.Frame
public import proofs.«01_k».proof.Proof.Gen.LossRefIdeal.Read
public import proofs.«01_k».proof.Proof.NormAlgebra
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

open Cert.Norm (Nw Nw_eq two_eq)

namespace Cert.LossValue

/-! ## The constants -/

/-- The word the kernel scales by. -/
abbrev Iw : EReal := Ideal.ofBits .f32 0x3A800000#32

/-- It is one over the number of features. -/
theorem Iw_eq : Iw = ((1 / 1024 : ℝ) : EReal) := by
  simp [Iw, Ideal.ofBits, Ideal.ieee]; rw [← EReal.coe_mul]; norm_num
/-- One half. -/
theorem half_eq : Ideal.ofBits .f32 0x3F000000#32 = ((1 / 2 : ℝ) : EReal) := by
  simp [Ideal.ofBits, Ideal.ieee]; rw [← EReal.coe_mul]; norm_num
/-- One. -/
theorem one_eq : Ideal.ofBits .f32 0x3F800000#32 = ((1 : ℝ) : EReal) := by
  simp [Ideal.ofBits, Ideal.ieee]; rw [← EReal.coe_mul]; norm_num

/-- To divide by the number of features is to scale by `Iw`. -/
theorem div_features (a : EReal) : Ideal.div a Nw = a * Iw := by
  rw [Iw_eq, Nw_eq, Ideal.div, if_neg (by exact_mod_cast (by norm_num : (1024 : ℝ) ≠ 0)), ← EReal.coe_inv]
  norm_num

/-- The scale goes through a sum. -/
theorem sum_scale {ι : Type*} (s : Finset ι) (f : ι → EReal) : ∑ k ∈ s, f k * Iw = (∑ k ∈ s, f k) * Iw := by
  classical
  induction s using Finset.induction_on with
  | empty => simp
  | insert a s h ih =>
    rw [Finset.sum_insert h, Finset.sum_insert h, ih, Iw_eq]
    exact (EReal.right_distrib_of_nonneg_of_ne_top (by exact_mod_cast (by norm_num : (0 : ℝ) ≤ 1 / 1024)) (EReal.coe_ne_top _) _ _).symm

/-- Twice the error, times the half of the seed over the number of features, is the scaled error. -/
theorem grad_scale (e : EReal) :
    Ideal.div (Ideal.ofBits .f32 0x3F000000#32 * Ideal.ofBits .f32 0x3F800000#32) Nw * (Ideal.ofBits .f32 0x40000000#32 * e) = e * Iw := by
  rw [div_features, half_eq, one_eq, two_eq, Iw_eq, ← EReal.coe_mul, ← EReal.coe_mul, ← mul_assoc, ← EReal.coe_mul, mul_comm]
  norm_num

open Cert.LossIdeal Cert.LossIdeal.Gen

/-! ## The reference -/

/-- The square of the error at an element. -/
def sq (x0 x1 : FVec Ideal S8192x1024 .f32) (r : Fin 8192) (j : Fin 1024) : EReal :=
  (x0 (ix2 r j) - x1 (ix2 r j)) * (x0 (ix2 r j) - x1 (ix2 r j))

/-- The reference's gradient at an index. -/
theorem grad_at (x0 x1 : FVec Ideal S8192x1024 .f32) (i : S8192x1024.Idx) :
    Cert.LossRefIdeal.Read.val_main_v15 (F := Ideal) x0 x1 i = (x0 i - x1 i) * Iw := by
  rw [Cert.LossRefIdeal.Read.val_main_v15_apply, Cert.LossRefIdeal.Read.val_main_v14_apply, Cert.LossRefIdeal.Read.val_main_v13_apply,
    Cert.LossRefIdeal.Read.val_main_v12_apply, Cert.LossRefIdeal.Read.val_main_v11_apply, Cert.LossRefIdeal.Read.val_main_v10_apply,
    Cert.LossRefIdeal.Read.val_main_v3_apply, Cert.LossRefIdeal.Read.val_main_v2_apply, Cert.LossRefIdeal.Read.val_main_v0_apply]
  exact grad_scale _

/-- The reference's loss: the halved sum of the rows' means. -/
theorem loss_at (x0 x1 : FVec Ideal S8192x1024 .f32) (i : S1x1.Idx) :
    Cert.LossRefIdeal.Read.val_main_v9 (F := Ideal) x0 x1 i = Ideal.ofBits .f32 0x3F000000#32 * ((∑ r : Fin 8192, ∑ j : Fin 1024, sq x0 x1 r j) * Iw) := by
  rw [Cert.LossRefIdeal.Read.val_main_v9, shapeCast_apply _ _ i (fun a => a.elim0)
    ((Nat.lt_one_iff.mp (Cert.LossRefIdeal.S_.rowMajor _).isLt).trans (Nat.lt_one_iff.mp (Cert.LossRefIdeal.S1x1.rowMajor i).isLt).symm),
    Cert.LossRefIdeal.Read.val_main_v8_apply, Cert.LossRefIdeal.Read.val_main_v7_apply]
  show Ideal.ofBits .f32 0x3F000000#32 * (Ideal.ofBits .f32 0x00000000#32 + _) = _
  rw [Ideal.ofBits_zero_f32, zero_add, ← sum_scale]
  refine congrArg (fun e : EReal => Ideal.ofBits .f32 0x3F000000#32 * e) ((sum_idx1 _).trans (Finset.sum_congr rfl fun r _ => ?_))
  rw [Cert.LossRefIdeal.Read.val_main_v6_apply, Cert.LossRefIdeal.Read.val_main_v5_apply, Cert.LossRefIdeal.Read.val_main_v4_apply]
  show Ideal.div (Ideal.ofBits .f32 0x00000000#32 + _) Nw = _
  rw [Ideal.ofBits_zero_f32, zero_add, div_features]
  refine congrArg (fun e : EReal => e * Iw) (Finset.sum_congr rfl fun j _ => ?_)
  rw [Cert.LossRefIdeal.Read.val_main_v1_apply, Cert.LossRefIdeal.Read.val_main_v0_apply]
  have hi : Cert.LossRefIdeal.Read.idx_main_v4 (ix1 r) j = ix2 r j := funext fun a => match a with | ⟨0, _⟩ => rfl | ⟨1, _⟩ => rfl
  rw [hi]
  rfl

/-! ## The kernel's stored values -/

/-- The block indices of the windows at point `t`. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The accumulator is cleared to zero. -/
theorem pay_zero (j : S1x1024.Idx) : k0_pay1 (F := Ideal) j = 0 := by pointwise [k0_pay1]

/-- The scaled error of a block. -/
def err (a b : Vec Ideal S1024x1024 .f32) (y : S1024x1024.Idx) : EReal := (a y - b y) * Iw

/-- The column sums of a block's squared errors. -/
def col (a b : Vec Ideal S1024x1024 .f32) (j : S1x1024.Idx) : EReal :=
  ∑ k : Fin 1024, (a (ix2 k (j 1)) - b (ix2 k (j 1))) * (a (ix2 k (j 1)) - b (ix2 k (j 1)))

/-- The stored gradient is the scaled error. -/
theorem pay_grad (a b : Vec Ideal S1024x1024 .f32) (y : S1024x1024.Idx) : k0_pay3 a b y = err a b y := by
  unfold err
  pointwise [k0_pay3, k0_pay2]

/-- One point adds the column sums of its block's squared errors. -/
theorem pay_add (a b : Vec Ideal S1024x1024 .f32) (acc : Vec Ideal S1x1024 .f32) (j : S1x1024.Idx) :
    k0_pay4 a b acc j = acc j + col a b j := by
  unfold col
  pointwise [k0_pay4, k0_pay2]

/-- The stored loss is the halved and scaled sum of the accumulator. -/
theorem pay_loss (acc : Vec Ideal S1x1024 .f32) (y : S1x1.Idx) :
    k0_pay5 acc y = Ideal.ofBits .f32 0x3F000000#32 * (∑ j : Fin 1024, acc (ix2 0 j)) * Iw := by
  pointwise [k0_pay5]

variable (m : (ℓ : Loc nD τ sig) → Buf (Elt Ideal) ℓ) (c : Dev nD)

/-- At the last point the loss is stored from the accumulator's contents after that point. -/
theorem out_loss (t : Fin cfg0.N) (h : t.val % 8 = 7) (y : S1x1.Idx) :
    (outsAt0 m c t.val t.isLt).1 y = Ideal.ofBits .f32 0x3F000000#32 * (∑ j : Fin 1024, (outsAt0 m c t.val t.isLt).2.2 (ix2 0 j)) * Iw := by
  rw [outsAt0_C m c t (by omega) h]; frame_out; exact pay_loss _ y

/-- At every point the stored gradient is that of the point's rows. -/
theorem out_grad (t : Fin cfg0.N) (y : S1024x1024.Idx) :
    (outsAt0 m c t.val t.isLt).2.1 y = err (iblk m c 0 t) (iblk m c 1 t) y := by
  by_cases h0 : t.val % 8 = 0
  · rw [outsAt0_A m c t h0 (by omega)]; frame_out; exact pay_grad _ _ y
  · by_cases h7 : t.val % 8 = 7
    · rw [outsAt0_C m c t h0 h7]; frame_out; exact pay_grad _ _ y
    · rw [outsAt0_B m c t h0 h7]; frame_out; exact pay_grad _ _ y

/-- After the last point the accumulator holds the column sums over all points. -/
theorem acc_at (t : Fin cfg0.N) (h : t.val % 8 = 8 - 1) (j : S1x1024.Idx) :
    (outsAt0 m c t.val t.isLt).2.2 j = 0 + ∑ s : Fin 8,
      col (iblk m c 0 ⟨8 * (t.val / 8) + s.val, Pipeline.run_point_lt_of_flush t h s⟩) (iblk m c 1 ⟨8 * (t.val / 8) + s.val, Pipeline.run_point_lt_of_flush t h s⟩) j :=
  Pipeline.eq_sum_fin_of_reset_step_apply_of_flush (fun n h => (outsAt0 m c n h).2.2) 8 (fun _ => 0)
    (fun t j => col (iblk m c 0 t) (iblk m c 1 t) j)
    (fun t h j => by rw [outsAt0_A m c t h (by omega)]; frame_out; rw [pay_add, pay_zero])
    (fun t h j => by
      by_cases h7 : t.val % 8 = 7
      · rw [outsAt0_C m c t h h7]; frame_out; simp only [read_unread_whole]; rw [pay_add]
      · rw [outsAt0_B m c t h h7]; frame_out; simp only [read_unread_whole]; rw [pay_add])
    t h j

/-! ## The arrays after the run -/

/-- The gradient after the run is the reference's. -/
theorem final_grad : (dats m 0 c).arrAt 3 cfg0.N = Cert.LossRefIdeal.Read.val_main_v15 (F := Ideal) (m ((c : Thread nD τ).loc main_arg0)) (m ((c : Thread nD τ).loc main_arg1)) := by
  refine (dats m 0 c).arrAt_eq_of_covers 3 _ (by decide +kernel) fun t hf y => ?_
  blk_simp
  rw [after0_3, out_grad, grad_at]
  unfold err
  refine congrArg (fun e : EReal => e * Iw) (congrArg₂ (fun a b : EReal => a - b) ?_ ?_)
  all_goals blk_point [iblk, V, idx t]

/-- The loss after the run is the reference's. -/
theorem final_loss : (dats m 0 c).arrAt 2 cfg0.N = Cert.LossRefIdeal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  have hN : cfg0.N = 8 := N_0
  have ht := t.isLt
  rw [after0_2, out_loss m c t h7, loss_at, mul_assoc]
  refine congrArg (fun e : EReal => Ideal.ofBits .f32 0x3F000000#32 * e) (congrArg (fun e : EReal => e * Iw) ?_)
  rw [Finset.sum_comm]
  refine Finset.sum_congr rfl fun j _ => ?_
  rw [acc_at m c t h7, zero_add]
  unfold col
  refine Fin.sum_mul_add_congr fun s k hl => ?_
  unfold sq
  refine congrArg (fun e : EReal => e * e) (congrArg₂ (fun a b : EReal => a - b) ?_ ?_)
  all_goals blk_point [iblk, V, idx ⟨_, Pipeline.run_point_lt_of_flush t h7 s⟩]

/-! ## The claims -/

/-- The kernel runs and leaves its argument and the semaphores as they were. -/
theorem frame_kernel : Cert.quiescent_Loss := fun m ρ _ => Cert.Loss.Gen.frame m ρ
/-- So does its idealization. -/
theorem frame_ideal : Cert.quiescent_LossIdeal := fun m ρ _ => Cert.LossIdeal.Gen.frame m ρ
/-- So does the reference. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

open Cert.LossIdeal Cert.LossIdeal.Gen

/-- The kernel and the reference end with the same loss and the same gradient. -/
theorem value : Cert.algebraic_LossIdeal_LossRefIdeal := by
  pair_intro
  · run_from Cert.LossIdeal.Gen.run_main m g
  · refine Idealize.ShloMosaic.θ_run_mono (Cert.LossRefIdeal.Value.run (F := Ideal) m' g') ?_
    intro r hr c
    obtain ⟨h0, h1, ha⟩ := hr c
    exact ⟨h0.trans ((Cert.LossRefIdeal.Read.val_main_v9_eq (F := Ideal) _ _).trans ((congrArg₂ (Cert.LossRefIdeal.Read.val_main_v9 (F := Ideal)) (hagree c).1 (hagree c).2).trans (final_loss m c).symm)),
      h1.trans ((Cert.LossRefIdeal.Read.val_main_v15_eq (F := Ideal) _ _).trans ((congrArg₂ (Cert.LossRefIdeal.Read.val_main_v15 (F := Ideal)) (hagree c).1 (hagree c).2).trans (final_grad m c).symm)), ha⟩

end Cert.LossValue

end
-- ==== Proof.lean ====
module

public import proofs.«01_k».proof.Defs
public import proofs.«01_k».proof.Proof.ProductClaims
public import proofs.«01_k».proof.Proof.MixLnClaims
public import proofs.«01_k».proof.Proof.ForwardClaims
public import proofs.«01_k».proof.Proof.FfnDxClaims
public import proofs.«01_k».proof.Proof.Gen.Dw1
public import proofs.«01_k».proof.Proof.Gen.Dw1Ideal
public import proofs.«01_k».proof.Proof.Gen.Dw1RefIdeal
public import proofs.«01_k».proof.Proof.Gen.Dw2
public import proofs.«01_k».proof.Proof.Gen.Dw2Ideal
public import proofs.«01_k».proof.Proof.Gen.Dw2RefIdeal
public import proofs.«01_k».proof.Proof.Gen.ADx
public import proofs.«01_k».proof.Proof.Gen.ADxIdeal
public import proofs.«01_k».proof.Proof.Gen.ADxRefIdeal
public import proofs.«01_k».proof.Proof.Gen.MixLn
public import proofs.«01_k».proof.Proof.Gen.MixLnIdeal
public import proofs.«01_k».proof.Proof.Gen.MixLnRefIdeal
public import proofs.«01_k».proof.Proof.Gen.BDx
public import proofs.«01_k».proof.Proof.Gen.BDxIdeal
public import proofs.«01_k».proof.Proof.Gen.BDxRefIdeal
public import proofs.«01_k».proof.Proof.Gen.DwOut
public import proofs.«01_k».proof.Proof.Gen.DwOutIdeal
public import proofs.«01_k».proof.Proof.Gen.DwOutRefIdeal
public import proofs.«01_k».proof.Proof.Gen.ADwIn
public import proofs.«01_k».proof.Proof.Gen.ADwInIdeal
public import proofs.«01_k».proof.Proof.Gen.ADwInRefIdeal
public import proofs.«01_k».proof.Proof.Gen.BDwIn
public import proofs.«01_k».proof.Proof.Gen.BDwInIdeal
public import proofs.«01_k».proof.Proof.Gen.BDwInRefIdeal
public import proofs.«01_k».proof.Proof.Gen.FfnFwd
public import proofs.«01_k».proof.Proof.Gen.FfnFwdIdeal
public import proofs.«01_k».proof.Proof.Gen.FfnFwdRefIdeal
public import proofs.«01_k».proof.Proof.Gen.AIn
public import proofs.«01_k».proof.Proof.Gen.AInIdeal
public import proofs.«01_k».proof.Proof.Gen.AInRefIdeal
public import proofs.«01_k».proof.Proof.Gen.BIn
public import proofs.«01_k».proof.Proof.Gen.BInIdeal
public import proofs.«01_k».proof.Proof.Gen.BInRefIdeal
public import proofs.«01_k».proof.Proof.Gen.MixOut
public import proofs.«01_k».proof.Proof.Gen.MixOutIdeal
public import proofs.«01_k».proof.Proof.Gen.MixOutRefIdeal
public import proofs.«01_k».proof.Proof.Gen.FfnDx
public import proofs.«01_k».proof.Proof.Gen.FfnDxIdeal
public import proofs.«01_k».proof.Proof.Gen.FfnDxIdeal.Frame
public import proofs.«01_k».proof.Proof.Gen.FfnDxIdeal.Points
public import proofs.«01_k».proof.Proof.Gen.FfnDxIdeal.Skeleton
public import proofs.«01_k».proof.Proof.Gen.FfnDxIdeal.Launch
public import proofs.«01_k».proof.Proof.Gen.FfnDxRefIdeal
public import proofs.«01_k».proof.Proof.Gen.FfnDxRefIdeal.Read
public import proofs.«01_k».proof.Proof.OptFlatClaims
public import proofs.«01_k».proof.Proof.OptStackClaims
public import proofs.«01_k».proof.Proof.Gen.OptLn
public import proofs.«01_k».proof.Proof.Gen.OptLnIdeal
public import proofs.«01_k».proof.Proof.Gen.OptLnIdeal.Value
public import proofs.«01_k».proof.Proof.Gen.OptLnRefIdeal
public import proofs.«01_k».proof.Proof.Gen.OptFfn
public import proofs.«01_k».proof.Proof.Gen.OptFfnIdeal
public import proofs.«01_k».proof.Proof.Gen.OptFfnRefIdeal
public import proofs.«01_k».proof.Proof.Gen.OptIn
public import proofs.«01_k».proof.Proof.Gen.OptInIdeal
public import proofs.«01_k».proof.Proof.Gen.OptInRefIdeal
public import proofs.«01_k».proof.Proof.Gen.OptLb
public import proofs.«01_k».proof.Proof.Gen.OptLbIdeal
public import proofs.«01_k».proof.Proof.Gen.OptLbIdeal.Value
public import proofs.«01_k».proof.Proof.Gen.OptLbRefIdeal
public import proofs.«01_k».proof.Proof.Gen.OptOut
public import proofs.«01_k».proof.Proof.Gen.OptOutIdeal
public import proofs.«01_k».proof.Proof.Gen.OptOutRefIdeal
public import proofs.«01_k».proof.Proof.Gen.OptPw1
public import proofs.«01_k».proof.Proof.Gen.OptPw1Ideal
public import proofs.«01_k».proof.Proof.Gen.OptPw1RefIdeal
public import proofs.«01_k».proof.Proof.Gen.OptBias
public import proofs.«01_k».proof.Proof.Gen.OptBiasIdeal
public import proofs.«01_k».proof.Proof.Gen.OptBiasIdeal.Value
public import proofs.«01_k».proof.Proof.Gen.OptBiasRefIdeal
public import proofs.«01_k».proof.Proof.Gen.OptDw
public import proofs.«01_k».proof.Proof.Gen.OptDwIdeal
public import proofs.«01_k».proof.Proof.Gen.OptDwRefIdeal
public import proofs.«01_k».proof.Proof.Gen.OptVec
public import proofs.«01_k».proof.Proof.Gen.OptVecIdeal
public import proofs.«01_k».proof.Proof.Gen.OptVecIdeal.Value
public import proofs.«01_k».proof.Proof.Gen.OptVecRefIdeal
public import proofs.«01_k».proof.Proof.SumClaims
public import proofs.«01_k».proof.Proof.LossValue
public import proofs.«01_k».proof.Proof.Gen.SumSq
public import proofs.«01_k».proof.Proof.Gen.SumSqIdeal
public import proofs.«01_k».proof.Proof.Gen.SumSq.Frame
public import proofs.«01_k».proof.Proof.Gen.SumSqRefIdeal
public import proofs.«01_k».proof.Proof.Gen.SumSqRefIdeal.Read
public import proofs.«01_k».proof.Proof.Gen.SumOut
public import proofs.«01_k».proof.Proof.Gen.SumOutIdeal
public import proofs.«01_k».proof.Proof.Gen.SumOut.Frame
public import proofs.«01_k».proof.Proof.Gen.SumOutRefIdeal
public import proofs.«01_k».proof.Proof.Gen.SumOutRefIdeal.Read
public import proofs.«01_k».proof.Proof.Gen.SumPw1
public import proofs.«01_k».proof.Proof.Gen.SumPw1Ideal
public import proofs.«01_k».proof.Proof.Gen.SumPw1.Frame
public import proofs.«01_k».proof.Proof.Gen.SumPw1RefIdeal
public import proofs.«01_k».proof.Proof.Gen.SumPw1RefIdeal.Read
public import proofs.«01_k».proof.Proof.Gen.Loss
public import proofs.«01_k».proof.Proof.Gen.LossIdeal
public import proofs.«01_k».proof.Proof.Gen.Loss.Frame
public import proofs.«01_k».proof.Proof.Gen.LossRefIdeal
public import proofs.«01_k».proof.Proof.Gen.LossRefIdeal.Read
public import proofs.«01_k».proof.Proof.Gen.Pre_finite_products
public import proofs.«01_k».proof.Proof.Gen.Pre_finite_ffn_products
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Dw1.Gen.facts, Cert.Dw1Ideal.Gen.facts, Cert.Dw1RefIdeal.Gen.facts,
    Cert.Dw2.Gen.facts, Cert.Dw2Ideal.Gen.facts, Cert.Dw2RefIdeal.Gen.facts,
    Cert.ADx.Gen.facts, Cert.ADxIdeal.Gen.facts, Cert.ADxRefIdeal.Gen.facts,
    Cert.MixLn.Gen.facts, Cert.MixLnIdeal.Gen.facts, Cert.MixLnRefIdeal.Gen.facts,
    Cert.BDx.Gen.facts, Cert.BDxIdeal.Gen.facts, Cert.BDxRefIdeal.Gen.facts,
    Cert.DwOut.Gen.facts, Cert.DwOutIdeal.Gen.facts, Cert.DwOutRefIdeal.Gen.facts,
    Cert.ADwIn.Gen.facts, Cert.ADwInIdeal.Gen.facts, Cert.ADwInRefIdeal.Gen.facts,
    Cert.BDwIn.Gen.facts, Cert.BDwInIdeal.Gen.facts, Cert.BDwInRefIdeal.Gen.facts,
    Cert.FfnFwd.Gen.facts, Cert.FfnFwdIdeal.Gen.facts, Cert.FfnFwdRefIdeal.Gen.facts,
    Cert.AIn.Gen.facts, Cert.AInIdeal.Gen.facts, Cert.AInRefIdeal.Gen.facts,
    Cert.BIn.Gen.facts, Cert.BInIdeal.Gen.facts, Cert.BInRefIdeal.Gen.facts,
    Cert.MixOut.Gen.facts, Cert.MixOutIdeal.Gen.facts, Cert.MixOutRefIdeal.Gen.facts,
    Cert.FfnDx.Gen.facts, Cert.FfnDxIdeal.Gen.facts, Cert.FfnDxRefIdeal.Gen.facts,
    Cert.OptLn.Gen.facts, Cert.OptLnIdeal.Gen.facts, Cert.OptLnRefIdeal.Gen.facts,
    Cert.OptFfn.Gen.facts, Cert.OptFfnIdeal.Gen.facts, Cert.OptFfnRefIdeal.Gen.facts,
    Cert.OptIn.Gen.facts, Cert.OptInIdeal.Gen.facts, Cert.OptInRefIdeal.Gen.facts,
    Cert.OptLb.Gen.facts, Cert.OptLbIdeal.Gen.facts, Cert.OptLbRefIdeal.Gen.facts,
    Cert.OptOut.Gen.facts, Cert.OptOutIdeal.Gen.facts, Cert.OptOutRefIdeal.Gen.facts,
    Cert.OptPw1.Gen.facts, Cert.OptPw1Ideal.Gen.facts, Cert.OptPw1RefIdeal.Gen.facts,
    Cert.OptBias.Gen.facts, Cert.OptBiasIdeal.Gen.facts, Cert.OptBiasRefIdeal.Gen.facts,
    Cert.OptDw.Gen.facts, Cert.OptDwIdeal.Gen.facts, Cert.OptDwRefIdeal.Gen.facts,
    Cert.OptVec.Gen.facts, Cert.OptVecIdeal.Gen.facts, Cert.OptVecRefIdeal.Gen.facts,
    Cert.SumSq.Gen.facts, Cert.SumSqIdeal.Gen.facts, Cert.SumSqRefIdeal.Gen.facts,
    Cert.SumOut.Gen.facts, Cert.SumOutIdeal.Gen.facts, Cert.SumOutRefIdeal.Gen.facts,
    Cert.SumPw1.Gen.facts, Cert.SumPw1Ideal.Gen.facts, Cert.SumPw1RefIdeal.Gen.facts,
    Cert.Loss.Gen.facts, Cert.LossIdeal.Gen.facts, Cert.LossRefIdeal.Gen.facts,
    Cert.Pre_finite_products.Gen.facts, Cert.Pre_finite_ffn_products.Gen.facts,
    Dw1Claims.frame_kernel, Dw1Claims.frame_ideal, Dw1Claims.frame_ref,
    Dw2Claims.frame_kernel, Dw2Claims.frame_ideal, Dw2Claims.frame_ref,
    ADxClaims.frame_kernel, ADxClaims.frame_ideal, ADxClaims.frame_ref,
    MixLnClaims.frame_kernel, MixLnClaims.frame_ideal, MixLnClaims.frame_ideal_pre, MixLnClaims.frame_ref, MixLnClaims.frame_ref_pre,
    BDxClaims.frame_kernel, BDxClaims.frame_ideal, BDxClaims.frame_ref,
    DwOutClaims.frame_kernel, DwOutClaims.frame_ideal, DwOutClaims.frame_ref,
    ADwInClaims.frame_kernel, ADwInClaims.frame_ideal, ADwInClaims.frame_ref,
    BDwInClaims.frame_kernel, BDwInClaims.frame_ideal, BDwInClaims.frame_ref,
    FfnFwdClaims.frame_kernel, FfnFwdClaims.frame_ideal, FfnFwdClaims.frame_ref,
    AInClaims.frame_kernel, AInClaims.frame_ideal, AInClaims.frame_ref,
    BInClaims.frame_kernel, BInClaims.frame_ideal, BInClaims.frame_ref,
    MixOutClaims.frame_kernel, MixOutClaims.frame_ideal, MixOutClaims.frame_ref,
    FfnDxClaims.frame_kernel, FfnDxClaims.frame_ideal, FfnDxClaims.frame_ideal_pre, FfnDxClaims.frame_ref, FfnDxClaims.frame_ref_pre,
    OptLnClaims.frame_kernel, OptLnClaims.frame_ideal, OptLnClaims.frame_ref,
    OptFfnClaims.frame_kernel, OptFfnClaims.frame_ideal, OptFfnClaims.frame_ref,
    OptInClaims.frame_kernel, OptInClaims.frame_ideal, OptInClaims.frame_ref,
    OptLbClaims.frame_kernel, OptLbClaims.frame_ideal, OptLbClaims.frame_ref,
    OptOutClaims.frame_kernel, OptOutClaims.frame_ideal, OptOutClaims.frame_ref,
    OptPw1Claims.frame_kernel, OptPw1Claims.frame_ideal, OptPw1Claims.frame_ref,
    OptBiasClaims.frame_kernel, OptBiasClaims.frame_ideal, OptBiasClaims.frame_ref,
    OptDwClaims.frame_kernel, OptDwClaims.frame_ideal, OptDwClaims.frame_ref,
    OptVecClaims.frame_kernel, OptVecClaims.frame_ideal, OptVecClaims.frame_ref,
    SumSqClaims.frame_kernel, SumSqClaims.frame_ideal, SumSqClaims.frame_ref,
    SumOutClaims.frame_kernel, SumOutClaims.frame_ideal, SumOutClaims.frame_ref,
    SumPw1Claims.frame_kernel, SumPw1Claims.frame_ideal, SumPw1Claims.frame_ref,
    LossValue.frame_kernel, LossValue.frame_ideal, LossValue.frame_ref,
    trivial, Dw1Claims.value, trivial, Dw2Claims.value, trivial, ADxClaims.value, trivial, MixLnClaims.value, trivial, BDxClaims.value, trivial, DwOutClaims.value, trivial, ADwInClaims.value, trivial, BDwInClaims.value,
    trivial, FfnFwdClaims.value, trivial, AInClaims.value, trivial, BInClaims.value, trivial, MixOutClaims.value, trivial, FfnDxClaims.value,
    trivial, OptLnClaims.value, trivial, OptFfnClaims.value, trivial, OptInClaims.value, trivial, OptLbClaims.value, trivial, OptOutClaims.value, trivial, OptPw1Claims.value, trivial, OptBiasClaims.value, trivial, OptDwClaims.value, trivial, OptVecClaims.value,
    trivial, SumSqClaims.value, trivial, SumOutClaims.value, trivial, SumPw1Claims.value, trivial, LossValue.value⟩

end Cert.Proof

end
